-- ==== Defs.lean ====
def Pre_KernelRP (m : (ℓ : Loc Cert.KernelRP.nD Cert.KernelRP.τ Cert.KernelRP.sig) → Buf (Elt Bits) ℓ) : Prop :=
  True

def Pre_KernelRPIdeal (m : (ℓ : Loc Cert.KernelRPIdeal.nD Cert.KernelRPIdeal.τ Cert.KernelRPIdeal.sig) → Buf (Elt Ideal) ℓ) : Prop :=
  True

def Pre_ReferenceRPIdeal (m : (ℓ : Loc Cert.ReferenceRPIdeal.nD Cert.ReferenceRPIdeal.τ Cert.ReferenceRPIdeal.sig) → Buf (Elt Ideal) ℓ) : Prop :=
  True

def Pre_KernelIP (m : (ℓ : Loc Cert.KernelIP.nD Cert.KernelIP.τ Cert.KernelIP.sig) → Buf (Elt Bits) ℓ) : Prop :=
  True

def Pre_KernelIPIdeal (m : (ℓ : Loc Cert.KernelIPIdeal.nD Cert.KernelIPIdeal.τ Cert.KernelIPIdeal.sig) → Buf (Elt Ideal) ℓ) : Prop :=
  True

def Pre_ReferenceIPIdeal (m : (ℓ : Loc Cert.ReferenceIPIdeal.nD Cert.ReferenceIPIdeal.τ Cert.ReferenceIPIdeal.sig) → Buf (Elt Ideal) ℓ) : Prop :=
  True

def Pre_KernelSG (m : (ℓ : Loc Cert.KernelSG.nD Cert.KernelSG.τ Cert.KernelSG.sig) → Buf (Elt Bits) ℓ) : Prop :=
  True

def Pre_KernelSGIdeal (m : (ℓ : Loc Cert.KernelSGIdeal.nD Cert.KernelSGIdeal.τ Cert.KernelSGIdeal.sig) → Buf (Elt Ideal) ℓ) : Prop :=
  True

def Pre_ReferenceSGIdeal (m : (ℓ : Loc Cert.ReferenceSGIdeal.nD Cert.ReferenceSGIdeal.τ Cert.ReferenceSGIdeal.sig) → Buf (Elt Ideal) ℓ) : Prop :=
  True

def Pre_KernelCA (m : (ℓ : Loc Cert.KernelCA.nD Cert.KernelCA.τ Cert.KernelCA.sig) → Buf (Elt Bits) ℓ) : Prop :=
  True

def Pre_KernelCAIdeal (m : (ℓ : Loc Cert.KernelCAIdeal.nD Cert.KernelCAIdeal.τ Cert.KernelCAIdeal.sig) → Buf (Elt Ideal) ℓ) : Prop :=
  True

def Pre_KernelCAIdeal_finite_memory [hPre_finite_memory : Cert.Pre_finite_memory.Facts] (m : (ℓ : Loc Cert.KernelCAIdeal.nD Cert.KernelCAIdeal.τ Cert.KernelCAIdeal.sig) → Buf (Elt Ideal) ℓ) : Prop :=
  ∀ c : Dev Cert.KernelCAIdeal.nD,
    (Cert.Pre_finite_memory.fn (F := Ideal) (m ((c.tc : Thread Cert.KernelCAIdeal.nD Cert.KernelCAIdeal.τ).loc Cert.KernelCAIdeal.main_arg0)) (m ((c.tc : Thread Cert.KernelCAIdeal.nD Cert.KernelCAIdeal.τ).loc Cert.KernelCAIdeal.main_arg1))).1 = (fun _ => 1#1)
    ∧ (Cert.Pre_finite_memory.fn (F := Ideal) (m ((c.tc : Thread Cert.KernelCAIdeal.nD Cert.KernelCAIdeal.τ).loc Cert.KernelCAIdeal.main_arg0)) (m ((c.tc : Thread Cert.KernelCAIdeal.nD Cert.KernelCAIdeal.τ).loc Cert.KernelCAIdeal.main_arg1))).2 = (fun _ => 1#1)

def Pre_ReferenceCAIdeal (m : (ℓ : Loc Cert.ReferenceCAIdeal.nD Cert.ReferenceCAIdeal.τ Cert.ReferenceCAIdeal.sig) → Buf (Elt Ideal) ℓ) : Prop :=
  True

def Pre_ReferenceCAIdeal_finite_memory [hPre_finite_memory : Cert.Pre_finite_memory.Facts] (m : (ℓ : Loc Cert.ReferenceCAIdeal.nD Cert.ReferenceCAIdeal.τ Cert.ReferenceCAIdeal.sig) → Buf (Elt Ideal) ℓ) : Prop :=
  ∀ c : Dev Cert.ReferenceCAIdeal.nD,
    (Cert.Pre_finite_memory.fn (F := Ideal) (m ((c.tc : Thread Cert.ReferenceCAIdeal.nD Cert.ReferenceCAIdeal.τ).loc Cert.ReferenceCAIdeal.main_arg0)) (m ((c.tc : Thread Cert.ReferenceCAIdeal.nD Cert.ReferenceCAIdeal.τ).loc Cert.ReferenceCAIdeal.main_arg1))).1 = (fun _ => 1#1)
    ∧ (Cert.Pre_finite_memory.fn (F := Ideal) (m ((c.tc : Thread Cert.ReferenceCAIdeal.nD Cert.ReferenceCAIdeal.τ).loc Cert.ReferenceCAIdeal.main_arg0)) (m ((c.tc : Thread Cert.ReferenceCAIdeal.nD Cert.ReferenceCAIdeal.τ).loc Cert.ReferenceCAIdeal.main_arg1))).2 = (fun _ => 1#1)

def Pre_KernelRM (m : (ℓ : Loc Cert.KernelRM.nD Cert.KernelRM.τ Cert.KernelRM.sig) → Buf (Elt Bits) ℓ) : Prop :=
  True

def Pre_KernelRMIdeal (m : (ℓ : Loc Cert.KernelRMIdeal.nD Cert.KernelRMIdeal.τ Cert.KernelRMIdeal.sig) → Buf (Elt Ideal) ℓ) : Prop :=
  True

def Pre_ReferenceRMIdeal (m : (ℓ : Loc Cert.ReferenceRMIdeal.nD Cert.ReferenceRMIdeal.τ Cert.ReferenceRMIdeal.sig) → Buf (Elt Ideal) ℓ) : Prop :=
  True

def Pre_KernelAT (m : (ℓ : Loc Cert.KernelAT.nD Cert.KernelAT.τ Cert.KernelAT.sig) → Buf (Elt Bits) ℓ) : Prop :=
  True

def Pre_KernelATIdeal (m : (ℓ : Loc Cert.KernelATIdeal.nD Cert.KernelATIdeal.τ Cert.KernelATIdeal.sig) → Buf (Elt Ideal) ℓ) : Prop :=
  True

def Pre_KernelATIdeal_finite_scores [hPre_finite_scores : Cert.Pre_finite_scores.Facts] (m : (ℓ : Loc Cert.KernelATIdeal.nD Cert.KernelATIdeal.τ Cert.KernelATIdeal.sig) → Buf (Elt Ideal) ℓ) : Prop :=
  ∀ c : Dev Cert.KernelATIdeal.nD,
    (Cert.Pre_finite_scores.fn (F := Ideal) (m ((c.tc : Thread Cert.KernelATIdeal.nD Cert.KernelATIdeal.τ).loc Cert.KernelATIdeal.main_arg0)) (m ((c.tc : Thread Cert.KernelATIdeal.nD Cert.KernelATIdeal.τ).loc Cert.KernelATIdeal.main_arg1)) (m ((c.tc : Thread Cert.KernelATIdeal.nD Cert.KernelATIdeal.τ).loc Cert.KernelATIdeal.main_arg2)) (m ((c.tc : Thread Cert.KernelATIdeal.nD Cert.KernelATIdeal.τ).loc Cert.KernelATIdeal.main_arg3)) (m ((c.tc : Thread Cert.KernelATIdeal.nD Cert.KernelATIdeal.τ).loc Cert.KernelATIdeal.main_arg4)) (m ((c.tc : Thread Cert.KernelATIdeal.nD Cert.KernelATIdeal.τ).loc Cert.KernelATIdeal.main_arg5)) (m ((c.tc : Thread Cert.KernelATIdeal.nD Cert.KernelATIdeal.τ).loc Cert.KernelATIdeal.main_arg6)) (m ((c.tc : Thread Cert.KernelATIdeal.nD Cert.KernelATIdeal.τ).loc Cert.KernelATIdeal.main_arg7))).1 = (fun _ => 1#1)
    ∧ (Cert.Pre_finite_scores.fn (F := Ideal) (m ((c.tc : Thread Cert.KernelATIdeal.nD Cert.KernelATIdeal.τ).loc Cert.KernelATIdeal.main_arg0)) (m ((c.tc : Thread Cert.KernelATIdeal.nD Cert.KernelATIdeal.τ).loc Cert.KernelATIdeal.main_arg1)) (m ((c.tc : Thread Cert.KernelATIdeal.nD Cert.KernelATIdeal.τ).loc Cert.KernelATIdeal.main_arg2)) (m ((c.tc : Thread Cert.KernelATIdeal.nD Cert.KernelATIdeal.τ).loc Cert.KernelATIdeal.main_arg3)) (m ((c.tc : Thread Cert.KernelATIdeal.nD Cert.KernelATIdeal.τ).loc Cert.KernelATIdeal.main_arg4)) (m ((c.tc : Thread Cert.KernelATIdeal.nD Cert.KernelATIdeal.τ).loc Cert.KernelATIdeal.main_arg5)) (m ((c.tc : Thread Cert.KernelATIdeal.nD Cert.KernelATIdeal.τ).loc Cert.KernelATIdeal.main_arg6)) (m ((c.tc : Thread Cert.KernelATIdeal.nD Cert.KernelATIdeal.τ).loc Cert.KernelATIdeal.main_arg7))).2 = (fun _ => 1#1)

def Pre_ReferenceATIdeal (m : (ℓ : Loc Cert.ReferenceATIdeal.nD Cert.ReferenceATIdeal.τ Cert.ReferenceATIdeal.sig) → Buf (Elt Ideal) ℓ) : Prop :=
  True

def Pre_ReferenceATIdeal_finite_scores [hPre_finite_scores : Cert.Pre_finite_scores.Facts] (m : (ℓ : Loc Cert.ReferenceATIdeal.nD Cert.ReferenceATIdeal.τ Cert.ReferenceATIdeal.sig) → Buf (Elt Ideal) ℓ) : Prop :=
  ∀ c : Dev Cert.ReferenceATIdeal.nD,
    (Cert.Pre_finite_scores.fn (F := Ideal) (m ((c.tc : Thread Cert.ReferenceATIdeal.nD Cert.ReferenceATIdeal.τ).loc Cert.ReferenceATIdeal.main_arg0)) (m ((c.tc : Thread Cert.ReferenceATIdeal.nD Cert.ReferenceATIdeal.τ).loc Cert.ReferenceATIdeal.main_arg1)) (m ((c.tc : Thread Cert.ReferenceATIdeal.nD Cert.ReferenceATIdeal.τ).loc Cert.ReferenceATIdeal.main_arg2)) (m ((c.tc : Thread Cert.ReferenceATIdeal.nD Cert.ReferenceATIdeal.τ).loc Cert.ReferenceATIdeal.main_arg3)) (m ((c.tc : Thread Cert.ReferenceATIdeal.nD Cert.ReferenceATIdeal.τ).loc Cert.ReferenceATIdeal.main_arg4)) (m ((c.tc : Thread Cert.ReferenceATIdeal.nD Cert.ReferenceATIdeal.τ).loc Cert.ReferenceATIdeal.main_arg5)) (m ((c.tc : Thread Cert.ReferenceATIdeal.nD Cert.ReferenceATIdeal.τ).loc Cert.ReferenceATIdeal.main_arg6)) (m ((c.tc : Thread Cert.ReferenceATIdeal.nD Cert.ReferenceATIdeal.τ).loc Cert.ReferenceATIdeal.main_arg7))).1 = (fun _ => 1#1)
    ∧ (Cert.Pre_finite_scores.fn (F := Ideal) (m ((c.tc : Thread Cert.ReferenceATIdeal.nD Cert.ReferenceATIdeal.τ).loc Cert.ReferenceATIdeal.main_arg0)) (m ((c.tc : Thread Cert.ReferenceATIdeal.nD Cert.ReferenceATIdeal.τ).loc Cert.ReferenceATIdeal.main_arg1)) (m ((c.tc : Thread Cert.ReferenceATIdeal.nD Cert.ReferenceATIdeal.τ).loc Cert.ReferenceATIdeal.main_arg2)) (m ((c.tc : Thread Cert.ReferenceATIdeal.nD Cert.ReferenceATIdeal.τ).loc Cert.ReferenceATIdeal.main_arg3)) (m ((c.tc : Thread Cert.ReferenceATIdeal.nD Cert.ReferenceATIdeal.τ).loc Cert.ReferenceATIdeal.main_arg4)) (m ((c.tc : Thread Cert.ReferenceATIdeal.nD Cert.ReferenceATIdeal.τ).loc Cert.ReferenceATIdeal.main_arg5)) (m ((c.tc : Thread Cert.ReferenceATIdeal.nD Cert.ReferenceATIdeal.τ).loc Cert.ReferenceATIdeal.main_arg6)) (m ((c.tc : Thread Cert.ReferenceATIdeal.nD Cert.ReferenceATIdeal.τ).loc Cert.ReferenceATIdeal.main_arg7))).2 = (fun _ => 1#1)

def quiescent_KernelRP [hKernelRP : Cert.KernelRP.Facts] : Prop :=
  ∀ (m : (ℓ : Loc Cert.KernelRP.nD Cert.KernelRP.τ Cert.KernelRP.sig) → Buf (Elt Bits) ℓ) (g : Dev Cert.KernelRP.nD → PrngReg), Pre_KernelRP m →
    θ_run (Cert.KernelRP.defs (F := Bits)) (onTc (τ := Cert.KernelRP.τ) (Cert.KernelRP.main (F := Bits))) ⟨m, fun _ => 0, g⟩ (fun r => (∀ c : Dev Cert.KernelRP.nD,
      r.2.mem ((c.tc : Thread Cert.KernelRP.nD Cert.KernelRP.τ).loc Cert.KernelRP.main_arg0) = m ((c.tc : Thread Cert.KernelRP.nD Cert.KernelRP.τ).loc Cert.KernelRP.main_arg0)
      ∧ r.2.mem ((c.tc : Thread Cert.KernelRP.nD Cert.KernelRP.τ).loc Cert.KernelRP.main_arg1) = m ((c.tc : Thread Cert.KernelRP.nD Cert.KernelRP.τ).loc Cert.KernelRP.main_arg1)
      ∧ r.2.mem ((c.tc : Thread Cert.KernelRP.nD Cert.KernelRP.τ).loc Cert.KernelRP.main_arg2) = m ((c.tc : Thread Cert.KernelRP.nD Cert.KernelRP.τ).loc Cert.KernelRP.main_arg2)
      ∧ r.2.mem ((c.tc : Thread Cert.KernelRP.nD Cert.KernelRP.τ).loc Cert.KernelRP.main_arg3) = m ((c.tc : Thread Cert.KernelRP.nD Cert.KernelRP.τ).loc Cert.KernelRP.main_arg3)
      ∧ r.2.mem ((c.tc : Thread Cert.KernelRP.nD Cert.KernelRP.τ).loc Cert.KernelRP.main_arg4) = m ((c.tc : Thread Cert.KernelRP.nD Cert.KernelRP.τ).loc Cert.KernelRP.main_arg4))
      ∧ r.2.sem = fun _ => 0)

def quiescent_KernelRPIdeal [hKernelRPIdeal : Cert.KernelRPIdeal.Facts] : Prop :=
  ∀ (m : (ℓ : Loc Cert.KernelRPIdeal.nD Cert.KernelRPIdeal.τ Cert.KernelRPIdeal.sig) → Buf (Elt Ideal) ℓ) (g : Dev Cert.KernelRPIdeal.nD → PrngReg), Pre_KernelRPIdeal m →
    θ_run (Cert.KernelRPIdeal.defs (F := Ideal)) (onTc (τ := Cert.KernelRPIdeal.τ) (Cert.KernelRPIdeal.main (F := Ideal))) ⟨m, fun _ => 0, g⟩ (fun r => (∀ c : Dev Cert.KernelRPIdeal.nD,
      r.2.mem ((c.tc : Thread Cert.KernelRPIdeal.nD Cert.KernelRPIdeal.τ).loc Cert.KernelRPIdeal.main_arg0) = m ((c.tc : Thread Cert.KernelRPIdeal.nD Cert.KernelRPIdeal.τ).loc Cert.KernelRPIdeal.main_arg0)
      ∧ r.2.mem ((c.tc : Thread Cert.KernelRPIdeal.nD Cert.KernelRPIdeal.τ).loc Cert.KernelRPIdeal.main_arg1) = m ((c.tc : Thread Cert.KernelRPIdeal.nD Cert.KernelRPIdeal.τ).loc Cert.KernelRPIdeal.main_arg1)
      ∧ r.2.mem ((c.tc : Thread Cert.KernelRPIdeal.nD Cert.KernelRPIdeal.τ).loc Cert.KernelRPIdeal.main_arg2) = m ((c.tc : Thread Cert.KernelRPIdeal.nD Cert.KernelRPIdeal.τ).loc Cert.KernelRPIdeal.main_arg2)
      ∧ r.2.mem ((c.tc : Thread Cert.KernelRPIdeal.nD Cert.KernelRPIdeal.τ).loc Cert.KernelRPIdeal.main_arg3) = m ((c.tc : Thread Cert.KernelRPIdeal.nD Cert.KernelRPIdeal.τ).loc Cert.KernelRPIdeal.main_arg3)
      ∧ r.2.mem ((c.tc : Thread Cert.KernelRPIdeal.nD Cert.KernelRPIdeal.τ).loc Cert.KernelRPIdeal.main_arg4) = m ((c.tc : Thread Cert.KernelRPIdeal.nD Cert.KernelRPIdeal.τ).loc Cert.KernelRPIdeal.main_arg4))
      ∧ r.2.sem = fun _ => 0)

def quiescent_ReferenceRPIdeal [hReferenceRPIdeal : Cert.ReferenceRPIdeal.Facts] : Prop :=
  ∀ (m : (ℓ : Loc Cert.ReferenceRPIdeal.nD Cert.ReferenceRPIdeal.τ Cert.ReferenceRPIdeal.sig) → Buf (Elt Ideal) ℓ) (g : Dev Cert.ReferenceRPIdeal.nD → PrngReg), Pre_ReferenceRPIdeal m →
    θ_run (Cert.ReferenceRPIdeal.defs (F := Ideal)) (onTc (τ := Cert.ReferenceRPIdeal.τ) (Cert.ReferenceRPIdeal.main (F := Ideal))) ⟨m, fun _ => 0, g⟩ (fun r => (∀ c : Dev Cert.ReferenceRPIdeal.nD,
      r.2.mem ((c.tc : Thread Cert.ReferenceRPIdeal.nD Cert.ReferenceRPIdeal.τ).loc Cert.ReferenceRPIdeal.main_arg0) = m ((c.tc : Thread Cert.ReferenceRPIdeal.nD Cert.ReferenceRPIdeal.τ).loc Cert.ReferenceRPIdeal.main_arg0)
      ∧ r.2.mem ((c.tc : Thread Cert.ReferenceRPIdeal.nD Cert.ReferenceRPIdeal.τ).loc Cert.ReferenceRPIdeal.main_arg1) = m ((c.tc : Thread Cert.ReferenceRPIdeal.nD Cert.ReferenceRPIdeal.τ).loc Cert.ReferenceRPIdeal.main_arg1)
      ∧ r.2.mem ((c.tc : Thread Cert.ReferenceRPIdeal.nD Cert.ReferenceRPIdeal.τ).loc Cert.ReferenceRPIdeal.main_arg2) = m ((c.tc : Thread Cert.ReferenceRPIdeal.nD Cert.ReferenceRPIdeal.τ).loc Cert.ReferenceRPIdeal.main_arg2)
      ∧ r.2.mem ((c.tc : Thread Cert.ReferenceRPIdeal.nD Cert.ReferenceRPIdeal.τ).loc Cert.ReferenceRPIdeal.main_arg3) = m ((c.tc : Thread Cert.ReferenceRPIdeal.nD Cert.ReferenceRPIdeal.τ).loc Cert.ReferenceRPIdeal.main_arg3)
      ∧ r.2.mem ((c.tc : Thread Cert.ReferenceRPIdeal.nD Cert.ReferenceRPIdeal.τ).loc Cert.ReferenceRPIdeal.main_arg4) = m ((c.tc : Thread Cert.ReferenceRPIdeal.nD Cert.ReferenceRPIdeal.τ).loc Cert.ReferenceRPIdeal.main_arg4))
      ∧ r.2.sem = fun _ => 0)

def quiescent_KernelIP [hKernelIP : Cert.KernelIP.Facts] : Prop :=
  ∀ (m : (ℓ : Loc Cert.KernelIP.nD Cert.KernelIP.τ Cert.KernelIP.sig) → Buf (Elt Bits) ℓ) (g : Dev Cert.KernelIP.nD → PrngReg), Pre_KernelIP m →
    θ_run (Cert.KernelIP.defs (F := Bits)) (onTc (τ := Cert.KernelIP.τ) (Cert.KernelIP.main (F := Bits))) ⟨m, fun _ => 0, g⟩ (fun r => (∀ c : Dev Cert.KernelIP.nD,
      r.2.mem ((c.tc : Thread Cert.KernelIP.nD Cert.KernelIP.τ).loc Cert.KernelIP.main_arg0) = m ((c.tc : Thread Cert.KernelIP.nD Cert.KernelIP.τ).loc Cert.KernelIP.main_arg0)
      ∧ r.2.mem ((c.tc : Thread Cert.KernelIP.nD Cert.KernelIP.τ).loc Cert.KernelIP.main_arg1) = m ((c.tc : Thread Cert.KernelIP.nD Cert.KernelIP.τ).loc Cert.KernelIP.main_arg1)
      ∧ r.2.mem ((c.tc : Thread Cert.KernelIP.nD Cert.KernelIP.τ).loc Cert.KernelIP.main_arg2) = m ((c.tc : Thread Cert.KernelIP.nD Cert.KernelIP.τ).loc Cert.KernelIP.main_arg2))
      ∧ r.2.sem = fun _ => 0)

def quiescent_KernelIPIdeal [hKernelIPIdeal : Cert.KernelIPIdeal.Facts] : Prop :=
  ∀ (m : (ℓ : Loc Cert.KernelIPIdeal.nD Cert.KernelIPIdeal.τ Cert.KernelIPIdeal.sig) → Buf (Elt Ideal) ℓ) (g : Dev Cert.KernelIPIdeal.nD → PrngReg), Pre_KernelIPIdeal m →
    θ_run (Cert.KernelIPIdeal.defs (F := Ideal)) (onTc (τ := Cert.KernelIPIdeal.τ) (Cert.KernelIPIdeal.main (F := Ideal))) ⟨m, fun _ => 0, g⟩ (fun r => (∀ c : Dev Cert.KernelIPIdeal.nD,
      r.2.mem ((c.tc : Thread Cert.KernelIPIdeal.nD Cert.KernelIPIdeal.τ).loc Cert.KernelIPIdeal.main_arg0) = m ((c.tc : Thread Cert.KernelIPIdeal.nD Cert.KernelIPIdeal.τ).loc Cert.KernelIPIdeal.main_arg0)
      ∧ r.2.mem ((c.tc : Thread Cert.KernelIPIdeal.nD Cert.KernelIPIdeal.τ).loc Cert.KernelIPIdeal.main_arg1) = m ((c.tc : Thread Cert.KernelIPIdeal.nD Cert.KernelIPIdeal.τ).loc Cert.KernelIPIdeal.main_arg1)
      ∧ r.2.mem ((c.tc : Thread Cert.KernelIPIdeal.nD Cert.KernelIPIdeal.τ).loc Cert.KernelIPIdeal.main_arg2) = m ((c.tc : Thread Cert.KernelIPIdeal.nD Cert.KernelIPIdeal.τ).loc Cert.KernelIPIdeal.main_arg2))
      ∧ r.2.sem = fun _ => 0)

def quiescent_ReferenceIPIdeal [hReferenceIPIdeal : Cert.ReferenceIPIdeal.Facts] : Prop :=
  ∀ (m : (ℓ : Loc Cert.ReferenceIPIdeal.nD Cert.ReferenceIPIdeal.τ Cert.ReferenceIPIdeal.sig) → Buf (Elt Ideal) ℓ) (g : Dev Cert.ReferenceIPIdeal.nD → PrngReg), Pre_ReferenceIPIdeal m →
    θ_run (Cert.ReferenceIPIdeal.defs (F := Ideal)) (onTc (τ := Cert.ReferenceIPIdeal.τ) (Cert.ReferenceIPIdeal.main (F := Ideal))) ⟨m, fun _ => 0, g⟩ (fun r => (∀ c : Dev Cert.ReferenceIPIdeal.nD,
      r.2.mem ((c.tc : Thread Cert.ReferenceIPIdeal.nD Cert.ReferenceIPIdeal.τ).loc Cert.ReferenceIPIdeal.main_arg0) = m ((c.tc : Thread Cert.ReferenceIPIdeal.nD Cert.ReferenceIPIdeal.τ).loc Cert.ReferenceIPIdeal.main_arg0)
      ∧ r.2.mem ((c.tc : Thread Cert.ReferenceIPIdeal.nD Cert.ReferenceIPIdeal.τ).loc Cert.ReferenceIPIdeal.main_arg1) = m ((c.tc : Thread Cert.ReferenceIPIdeal.nD Cert.ReferenceIPIdeal.τ).loc Cert.ReferenceIPIdeal.main_arg1)
      ∧ r.2.mem ((c.tc : Thread Cert.ReferenceIPIdeal.nD Cert.ReferenceIPIdeal.τ).loc Cert.ReferenceIPIdeal.main_arg2) = m ((c.tc : Thread Cert.ReferenceIPIdeal.nD Cert.ReferenceIPIdeal.τ).loc Cert.ReferenceIPIdeal.main_arg2))
      ∧ r.2.sem = fun _ => 0)

def quiescent_KernelSG [hKernelSG : Cert.KernelSG.Facts] : Prop :=
  ∀ (m : (ℓ : Loc Cert.KernelSG.nD Cert.KernelSG.τ Cert.KernelSG.sig) → Buf (Elt Bits) ℓ) (g : Dev Cert.KernelSG.nD → PrngReg), Pre_KernelSG m →
    θ_run (Cert.KernelSG.defs (F := Bits)) (onTc (τ := Cert.KernelSG.τ) (Cert.KernelSG.main (F := Bits))) ⟨m, fun _ => 0, g⟩ (fun r => (∀ c : Dev Cert.KernelSG.nD,
      r.2.mem ((c.tc : Thread Cert.KernelSG.nD Cert.KernelSG.τ).loc Cert.KernelSG.main_arg0) = m ((c.tc : Thread Cert.KernelSG.nD Cert.KernelSG.τ).loc Cert.KernelSG.main_arg0)
      ∧ r.2.mem ((c.tc : Thread Cert.KernelSG.nD Cert.KernelSG.τ).loc Cert.KernelSG.main_arg1) = m ((c.tc : Thread Cert.KernelSG.nD Cert.KernelSG.τ).loc Cert.KernelSG.main_arg1)
      ∧ r.2.mem ((c.tc : Thread Cert.KernelSG.nD Cert.KernelSG.τ).loc Cert.KernelSG.main_arg2) = m ((c.tc : Thread Cert.KernelSG.nD Cert.KernelSG.τ).loc Cert.KernelSG.main_arg2)
      ∧ r.2.mem ((c.tc : Thread Cert.KernelSG.nD Cert.KernelSG.τ).loc Cert.KernelSG.main_arg3) = m ((c.tc : Thread Cert.KernelSG.nD Cert.KernelSG.τ).loc Cert.KernelSG.main_arg3)
      ∧ r.2.mem ((c.tc : Thread Cert.KernelSG.nD Cert.KernelSG.τ).loc Cert.KernelSG.main_arg4) = m ((c.tc : Thread Cert.KernelSG.nD Cert.KernelSG.τ).loc Cert.KernelSG.main_arg4)
      ∧ r.2.mem ((c.tc : Thread Cert.KernelSG.nD Cert.KernelSG.τ).loc Cert.KernelSG.main_arg5) = m ((c.tc : Thread Cert.KernelSG.nD Cert.KernelSG.τ).loc Cert.KernelSG.main_arg5)
      ∧ r.2.mem ((c.tc : Thread Cert.KernelSG.nD Cert.KernelSG.τ).loc Cert.KernelSG.main_arg6) = m ((c.tc : Thread Cert.KernelSG.nD Cert.KernelSG.τ).loc Cert.KernelSG.main_arg6)
      ∧ r.2.mem ((c.tc : Thread Cert.KernelSG.nD Cert.KernelSG.τ).loc Cert.KernelSG.main_arg7) = m ((c.tc : Thread Cert.KernelSG.nD Cert.KernelSG.τ).loc Cert.KernelSG.main_arg7)
      ∧ r.2.mem ((c.tc : Thread Cert.KernelSG.nD Cert.KernelSG.τ).loc Cert.KernelSG.main_arg8) = m ((c.tc : Thread Cert.KernelSG.nD Cert.KernelSG.τ).loc Cert.KernelSG.main_arg8))
      ∧ r.2.sem = fun _ => 0)

def quiescent_KernelSGIdeal [hKernelSGIdeal : Cert.KernelSGIdeal.Facts] : Prop :=
  ∀ (m : (ℓ : Loc Cert.KernelSGIdeal.nD Cert.KernelSGIdeal.τ Cert.KernelSGIdeal.sig) → Buf (Elt Ideal) ℓ) (g : Dev Cert.KernelSGIdeal.nD → PrngReg), Pre_KernelSGIdeal m →
    θ_run (Cert.KernelSGIdeal.defs (F := Ideal)) (onTc (τ := Cert.KernelSGIdeal.τ) (Cert.KernelSGIdeal.main (F := Ideal))) ⟨m, fun _ => 0, g⟩ (fun r => (∀ c : Dev Cert.KernelSGIdeal.nD,
      r.2.mem ((c.tc : Thread Cert.KernelSGIdeal.nD Cert.KernelSGIdeal.τ).loc Cert.KernelSGIdeal.main_arg0) = m ((c.tc : Thread Cert.KernelSGIdeal.nD Cert.KernelSGIdeal.τ).loc Cert.KernelSGIdeal.main_arg0)
      ∧ r.2.mem ((c.tc : Thread Cert.KernelSGIdeal.nD Cert.KernelSGIdeal.τ).loc Cert.KernelSGIdeal.main_arg1) = m ((c.tc : Thread Cert.KernelSGIdeal.nD Cert.KernelSGIdeal.τ).loc Cert.KernelSGIdeal.main_arg1)
      ∧ r.2.mem ((c.tc : Thread Cert.KernelSGIdeal.nD Cert.KernelSGIdeal.τ).loc Cert.KernelSGIdeal.main_arg2) = m ((c.tc : Thread Cert.KernelSGIdeal.nD Cert.KernelSGIdeal.τ).loc Cert.KernelSGIdeal.main_arg2)
      ∧ r.2.mem ((c.tc : Thread Cert.KernelSGIdeal.nD Cert.KernelSGIdeal.τ).loc Cert.KernelSGIdeal.main_arg3) = m ((c.tc : Thread Cert.KernelSGIdeal.nD Cert.KernelSGIdeal.τ).loc Cert.KernelSGIdeal.main_arg3)
      ∧ r.2.mem ((c.tc : Thread Cert.KernelSGIdeal.nD Cert.KernelSGIdeal.τ).loc Cert.KernelSGIdeal.main_arg4) = m ((c.tc : Thread Cert.KernelSGIdeal.nD Cert.KernelSGIdeal.τ).loc Cert.KernelSGIdeal.main_arg4)
      ∧ r.2.mem ((c.tc : Thread Cert.KernelSGIdeal.nD Cert.KernelSGIdeal.τ).loc Cert.KernelSGIdeal.main_arg5) = m ((c.tc : Thread Cert.KernelSGIdeal.nD Cert.KernelSGIdeal.τ).loc Cert.KernelSGIdeal.main_arg5)
      ∧ r.2.mem ((c.tc : Thread Cert.KernelSGIdeal.nD Cert.KernelSGIdeal.τ).loc Cert.KernelSGIdeal.main_arg6) = m ((c.tc : Thread Cert.KernelSGIdeal.nD Cert.KernelSGIdeal.τ).loc Cert.KernelSGIdeal.main_arg6)
      ∧ r.2.mem ((c.tc : Thread Cert.KernelSGIdeal.nD Cert.KernelSGIdeal.τ).loc Cert.KernelSGIdeal.main_arg7) = m ((c.tc : Thread Cert.KernelSGIdeal.nD Cert.KernelSGIdeal.τ).loc Cert.KernelSGIdeal.main_arg7)
      ∧ r.2.mem ((c.tc : Thread Cert.KernelSGIdeal.nD Cert.KernelSGIdeal.τ).loc Cert.KernelSGIdeal.main_arg8) = m ((c.tc : Thread Cert.KernelSGIdeal.nD Cert.KernelSGIdeal.τ).loc Cert.KernelSGIdeal.main_arg8))
      ∧ r.2.sem = fun _ => 0)

def quiescent_ReferenceSGIdeal [hReferenceSGIdeal : Cert.ReferenceSGIdeal.Facts] : Prop :=
  ∀ (m : (ℓ : Loc Cert.ReferenceSGIdeal.nD Cert.ReferenceSGIdeal.τ Cert.ReferenceSGIdeal.sig) → Buf (Elt Ideal) ℓ) (g : Dev Cert.ReferenceSGIdeal.nD → PrngReg), Pre_ReferenceSGIdeal m →
    θ_run (Cert.ReferenceSGIdeal.defs (F := Ideal)) (onTc (τ := Cert.ReferenceSGIdeal.τ) (Cert.ReferenceSGIdeal.main (F := Ideal))) ⟨m, fun _ => 0, g⟩ (fun r => (∀ c : Dev Cert.ReferenceSGIdeal.nD,
      r.2.mem ((c.tc : Thread Cert.ReferenceSGIdeal.nD Cert.ReferenceSGIdeal.τ).loc Cert.ReferenceSGIdeal.main_arg0) = m ((c.tc : Thread Cert.ReferenceSGIdeal.nD Cert.ReferenceSGIdeal.τ).loc Cert.ReferenceSGIdeal.main_arg0)
      ∧ r.2.mem ((c.tc : Thread Cert.ReferenceSGIdeal.nD Cert.ReferenceSGIdeal.τ).loc Cert.ReferenceSGIdeal.main_arg1) = m ((c.tc : Thread Cert.ReferenceSGIdeal.nD Cert.ReferenceSGIdeal.τ).loc Cert.ReferenceSGIdeal.main_arg1)
      ∧ r.2.mem ((c.tc : Thread Cert.ReferenceSGIdeal.nD Cert.ReferenceSGIdeal.τ).loc Cert.ReferenceSGIdeal.main_arg2) = m ((c.tc : Thread Cert.ReferenceSGIdeal.nD Cert.ReferenceSGIdeal.τ).loc Cert.ReferenceSGIdeal.main_arg2)
      ∧ r.2.mem ((c.tc : Thread Cert.ReferenceSGIdeal.nD Cert.ReferenceSGIdeal.τ).loc Cert.ReferenceSGIdeal.main_arg3) = m ((c.tc : Thread Cert.ReferenceSGIdeal.nD Cert.ReferenceSGIdeal.τ).loc Cert.ReferenceSGIdeal.main_arg3)
      ∧ r.2.mem ((c.tc : Thread Cert.ReferenceSGIdeal.nD Cert.ReferenceSGIdeal.τ).loc Cert.ReferenceSGIdeal.main_arg4) = m ((c.tc : Thread Cert.ReferenceSGIdeal.nD Cert.ReferenceSGIdeal.τ).loc Cert.ReferenceSGIdeal.main_arg4)
      ∧ r.2.mem ((c.tc : Thread Cert.ReferenceSGIdeal.nD Cert.ReferenceSGIdeal.τ).loc Cert.ReferenceSGIdeal.main_arg5) = m ((c.tc : Thread Cert.ReferenceSGIdeal.nD Cert.ReferenceSGIdeal.τ).loc Cert.ReferenceSGIdeal.main_arg5)
      ∧ r.2.mem ((c.tc : Thread Cert.ReferenceSGIdeal.nD Cert.ReferenceSGIdeal.τ).loc Cert.ReferenceSGIdeal.main_arg6) = m ((c.tc : Thread Cert.ReferenceSGIdeal.nD Cert.ReferenceSGIdeal.τ).loc Cert.ReferenceSGIdeal.main_arg6)
      ∧ r.2.mem ((c.tc : Thread Cert.ReferenceSGIdeal.nD Cert.ReferenceSGIdeal.τ).loc Cert.ReferenceSGIdeal.main_arg7) = m ((c.tc : Thread Cert.ReferenceSGIdeal.nD Cert.ReferenceSGIdeal.τ).loc Cert.ReferenceSGIdeal.main_arg7)
      ∧ r.2.mem ((c.tc : Thread Cert.ReferenceSGIdeal.nD Cert.ReferenceSGIdeal.τ).loc Cert.ReferenceSGIdeal.main_arg8) = m ((c.tc : Thread Cert.ReferenceSGIdeal.nD Cert.ReferenceSGIdeal.τ).loc Cert.ReferenceSGIdeal.main_arg8))
      ∧ r.2.sem = fun _ => 0)

def quiescent_KernelCA [hKernelCA : Cert.KernelCA.Facts] : Prop :=
  ∀ (m : (ℓ : Loc Cert.KernelCA.nD Cert.KernelCA.τ Cert.KernelCA.sig) → Buf (Elt Bits) ℓ) (g : Dev Cert.KernelCA.nD → PrngReg), Pre_KernelCA m →
    θ_run (Cert.KernelCA.defs (F := Bits)) (onTc (τ := Cert.KernelCA.τ) (Cert.KernelCA.main (F := Bits))) ⟨m, fun _ => 0, g⟩ (fun r => (∀ c : Dev Cert.KernelCA.nD,
      r.2.mem ((c.tc : Thread Cert.KernelCA.nD Cert.KernelCA.τ).loc Cert.KernelCA.main_arg0) = m ((c.tc : Thread Cert.KernelCA.nD Cert.KernelCA.τ).loc Cert.KernelCA.main_arg0)
      ∧ r.2.mem ((c.tc : Thread Cert.KernelCA.nD Cert.KernelCA.τ).loc Cert.KernelCA.main_arg1) = m ((c.tc : Thread Cert.KernelCA.nD Cert.KernelCA.τ).loc Cert.KernelCA.main_arg1))
      ∧ r.2.sem = fun _ => 0)

def quiescent_KernelCAIdeal [hKernelCAIdeal : Cert.KernelCAIdeal.Facts] : Prop :=
  ∀ (m : (ℓ : Loc Cert.KernelCAIdeal.nD Cert.KernelCAIdeal.τ Cert.KernelCAIdeal.sig) → Buf (Elt Ideal) ℓ) (g : Dev Cert.KernelCAIdeal.nD → PrngReg), Pre_KernelCAIdeal m →
    θ_run (Cert.KernelCAIdeal.defs (F := Ideal)) (onTc (τ := Cert.KernelCAIdeal.τ) (Cert.KernelCAIdeal.main (F := Ideal))) ⟨m, fun _ => 0, g⟩ (fun r => (∀ c : Dev Cert.KernelCAIdeal.nD,
      r.2.mem ((c.tc : Thread Cert.KernelCAIdeal.nD Cert.KernelCAIdeal.τ).loc Cert.KernelCAIdeal.main_arg0) = m ((c.tc : Thread Cert.KernelCAIdeal.nD Cert.KernelCAIdeal.τ).loc Cert.KernelCAIdeal.main_arg0)
      ∧ r.2.mem ((c.tc : Thread Cert.KernelCAIdeal.nD Cert.KernelCAIdeal.τ).loc Cert.KernelCAIdeal.main_arg1) = m ((c.tc : Thread Cert.KernelCAIdeal.nD Cert.KernelCAIdeal.τ).loc Cert.KernelCAIdeal.main_arg1))
      ∧ r.2.sem = fun _ => 0)

def quiescent_KernelCAIdeal_pre_finite_memory [hKernelCAIdeal : Cert.KernelCAIdeal.Facts] [hPre_finite_memory : Cert.Pre_finite_memory.Facts] : Prop :=
  ∀ (m : (ℓ : Loc Cert.KernelCAIdeal.nD Cert.KernelCAIdeal.τ Cert.KernelCAIdeal.sig) → Buf (Elt Ideal) ℓ) (g : Dev Cert.KernelCAIdeal.nD → PrngReg), Pre_KernelCAIdeal_finite_memory m →
    θ_run (Cert.KernelCAIdeal.defs (F := Ideal)) (onTc (τ := Cert.KernelCAIdeal.τ) (Cert.KernelCAIdeal.main (F := Ideal))) ⟨m, fun _ => 0, g⟩ (fun r => (∀ c : Dev Cert.KernelCAIdeal.nD,
      r.2.mem ((c.tc : Thread Cert.KernelCAIdeal.nD Cert.KernelCAIdeal.τ).loc Cert.KernelCAIdeal.main_arg0) = m ((c.tc : Thread Cert.KernelCAIdeal.nD Cert.KernelCAIdeal.τ).loc Cert.KernelCAIdeal.main_arg0)
      ∧ r.2.mem ((c.tc : Thread Cert.KernelCAIdeal.nD Cert.KernelCAIdeal.τ).loc Cert.KernelCAIdeal.main_arg1) = m ((c.tc : Thread Cert.KernelCAIdeal.nD Cert.KernelCAIdeal.τ).loc Cert.KernelCAIdeal.main_arg1))
      ∧ r.2.sem = fun _ => 0)

def quiescent_ReferenceCAIdeal [hReferenceCAIdeal : Cert.ReferenceCAIdeal.Facts] : Prop :=
  ∀ (m : (ℓ : Loc Cert.ReferenceCAIdeal.nD Cert.ReferenceCAIdeal.τ Cert.ReferenceCAIdeal.sig) → Buf (Elt Ideal) ℓ) (g : Dev Cert.ReferenceCAIdeal.nD → PrngReg), Pre_ReferenceCAIdeal m →
    θ_run (Cert.ReferenceCAIdeal.defs (F := Ideal)) (onTc (τ := Cert.ReferenceCAIdeal.τ) (Cert.ReferenceCAIdeal.main (F := Ideal))) ⟨m, fun _ => 0, g⟩ (fun r => (∀ c : Dev Cert.ReferenceCAIdeal.nD,
      r.2.mem ((c.tc : Thread Cert.ReferenceCAIdeal.nD Cert.ReferenceCAIdeal.τ).loc Cert.ReferenceCAIdeal.main_arg0) = m ((c.tc : Thread Cert.ReferenceCAIdeal.nD Cert.ReferenceCAIdeal.τ).loc Cert.ReferenceCAIdeal.main_arg0)
      ∧ r.2.mem ((c.tc : Thread Cert.ReferenceCAIdeal.nD Cert.ReferenceCAIdeal.τ).loc Cert.ReferenceCAIdeal.main_arg1) = m ((c.tc : Thread Cert.ReferenceCAIdeal.nD Cert.ReferenceCAIdeal.τ).loc Cert.ReferenceCAIdeal.main_arg1))
      ∧ r.2.sem = fun _ => 0)

def quiescent_ReferenceCAIdeal_pre_finite_memory [hReferenceCAIdeal : Cert.ReferenceCAIdeal.Facts] [hPre_finite_memory : Cert.Pre_finite_memory.Facts] : Prop :=
  ∀ (m : (ℓ : Loc Cert.ReferenceCAIdeal.nD Cert.ReferenceCAIdeal.τ Cert.ReferenceCAIdeal.sig) → Buf (Elt Ideal) ℓ) (g : Dev Cert.ReferenceCAIdeal.nD → PrngReg), Pre_ReferenceCAIdeal_finite_memory m →
    θ_run (Cert.ReferenceCAIdeal.defs (F := Ideal)) (onTc (τ := Cert.ReferenceCAIdeal.τ) (Cert.ReferenceCAIdeal.main (F := Ideal))) ⟨m, fun _ => 0, g⟩ (fun r => (∀ c : Dev Cert.ReferenceCAIdeal.nD,
      r.2.mem ((c.tc : Thread Cert.ReferenceCAIdeal.nD Cert.ReferenceCAIdeal.τ).loc Cert.ReferenceCAIdeal.main_arg0) = m ((c.tc : Thread Cert.ReferenceCAIdeal.nD Cert.ReferenceCAIdeal.τ).loc Cert.ReferenceCAIdeal.main_arg0)
      ∧ r.2.mem ((c.tc : Thread Cert.ReferenceCAIdeal.nD Cert.ReferenceCAIdeal.τ).loc Cert.ReferenceCAIdeal.main_arg1) = m ((c.tc : Thread Cert.ReferenceCAIdeal.nD Cert.ReferenceCAIdeal.τ).loc Cert.ReferenceCAIdeal.main_arg1))
      ∧ r.2.sem = fun _ => 0)

def quiescent_KernelRM [hKernelRM : Cert.KernelRM.Facts] : Prop :=
  ∀ (m : (ℓ : Loc Cert.KernelRM.nD Cert.KernelRM.τ Cert.KernelRM.sig) → Buf (Elt Bits) ℓ) (g : Dev Cert.KernelRM.nD → PrngReg), Pre_KernelRM m →
    θ_run (Cert.KernelRM.defs (F := Bits)) (onTc (τ := Cert.KernelRM.τ) (Cert.KernelRM.main (F := Bits))) ⟨m, fun _ => 0, g⟩ (fun r => (∀ c : Dev Cert.KernelRM.nD,
      r.2.mem ((c.tc : Thread Cert.KernelRM.nD Cert.KernelRM.τ).loc Cert.KernelRM.main_arg0) = m ((c.tc : Thread Cert.KernelRM.nD Cert.KernelRM.τ).loc Cert.KernelRM.main_arg0)
      ∧ r.2.mem ((c.tc : Thread Cert.KernelRM.nD Cert.KernelRM.τ).loc Cert.KernelRM.main_arg1) = m ((c.tc : Thread Cert.KernelRM.nD Cert.KernelRM.τ).loc Cert.KernelRM.main_arg1)
      ∧ r.2.mem ((c.tc : Thread Cert.KernelRM.nD Cert.KernelRM.τ).loc Cert.KernelRM.main_arg2) = m ((c.tc : Thread Cert.KernelRM.nD Cert.KernelRM.τ).loc Cert.KernelRM.main_arg2))
      ∧ r.2.sem = fun _ => 0)

def quiescent_KernelRMIdeal [hKernelRMIdeal : Cert.KernelRMIdeal.Facts] : Prop :=
  ∀ (m : (ℓ : Loc Cert.KernelRMIdeal.nD Cert.KernelRMIdeal.τ Cert.KernelRMIdeal.sig) → Buf (Elt Ideal) ℓ) (g : Dev Cert.KernelRMIdeal.nD → PrngReg), Pre_KernelRMIdeal m →
    θ_run (Cert.KernelRMIdeal.defs (F := Ideal)) (onTc (τ := Cert.KernelRMIdeal.τ) (Cert.KernelRMIdeal.main (F := Ideal))) ⟨m, fun _ => 0, g⟩ (fun r => (∀ c : Dev Cert.KernelRMIdeal.nD,
      r.2.mem ((c.tc : Thread Cert.KernelRMIdeal.nD Cert.KernelRMIdeal.τ).loc Cert.KernelRMIdeal.main_arg0) = m ((c.tc : Thread Cert.KernelRMIdeal.nD Cert.KernelRMIdeal.τ).loc Cert.KernelRMIdeal.main_arg0)
      ∧ r.2.mem ((c.tc : Thread Cert.KernelRMIdeal.nD Cert.KernelRMIdeal.τ).loc Cert.KernelRMIdeal.main_arg1) = m ((c.tc : Thread Cert.KernelRMIdeal.nD Cert.KernelRMIdeal.τ).loc Cert.KernelRMIdeal.main_arg1)
      ∧ r.2.mem ((c.tc : Thread Cert.KernelRMIdeal.nD Cert.KernelRMIdeal.τ).loc Cert.KernelRMIdeal.main_arg2) = m ((c.tc : Thread Cert.KernelRMIdeal.nD Cert.KernelRMIdeal.τ).loc Cert.KernelRMIdeal.main_arg2))
      ∧ r.2.sem = fun _ => 0)

def quiescent_ReferenceRMIdeal [hReferenceRMIdeal : Cert.ReferenceRMIdeal.Facts] : Prop :=
  ∀ (m : (ℓ : Loc Cert.ReferenceRMIdeal.nD Cert.ReferenceRMIdeal.τ Cert.ReferenceRMIdeal.sig) → Buf (Elt Ideal) ℓ) (g : Dev Cert.ReferenceRMIdeal.nD → PrngReg), Pre_ReferenceRMIdeal m →
    θ_run (Cert.ReferenceRMIdeal.defs (F := Ideal)) (onTc (τ := Cert.ReferenceRMIdeal.τ) (Cert.ReferenceRMIdeal.main (F := Ideal))) ⟨m, fun _ => 0, g⟩ (fun r => (∀ c : Dev Cert.ReferenceRMIdeal.nD,
      r.2.mem ((c.tc : Thread Cert.ReferenceRMIdeal.nD Cert.ReferenceRMIdeal.τ).loc Cert.ReferenceRMIdeal.main_arg0) = m ((c.tc : Thread Cert.ReferenceRMIdeal.nD Cert.ReferenceRMIdeal.τ).loc Cert.ReferenceRMIdeal.main_arg0)
      ∧ r.2.mem ((c.tc : Thread Cert.ReferenceRMIdeal.nD Cert.ReferenceRMIdeal.τ).loc Cert.ReferenceRMIdeal.main_arg1) = m ((c.tc : Thread Cert.ReferenceRMIdeal.nD Cert.ReferenceRMIdeal.τ).loc Cert.ReferenceRMIdeal.main_arg1)
      ∧ r.2.mem ((c.tc : Thread Cert.ReferenceRMIdeal.nD Cert.ReferenceRMIdeal.τ).loc Cert.ReferenceRMIdeal.main_arg2) = m ((c.tc : Thread Cert.ReferenceRMIdeal.nD Cert.ReferenceRMIdeal.τ).loc Cert.ReferenceRMIdeal.main_arg2))
      ∧ r.2.sem = fun _ => 0)

def quiescent_KernelAT [hKernelAT : Cert.KernelAT.Facts] : Prop :=
  ∀ (m : (ℓ : Loc Cert.KernelAT.nD Cert.KernelAT.τ Cert.KernelAT.sig) → Buf (Elt Bits) ℓ) (g : Dev Cert.KernelAT.nD → PrngReg), Pre_KernelAT m →
    θ_run (Cert.KernelAT.defs (F := Bits)) (onTc (τ := Cert.KernelAT.τ) (Cert.KernelAT.main (F := Bits))) ⟨m, fun _ => 0, g⟩ (fun r => (∀ c : Dev Cert.KernelAT.nD,
      r.2.mem ((c.tc : Thread Cert.KernelAT.nD Cert.KernelAT.τ).loc Cert.KernelAT.main_arg0) = m ((c.tc : Thread Cert.KernelAT.nD Cert.KernelAT.τ).loc Cert.KernelAT.main_arg0)
      ∧ r.2.mem ((c.tc : Thread Cert.KernelAT.nD Cert.KernelAT.τ).loc Cert.KernelAT.main_arg1) = m ((c.tc : Thread Cert.KernelAT.nD Cert.KernelAT.τ).loc Cert.KernelAT.main_arg1)
      ∧ r.2.mem ((c.tc : Thread Cert.KernelAT.nD Cert.KernelAT.τ).loc Cert.KernelAT.main_arg2) = m ((c.tc : Thread Cert.KernelAT.nD Cert.KernelAT.τ).loc Cert.KernelAT.main_arg2)
      ∧ r.2.mem ((c.tc : Thread Cert.KernelAT.nD Cert.KernelAT.τ).loc Cert.KernelAT.main_arg3) = m ((c.tc : Thread Cert.KernelAT.nD Cert.KernelAT.τ).loc Cert.KernelAT.main_arg3)
      ∧ r.2.mem ((c.tc : Thread Cert.KernelAT.nD Cert.KernelAT.τ).loc Cert.KernelAT.main_arg4) = m ((c.tc : Thread Cert.KernelAT.nD Cert.KernelAT.τ).loc Cert.KernelAT.main_arg4)
      ∧ r.2.mem ((c.tc : Thread Cert.KernelAT.nD Cert.KernelAT.τ).loc Cert.KernelAT.main_arg5) = m ((c.tc : Thread Cert.KernelAT.nD Cert.KernelAT.τ).loc Cert.KernelAT.main_arg5)
      ∧ r.2.mem ((c.tc : Thread Cert.KernelAT.nD Cert.KernelAT.τ).loc Cert.KernelAT.main_arg6) = m ((c.tc : Thread Cert.KernelAT.nD Cert.KernelAT.τ).loc Cert.KernelAT.main_arg6)
      ∧ r.2.mem ((c.tc : Thread Cert.KernelAT.nD Cert.KernelAT.τ).loc Cert.KernelAT.main_arg7) = m ((c.tc : Thread Cert.KernelAT.nD Cert.KernelAT.τ).loc Cert.KernelAT.main_arg7))
      ∧ r.2.sem = fun _ => 0)

def quiescent_KernelATIdeal [hKernelATIdeal : Cert.KernelATIdeal.Facts] : Prop :=
  ∀ (m : (ℓ : Loc Cert.KernelATIdeal.nD Cert.KernelATIdeal.τ Cert.KernelATIdeal.sig) → Buf (Elt Ideal) ℓ) (g : Dev Cert.KernelATIdeal.nD → PrngReg), Pre_KernelATIdeal m →
    θ_run (Cert.KernelATIdeal.defs (F := Ideal)) (onTc (τ := Cert.KernelATIdeal.τ) (Cert.KernelATIdeal.main (F := Ideal))) ⟨m, fun _ => 0, g⟩ (fun r => (∀ c : Dev Cert.KernelATIdeal.nD,
      r.2.mem ((c.tc : Thread Cert.KernelATIdeal.nD Cert.KernelATIdeal.τ).loc Cert.KernelATIdeal.main_arg0) = m ((c.tc : Thread Cert.KernelATIdeal.nD Cert.KernelATIdeal.τ).loc Cert.KernelATIdeal.main_arg0)
      ∧ r.2.mem ((c.tc : Thread Cert.KernelATIdeal.nD Cert.KernelATIdeal.τ).loc Cert.KernelATIdeal.main_arg1) = m ((c.tc : Thread Cert.KernelATIdeal.nD Cert.KernelATIdeal.τ).loc Cert.KernelATIdeal.main_arg1)
      ∧ r.2.mem ((c.tc : Thread Cert.KernelATIdeal.nD Cert.KernelATIdeal.τ).loc Cert.KernelATIdeal.main_arg2) = m ((c.tc : Thread Cert.KernelATIdeal.nD Cert.KernelATIdeal.τ).loc Cert.KernelATIdeal.main_arg2)
      ∧ r.2.mem ((c.tc : Thread Cert.KernelATIdeal.nD Cert.KernelATIdeal.τ).loc Cert.KernelATIdeal.main_arg3) = m ((c.tc : Thread Cert.KernelATIdeal.nD Cert.KernelATIdeal.τ).loc Cert.KernelATIdeal.main_arg3)
      ∧ r.2.mem ((c.tc : Thread Cert.KernelATIdeal.nD Cert.KernelATIdeal.τ).loc Cert.KernelATIdeal.main_arg4) = m ((c.tc : Thread Cert.KernelATIdeal.nD Cert.KernelATIdeal.τ).loc Cert.KernelATIdeal.main_arg4)
      ∧ r.2.mem ((c.tc : Thread Cert.KernelATIdeal.nD Cert.KernelATIdeal.τ).loc Cert.KernelATIdeal.main_arg5) = m ((c.tc : Thread Cert.KernelATIdeal.nD Cert.KernelATIdeal.τ).loc Cert.KernelATIdeal.main_arg5)
      ∧ r.2.mem ((c.tc : Thread Cert.KernelATIdeal.nD Cert.KernelATIdeal.τ).loc Cert.KernelATIdeal.main_arg6) = m ((c.tc : Thread Cert.KernelATIdeal.nD Cert.KernelATIdeal.τ).loc Cert.KernelATIdeal.main_arg6)
      ∧ r.2.mem ((c.tc : Thread Cert.KernelATIdeal.nD Cert.KernelATIdeal.τ).loc Cert.KernelATIdeal.main_arg7) = m ((c.tc : Thread Cert.KernelATIdeal.nD Cert.KernelATIdeal.τ).loc Cert.KernelATIdeal.main_arg7))
      ∧ r.2.sem = fun _ => 0)

def quiescent_KernelATIdeal_pre_finite_scores [hKernelATIdeal : Cert.KernelATIdeal.Facts] [hPre_finite_scores : Cert.Pre_finite_scores.Facts] : Prop :=
  ∀ (m : (ℓ : Loc Cert.KernelATIdeal.nD Cert.KernelATIdeal.τ Cert.KernelATIdeal.sig) → Buf (Elt Ideal) ℓ) (g : Dev Cert.KernelATIdeal.nD → PrngReg), Pre_KernelATIdeal_finite_scores m →
    θ_run (Cert.KernelATIdeal.defs (F := Ideal)) (onTc (τ := Cert.KernelATIdeal.τ) (Cert.KernelATIdeal.main (F := Ideal))) ⟨m, fun _ => 0, g⟩ (fun r => (∀ c : Dev Cert.KernelATIdeal.nD,
      r.2.mem ((c.tc : Thread Cert.KernelATIdeal.nD Cert.KernelATIdeal.τ).loc Cert.KernelATIdeal.main_arg0) = m ((c.tc : Thread Cert.KernelATIdeal.nD Cert.KernelATIdeal.τ).loc Cert.KernelATIdeal.main_arg0)
      ∧ r.2.mem ((c.tc : Thread Cert.KernelATIdeal.nD Cert.KernelATIdeal.τ).loc Cert.KernelATIdeal.main_arg1) = m ((c.tc : Thread Cert.KernelATIdeal.nD Cert.KernelATIdeal.τ).loc Cert.KernelATIdeal.main_arg1)
      ∧ r.2.mem ((c.tc : Thread Cert.KernelATIdeal.nD Cert.KernelATIdeal.τ).loc Cert.KernelATIdeal.main_arg2) = m ((c.tc : Thread Cert.KernelATIdeal.nD Cert.KernelATIdeal.τ).loc Cert.KernelATIdeal.main_arg2)
      ∧ r.2.mem ((c.tc : Thread Cert.KernelATIdeal.nD Cert.KernelATIdeal.τ).loc Cert.KernelATIdeal.main_arg3) = m ((c.tc : Thread Cert.KernelATIdeal.nD Cert.KernelATIdeal.τ).loc Cert.KernelATIdeal.main_arg3)
      ∧ r.2.mem ((c.tc : Thread Cert.KernelATIdeal.nD Cert.KernelATIdeal.τ).loc Cert.KernelATIdeal.main_arg4) = m ((c.tc : Thread Cert.KernelATIdeal.nD Cert.KernelATIdeal.τ).loc Cert.KernelATIdeal.main_arg4)
      ∧ r.2.mem ((c.tc : Thread Cert.KernelATIdeal.nD Cert.KernelATIdeal.τ).loc Cert.KernelATIdeal.main_arg5) = m ((c.tc : Thread Cert.KernelATIdeal.nD Cert.KernelATIdeal.τ).loc Cert.KernelATIdeal.main_arg5)
      ∧ r.2.mem ((c.tc : Thread Cert.KernelATIdeal.nD Cert.KernelATIdeal.τ).loc Cert.KernelATIdeal.main_arg6) = m ((c.tc : Thread Cert.KernelATIdeal.nD Cert.KernelATIdeal.τ).loc Cert.KernelATIdeal.main_arg6)
      ∧ r.2.mem ((c.tc : Thread Cert.KernelATIdeal.nD Cert.KernelATIdeal.τ).loc Cert.KernelATIdeal.main_arg7) = m ((c.tc : Thread Cert.KernelATIdeal.nD Cert.KernelATIdeal.τ).loc Cert.KernelATIdeal.main_arg7))
      ∧ r.2.sem = fun _ => 0)

def quiescent_ReferenceATIdeal [hReferenceATIdeal : Cert.ReferenceATIdeal.Facts] : Prop :=
  ∀ (m : (ℓ : Loc Cert.ReferenceATIdeal.nD Cert.ReferenceATIdeal.τ Cert.ReferenceATIdeal.sig) → Buf (Elt Ideal) ℓ) (g : Dev Cert.ReferenceATIdeal.nD → PrngReg), Pre_ReferenceATIdeal m →
    θ_run (Cert.ReferenceATIdeal.defs (F := Ideal)) (onTc (τ := Cert.ReferenceATIdeal.τ) (Cert.ReferenceATIdeal.main (F := Ideal))) ⟨m, fun _ => 0, g⟩ (fun r => (∀ c : Dev Cert.ReferenceATIdeal.nD,
      r.2.mem ((c.tc : Thread Cert.ReferenceATIdeal.nD Cert.ReferenceATIdeal.τ).loc Cert.ReferenceATIdeal.main_arg0) = m ((c.tc : Thread Cert.ReferenceATIdeal.nD Cert.ReferenceATIdeal.τ).loc Cert.ReferenceATIdeal.main_arg0)
      ∧ r.2.mem ((c.tc : Thread Cert.ReferenceATIdeal.nD Cert.ReferenceATIdeal.τ).loc Cert.ReferenceATIdeal.main_arg1) = m ((c.tc : Thread Cert.ReferenceATIdeal.nD Cert.ReferenceATIdeal.τ).loc Cert.ReferenceATIdeal.main_arg1)
      ∧ r.2.mem ((c.tc : Thread Cert.ReferenceATIdeal.nD Cert.ReferenceATIdeal.τ).loc Cert.ReferenceATIdeal.main_arg2) = m ((c.tc : Thread Cert.ReferenceATIdeal.nD Cert.ReferenceATIdeal.τ).loc Cert.ReferenceATIdeal.main_arg2)
      ∧ r.2.mem ((c.tc : Thread Cert.ReferenceATIdeal.nD Cert.ReferenceATIdeal.τ).loc Cert.ReferenceATIdeal.main_arg3) = m ((c.tc : Thread Cert.ReferenceATIdeal.nD Cert.ReferenceATIdeal.τ).loc Cert.ReferenceATIdeal.main_arg3)
      ∧ r.2.mem ((c.tc : Thread Cert.ReferenceATIdeal.nD Cert.ReferenceATIdeal.τ).loc Cert.ReferenceATIdeal.main_arg4) = m ((c.tc : Thread Cert.ReferenceATIdeal.nD Cert.ReferenceATIdeal.τ).loc Cert.ReferenceATIdeal.main_arg4)
      ∧ r.2.mem ((c.tc : Thread Cert.ReferenceATIdeal.nD Cert.ReferenceATIdeal.τ).loc Cert.ReferenceATIdeal.main_arg5) = m ((c.tc : Thread Cert.ReferenceATIdeal.nD Cert.ReferenceATIdeal.τ).loc Cert.ReferenceATIdeal.main_arg5)
      ∧ r.2.mem ((c.tc : Thread Cert.ReferenceATIdeal.nD Cert.ReferenceATIdeal.τ).loc Cert.ReferenceATIdeal.main_arg6) = m ((c.tc : Thread Cert.ReferenceATIdeal.nD Cert.ReferenceATIdeal.τ).loc Cert.ReferenceATIdeal.main_arg6)
      ∧ r.2.mem ((c.tc : Thread Cert.ReferenceATIdeal.nD Cert.ReferenceATIdeal.τ).loc Cert.ReferenceATIdeal.main_arg7) = m ((c.tc : Thread Cert.ReferenceATIdeal.nD Cert.ReferenceATIdeal.τ).loc Cert.ReferenceATIdeal.main_arg7))
      ∧ r.2.sem = fun _ => 0)

def quiescent_ReferenceATIdeal_pre_finite_scores [hReferenceATIdeal : Cert.ReferenceATIdeal.Facts] [hPre_finite_scores : Cert.Pre_finite_scores.Facts] : Prop :=
  ∀ (m : (ℓ : Loc Cert.ReferenceATIdeal.nD Cert.ReferenceATIdeal.τ Cert.ReferenceATIdeal.sig) → Buf (Elt Ideal) ℓ) (g : Dev Cert.ReferenceATIdeal.nD → PrngReg), Pre_ReferenceATIdeal_finite_scores m →
    θ_run (Cert.ReferenceATIdeal.defs (F := Ideal)) (onTc (τ := Cert.ReferenceATIdeal.τ) (Cert.ReferenceATIdeal.main (F := Ideal))) ⟨m, fun _ => 0, g⟩ (fun r => (∀ c : Dev Cert.ReferenceATIdeal.nD,
      r.2.mem ((c.tc : Thread Cert.ReferenceATIdeal.nD Cert.ReferenceATIdeal.τ).loc Cert.ReferenceATIdeal.main_arg0) = m ((c.tc : Thread Cert.ReferenceATIdeal.nD Cert.ReferenceATIdeal.τ).loc Cert.ReferenceATIdeal.main_arg0)
      ∧ r.2.mem ((c.tc : Thread Cert.ReferenceATIdeal.nD Cert.ReferenceATIdeal.τ).loc Cert.ReferenceATIdeal.main_arg1) = m ((c.tc : Thread Cert.ReferenceATIdeal.nD Cert.ReferenceATIdeal.τ).loc Cert.ReferenceATIdeal.main_arg1)
      ∧ r.2.mem ((c.tc : Thread Cert.ReferenceATIdeal.nD Cert.ReferenceATIdeal.τ).loc Cert.ReferenceATIdeal.main_arg2) = m ((c.tc : Thread Cert.ReferenceATIdeal.nD Cert.ReferenceATIdeal.τ).loc Cert.ReferenceATIdeal.main_arg2)
      ∧ r.2.mem ((c.tc : Thread Cert.ReferenceATIdeal.nD Cert.ReferenceATIdeal.τ).loc Cert.ReferenceATIdeal.main_arg3) = m ((c.tc : Thread Cert.ReferenceATIdeal.nD Cert.ReferenceATIdeal.τ).loc Cert.ReferenceATIdeal.main_arg3)
      ∧ r.2.mem ((c.tc : Thread Cert.ReferenceATIdeal.nD Cert.ReferenceATIdeal.τ).loc Cert.ReferenceATIdeal.main_arg4) = m ((c.tc : Thread Cert.ReferenceATIdeal.nD Cert.ReferenceATIdeal.τ).loc Cert.ReferenceATIdeal.main_arg4)
      ∧ r.2.mem ((c.tc : Thread Cert.ReferenceATIdeal.nD Cert.ReferenceATIdeal.τ).loc Cert.ReferenceATIdeal.main_arg5) = m ((c.tc : Thread Cert.ReferenceATIdeal.nD Cert.ReferenceATIdeal.τ).loc Cert.ReferenceATIdeal.main_arg5)
      ∧ r.2.mem ((c.tc : Thread Cert.ReferenceATIdeal.nD Cert.ReferenceATIdeal.τ).loc Cert.ReferenceATIdeal.main_arg6) = m ((c.tc : Thread Cert.ReferenceATIdeal.nD Cert.ReferenceATIdeal.τ).loc Cert.ReferenceATIdeal.main_arg6)
      ∧ r.2.mem ((c.tc : Thread Cert.ReferenceATIdeal.nD Cert.ReferenceATIdeal.τ).loc Cert.ReferenceATIdeal.main_arg7) = m ((c.tc : Thread Cert.ReferenceATIdeal.nD Cert.ReferenceATIdeal.τ).loc Cert.ReferenceATIdeal.main_arg7))
      ∧ r.2.sem = fun _ => 0)

def preserves_KernelRP_KernelRPIdeal : Prop :=
  True

def algebraic_KernelRPIdeal_ReferenceRPIdeal [hKernelRPIdeal : Cert.KernelRPIdeal.Facts] [hReferenceRPIdeal : Cert.ReferenceRPIdeal.Facts] : Prop :=
  ∀ (m : (ℓ : Loc Cert.KernelRPIdeal.nD Cert.KernelRPIdeal.τ Cert.KernelRPIdeal.sig) → Buf (Elt Ideal) ℓ) (g : Dev Cert.KernelRPIdeal.nD → PrngReg)
    (m' : (ℓ : Loc Cert.ReferenceRPIdeal.nD Cert.ReferenceRPIdeal.τ Cert.ReferenceRPIdeal.sig) → Buf (Elt Ideal) ℓ) (g' : Dev Cert.ReferenceRPIdeal.nD → PrngReg), Pre_KernelRPIdeal m →
    (∀ c : Dev Cert.KernelRPIdeal.nD,
      m' ((c.tc : Thread Cert.ReferenceRPIdeal.nD Cert.ReferenceRPIdeal.τ).loc Cert.ReferenceRPIdeal.main_arg0) = m ((c.tc : Thread Cert.KernelRPIdeal.nD Cert.KernelRPIdeal.τ).loc Cert.KernelRPIdeal.main_arg0)
      ∧ m' ((c.tc : Thread Cert.ReferenceRPIdeal.nD Cert.ReferenceRPIdeal.τ).loc Cert.ReferenceRPIdeal.main_arg1) = m ((c.tc : Thread Cert.KernelRPIdeal.nD Cert.KernelRPIdeal.τ).loc Cert.KernelRPIdeal.main_arg1)
      ∧ m' ((c.tc : Thread Cert.ReferenceRPIdeal.nD Cert.ReferenceRPIdeal.τ).loc Cert.ReferenceRPIdeal.main_arg2) = m ((c.tc : Thread Cert.KernelRPIdeal.nD Cert.KernelRPIdeal.τ).loc Cert.KernelRPIdeal.main_arg2)
      ∧ m' ((c.tc : Thread Cert.ReferenceRPIdeal.nD Cert.ReferenceRPIdeal.τ).loc Cert.ReferenceRPIdeal.main_arg3) = m ((c.tc : Thread Cert.KernelRPIdeal.nD Cert.KernelRPIdeal.τ).loc Cert.KernelRPIdeal.main_arg3)
      ∧ m' ((c.tc : Thread Cert.ReferenceRPIdeal.nD Cert.ReferenceRPIdeal.τ).loc Cert.ReferenceRPIdeal.main_arg4) = m ((c.tc : Thread Cert.KernelRPIdeal.nD Cert.KernelRPIdeal.τ).loc Cert.KernelRPIdeal.main_arg4)) →
    ∃ (v0 : (c : Dev Cert.KernelRPIdeal.nD) → Buf (Elt Ideal) ((c.tc : Thread Cert.KernelRPIdeal.nD Cert.KernelRPIdeal.τ).loc Cert.KernelRPIdeal.main_v2_0)) (v1 : (c : Dev Cert.KernelRPIdeal.nD) → Buf (Elt Ideal) ((c.tc : Thread Cert.KernelRPIdeal.nD Cert.KernelRPIdeal.τ).loc Cert.KernelRPIdeal.main_v2_1)),
      θ_run (Cert.KernelRPIdeal.defs (F := Ideal)) (onTc (τ := Cert.KernelRPIdeal.τ) (Cert.KernelRPIdeal.main (F := Ideal))) ⟨m, fun _ => 0, g⟩ (fun r => ∀ c : Dev Cert.KernelRPIdeal.nD,
          r.2.mem ((c.tc : Thread Cert.KernelRPIdeal.nD Cert.KernelRPIdeal.τ).loc Cert.KernelRPIdeal.main_v2_0) = v0 c
          ∧ r.2.mem ((c.tc : Thread Cert.KernelRPIdeal.nD Cert.KernelRPIdeal.τ).loc Cert.KernelRPIdeal.main_v2_1) = v1 c
          ∧ r.2.mem ((c.tc : Thread Cert.KernelRPIdeal.nD Cert.KernelRPIdeal.τ).loc Cert.KernelRPIdeal.main_arg0) = m ((c.tc : Thread Cert.KernelRPIdeal.nD Cert.KernelRPIdeal.τ).loc Cert.KernelRPIdeal.main_arg0)
          ∧ r.2.mem ((c.tc : Thread Cert.KernelRPIdeal.nD Cert.KernelRPIdeal.τ).loc Cert.KernelRPIdeal.main_arg1) = m ((c.tc : Thread Cert.KernelRPIdeal.nD Cert.KernelRPIdeal.τ).loc Cert.KernelRPIdeal.main_arg1)
          ∧ r.2.mem ((c.tc : Thread Cert.KernelRPIdeal.nD Cert.KernelRPIdeal.τ).loc Cert.KernelRPIdeal.main_arg2) = m ((c.tc : Thread Cert.KernelRPIdeal.nD Cert.KernelRPIdeal.τ).loc Cert.KernelRPIdeal.main_arg2)
          ∧ r.2.mem ((c.tc : Thread Cert.KernelRPIdeal.nD Cert.KernelRPIdeal.τ).loc Cert.KernelRPIdeal.main_arg3) = m ((c.tc : Thread Cert.KernelRPIdeal.nD Cert.KernelRPIdeal.τ).loc Cert.KernelRPIdeal.main_arg3)
          ∧ r.2.mem ((c.tc : Thread Cert.KernelRPIdeal.nD Cert.KernelRPIdeal.τ).loc Cert.KernelRPIdeal.main_arg4) = m ((c.tc : Thread Cert.KernelRPIdeal.nD Cert.KernelRPIdeal.τ).loc Cert.KernelRPIdeal.main_arg4))
      ∧ θ_run (Cert.ReferenceRPIdeal.defs (F := Ideal)) (onTc (τ := Cert.ReferenceRPIdeal.τ) (Cert.ReferenceRPIdeal.main (F := Ideal))) ⟨m', fun _ => 0, g'⟩ (fun r => ∀ c : Dev Cert.ReferenceRPIdeal.nD,
          r.2.mem ((c.tc : Thread Cert.ReferenceRPIdeal.nD Cert.ReferenceRPIdeal.τ).loc Cert.ReferenceRPIdeal.main_v3) = v0 c
          ∧ r.2.mem ((c.tc : Thread Cert.ReferenceRPIdeal.nD Cert.ReferenceRPIdeal.τ).loc Cert.ReferenceRPIdeal.main_v20) = v1 c
          ∧ r.2.mem ((c.tc : Thread Cert.ReferenceRPIdeal.nD Cert.ReferenceRPIdeal.τ).loc Cert.ReferenceRPIdeal.main_arg0) = m' ((c.tc : Thread Cert.ReferenceRPIdeal.nD Cert.ReferenceRPIdeal.τ).loc Cert.ReferenceRPIdeal.main_arg0)
          ∧ r.2.mem ((c.tc : Thread Cert.ReferenceRPIdeal.nD Cert.ReferenceRPIdeal.τ).loc Cert.ReferenceRPIdeal.main_arg1) = m' ((c.tc : Thread Cert.ReferenceRPIdeal.nD Cert.ReferenceRPIdeal.τ).loc Cert.ReferenceRPIdeal.main_arg1)
          ∧ r.2.mem ((c.tc : Thread Cert.ReferenceRPIdeal.nD Cert.ReferenceRPIdeal.τ).loc Cert.ReferenceRPIdeal.main_arg2) = m' ((c.tc : Thread Cert.ReferenceRPIdeal.nD Cert.ReferenceRPIdeal.τ).loc Cert.ReferenceRPIdeal.main_arg2)
          ∧ r.2.mem ((c.tc : Thread Cert.ReferenceRPIdeal.nD Cert.ReferenceRPIdeal.τ).loc Cert.ReferenceRPIdeal.main_arg3) = m' ((c.tc : Thread Cert.ReferenceRPIdeal.nD Cert.ReferenceRPIdeal.τ).loc Cert.ReferenceRPIdeal.main_arg3)
          ∧ r.2.mem ((c.tc : Thread Cert.ReferenceRPIdeal.nD Cert.ReferenceRPIdeal.τ).loc Cert.ReferenceRPIdeal.main_arg4) = m' ((c.tc : Thread Cert.ReferenceRPIdeal.nD Cert.ReferenceRPIdeal.τ).loc Cert.ReferenceRPIdeal.main_arg4))

def preserves_KernelIP_KernelIPIdeal : Prop :=
  True

def algebraic_KernelIPIdeal_ReferenceIPIdeal [hKernelIPIdeal : Cert.KernelIPIdeal.Facts] [hReferenceIPIdeal : Cert.ReferenceIPIdeal.Facts] : Prop :=
  ∀ (m : (ℓ : Loc Cert.KernelIPIdeal.nD Cert.KernelIPIdeal.τ Cert.KernelIPIdeal.sig) → Buf (Elt Ideal) ℓ) (g : Dev Cert.KernelIPIdeal.nD → PrngReg)
    (m' : (ℓ : Loc Cert.ReferenceIPIdeal.nD Cert.ReferenceIPIdeal.τ Cert.ReferenceIPIdeal.sig) → Buf (Elt Ideal) ℓ) (g' : Dev Cert.ReferenceIPIdeal.nD → PrngReg), Pre_KernelIPIdeal m →
    (∀ c : Dev Cert.KernelIPIdeal.nD,
      m' ((c.tc : Thread Cert.ReferenceIPIdeal.nD Cert.ReferenceIPIdeal.τ).loc Cert.ReferenceIPIdeal.main_arg0) = m ((c.tc : Thread Cert.KernelIPIdeal.nD Cert.KernelIPIdeal.τ).loc Cert.KernelIPIdeal.main_arg0)
      ∧ m' ((c.tc : Thread Cert.ReferenceIPIdeal.nD Cert.ReferenceIPIdeal.τ).loc Cert.ReferenceIPIdeal.main_arg1) = m ((c.tc : Thread Cert.KernelIPIdeal.nD Cert.KernelIPIdeal.τ).loc Cert.KernelIPIdeal.main_arg1)
      ∧ m' ((c.tc : Thread Cert.ReferenceIPIdeal.nD Cert.ReferenceIPIdeal.τ).loc Cert.ReferenceIPIdeal.main_arg2) = m ((c.tc : Thread Cert.KernelIPIdeal.nD Cert.KernelIPIdeal.τ).loc Cert.KernelIPIdeal.main_arg2)) →
    ∃ (v0 : (c : Dev Cert.KernelIPIdeal.nD) → Buf (Elt Ideal) ((c.tc : Thread Cert.KernelIPIdeal.nD Cert.KernelIPIdeal.τ).loc Cert.KernelIPIdeal.main_v4_0)) (v1 : (c : Dev Cert.KernelIPIdeal.nD) → Buf (Elt Ideal) ((c.tc : Thread Cert.KernelIPIdeal.nD Cert.KernelIPIdeal.τ).loc Cert.KernelIPIdeal.main_v4_1)) (v2 : (c : Dev Cert.KernelIPIdeal.nD) → Buf (Elt Ideal) ((c.tc : Thread Cert.KernelIPIdeal.nD Cert.KernelIPIdeal.τ).loc Cert.KernelIPIdeal.main_v4_2)),
      θ_run (Cert.KernelIPIdeal.defs (F := Ideal)) (onTc (τ := Cert.KernelIPIdeal.τ) (Cert.KernelIPIdeal.main (F := Ideal))) ⟨m, fun _ => 0, g⟩ (fun r => ∀ c : Dev Cert.KernelIPIdeal.nD,
          r.2.mem ((c.tc : Thread Cert.KernelIPIdeal.nD Cert.KernelIPIdeal.τ).loc Cert.KernelIPIdeal.main_v4_0) = v0 c
          ∧ r.2.mem ((c.tc : Thread Cert.KernelIPIdeal.nD Cert.KernelIPIdeal.τ).loc Cert.KernelIPIdeal.main_v4_1) = v1 c
          ∧ r.2.mem ((c.tc : Thread Cert.KernelIPIdeal.nD Cert.KernelIPIdeal.τ).loc Cert.KernelIPIdeal.main_v4_2) = v2 c
          ∧ r.2.mem ((c.tc : Thread Cert.KernelIPIdeal.nD Cert.KernelIPIdeal.τ).loc Cert.KernelIPIdeal.main_arg0) = m ((c.tc : Thread Cert.KernelIPIdeal.nD Cert.KernelIPIdeal.τ).loc Cert.KernelIPIdeal.main_arg0)
          ∧ r.2.mem ((c.tc : Thread Cert.KernelIPIdeal.nD Cert.KernelIPIdeal.τ).loc Cert.KernelIPIdeal.main_arg1) = m ((c.tc : Thread Cert.KernelIPIdeal.nD Cert.KernelIPIdeal.τ).loc Cert.KernelIPIdeal.main_arg1)
          ∧ r.2.mem ((c.tc : Thread Cert.KernelIPIdeal.nD Cert.KernelIPIdeal.τ).loc Cert.KernelIPIdeal.main_arg2) = m ((c.tc : Thread Cert.KernelIPIdeal.nD Cert.KernelIPIdeal.τ).loc Cert.KernelIPIdeal.main_arg2))
      ∧ θ_run (Cert.ReferenceIPIdeal.defs (F := Ideal)) (onTc (τ := Cert.ReferenceIPIdeal.τ) (Cert.ReferenceIPIdeal.main (F := Ideal))) ⟨m', fun _ => 0, g'⟩ (fun r => ∀ c : Dev Cert.ReferenceIPIdeal.nD,
          r.2.mem ((c.tc : Thread Cert.ReferenceIPIdeal.nD Cert.ReferenceIPIdeal.τ).loc Cert.ReferenceIPIdeal.main_v53) = v0 c
          ∧ r.2.mem ((c.tc : Thread Cert.ReferenceIPIdeal.nD Cert.ReferenceIPIdeal.τ).loc Cert.ReferenceIPIdeal.main_v55) = v1 c
          ∧ r.2.mem ((c.tc : Thread Cert.ReferenceIPIdeal.nD Cert.ReferenceIPIdeal.τ).loc Cert.ReferenceIPIdeal.main_v57) = v2 c
          ∧ r.2.mem ((c.tc : Thread Cert.ReferenceIPIdeal.nD Cert.ReferenceIPIdeal.τ).loc Cert.ReferenceIPIdeal.main_arg0) = m' ((c.tc : Thread Cert.ReferenceIPIdeal.nD Cert.ReferenceIPIdeal.τ).loc Cert.ReferenceIPIdeal.main_arg0)
          ∧ r.2.mem ((c.tc : Thread Cert.ReferenceIPIdeal.nD Cert.ReferenceIPIdeal.τ).loc Cert.ReferenceIPIdeal.main_arg1) = m' ((c.tc : Thread Cert.ReferenceIPIdeal.nD Cert.ReferenceIPIdeal.τ).loc Cert.ReferenceIPIdeal.main_arg1)
          ∧ r.2.mem ((c.tc : Thread Cert.ReferenceIPIdeal.nD Cert.ReferenceIPIdeal.τ).loc Cert.ReferenceIPIdeal.main_arg2) = m' ((c.tc : Thread Cert.ReferenceIPIdeal.nD Cert.ReferenceIPIdeal.τ).loc Cert.ReferenceIPIdeal.main_arg2))

def preserves_KernelSG_KernelSGIdeal : Prop :=
  True

def algebraic_KernelSGIdeal_ReferenceSGIdeal [hKernelSGIdeal : Cert.KernelSGIdeal.Facts] [hReferenceSGIdeal : Cert.ReferenceSGIdeal.Facts] : Prop :=
  ∀ (m : (ℓ : Loc Cert.KernelSGIdeal.nD Cert.KernelSGIdeal.τ Cert.KernelSGIdeal.sig) → Buf (Elt Ideal) ℓ) (g : Dev Cert.KernelSGIdeal.nD → PrngReg)
    (m' : (ℓ : Loc Cert.ReferenceSGIdeal.nD Cert.ReferenceSGIdeal.τ Cert.ReferenceSGIdeal.sig) → Buf (Elt Ideal) ℓ) (g' : Dev Cert.ReferenceSGIdeal.nD → PrngReg), Pre_KernelSGIdeal m →
    (∀ c : Dev Cert.KernelSGIdeal.nD,
      m' ((c.tc : Thread Cert.ReferenceSGIdeal.nD Cert.ReferenceSGIdeal.τ).loc Cert.ReferenceSGIdeal.main_arg0) = m ((c.tc : Thread Cert.KernelSGIdeal.nD Cert.KernelSGIdeal.τ).loc Cert.KernelSGIdeal.main_arg0)
      ∧ m' ((c.tc : Thread Cert.ReferenceSGIdeal.nD Cert.ReferenceSGIdeal.τ).loc Cert.ReferenceSGIdeal.main_arg1) = m ((c.tc : Thread Cert.KernelSGIdeal.nD Cert.KernelSGIdeal.τ).loc Cert.KernelSGIdeal.main_arg1)
      ∧ m' ((c.tc : Thread Cert.ReferenceSGIdeal.nD Cert.ReferenceSGIdeal.τ).loc Cert.ReferenceSGIdeal.main_arg2) = m ((c.tc : Thread Cert.KernelSGIdeal.nD Cert.KernelSGIdeal.τ).loc Cert.KernelSGIdeal.main_arg2)
      ∧ m' ((c.tc : Thread Cert.ReferenceSGIdeal.nD Cert.ReferenceSGIdeal.τ).loc Cert.ReferenceSGIdeal.main_arg3) = m ((c.tc : Thread Cert.KernelSGIdeal.nD Cert.KernelSGIdeal.τ).loc Cert.KernelSGIdeal.main_arg3)
      ∧ m' ((c.tc : Thread Cert.ReferenceSGIdeal.nD Cert.ReferenceSGIdeal.τ).loc Cert.ReferenceSGIdeal.main_arg4) = m ((c.tc : Thread Cert.KernelSGIdeal.nD Cert.KernelSGIdeal.τ).loc Cert.KernelSGIdeal.main_arg4)
      ∧ m' ((c.tc : Thread Cert.ReferenceSGIdeal.nD Cert.ReferenceSGIdeal.τ).loc Cert.ReferenceSGIdeal.main_arg5) = m ((c.tc : Thread Cert.KernelSGIdeal.nD Cert.KernelSGIdeal.τ).loc Cert.KernelSGIdeal.main_arg5)
      ∧ m' ((c.tc : Thread Cert.ReferenceSGIdeal.nD Cert.ReferenceSGIdeal.τ).loc Cert.ReferenceSGIdeal.main_arg6) = m ((c.tc : Thread Cert.KernelSGIdeal.nD Cert.KernelSGIdeal.τ).loc Cert.KernelSGIdeal.main_arg6)
      ∧ m' ((c.tc : Thread Cert.ReferenceSGIdeal.nD Cert.ReferenceSGIdeal.τ).loc Cert.ReferenceSGIdeal.main_arg7) = m ((c.tc : Thread Cert.KernelSGIdeal.nD Cert.KernelSGIdeal.τ).loc Cert.KernelSGIdeal.main_arg7)
      ∧ m' ((c.tc : Thread Cert.ReferenceSGIdeal.nD Cert.ReferenceSGIdeal.τ).loc Cert.ReferenceSGIdeal.main_arg8) = m ((c.tc : Thread Cert.KernelSGIdeal.nD Cert.KernelSGIdeal.τ).loc Cert.KernelSGIdeal.main_arg8)) →
    ∃ (v0 : (c : Dev Cert.KernelSGIdeal.nD) → Buf (Elt Ideal) ((c.tc : Thread Cert.KernelSGIdeal.nD Cert.KernelSGIdeal.τ).loc Cert.KernelSGIdeal.main_v7)),
      θ_run (Cert.KernelSGIdeal.defs (F := Ideal)) (onTc (τ := Cert.KernelSGIdeal.τ) (Cert.KernelSGIdeal.main (F := Ideal))) ⟨m, fun _ => 0, g⟩ (fun r => ∀ c : Dev Cert.KernelSGIdeal.nD,
          r.2.mem ((c.tc : Thread Cert.KernelSGIdeal.nD Cert.KernelSGIdeal.τ).loc Cert.KernelSGIdeal.main_v7) = v0 c
          ∧ r.2.mem ((c.tc : Thread Cert.KernelSGIdeal.nD Cert.KernelSGIdeal.τ).loc Cert.KernelSGIdeal.main_arg0) = m ((c.tc : Thread Cert.KernelSGIdeal.nD Cert.KernelSGIdeal.τ).loc Cert.KernelSGIdeal.main_arg0)
          ∧ r.2.mem ((c.tc : Thread Cert.KernelSGIdeal.nD Cert.KernelSGIdeal.τ).loc Cert.KernelSGIdeal.main_arg1) = m ((c.tc : Thread Cert.KernelSGIdeal.nD Cert.KernelSGIdeal.τ).loc Cert.KernelSGIdeal.main_arg1)
          ∧ r.2.mem ((c.tc : Thread Cert.KernelSGIdeal.nD Cert.KernelSGIdeal.τ).loc Cert.KernelSGIdeal.main_arg2) = m ((c.tc : Thread Cert.KernelSGIdeal.nD Cert.KernelSGIdeal.τ).loc Cert.KernelSGIdeal.main_arg2)
          ∧ r.2.mem ((c.tc : Thread Cert.KernelSGIdeal.nD Cert.KernelSGIdeal.τ).loc Cert.KernelSGIdeal.main_arg3) = m ((c.tc : Thread Cert.KernelSGIdeal.nD Cert.KernelSGIdeal.τ).loc Cert.KernelSGIdeal.main_arg3)
          ∧ r.2.mem ((c.tc : Thread Cert.KernelSGIdeal.nD Cert.KernelSGIdeal.τ).loc Cert.KernelSGIdeal.main_arg4) = m ((c.tc : Thread Cert.KernelSGIdeal.nD Cert.KernelSGIdeal.τ).loc Cert.KernelSGIdeal.main_arg4)
          ∧ r.2.mem ((c.tc : Thread Cert.KernelSGIdeal.nD Cert.KernelSGIdeal.τ).loc Cert.KernelSGIdeal.main_arg5) = m ((c.tc : Thread Cert.KernelSGIdeal.nD Cert.KernelSGIdeal.τ).loc Cert.KernelSGIdeal.main_arg5)
          ∧ r.2.mem ((c.tc : Thread Cert.KernelSGIdeal.nD Cert.KernelSGIdeal.τ).loc Cert.KernelSGIdeal.main_arg6) = m ((c.tc : Thread Cert.KernelSGIdeal.nD Cert.KernelSGIdeal.τ).loc Cert.KernelSGIdeal.main_arg6)
          ∧ r.2.mem ((c.tc : Thread Cert.KernelSGIdeal.nD Cert.KernelSGIdeal.τ).loc Cert.KernelSGIdeal.main_arg7) = m ((c.tc : Thread Cert.KernelSGIdeal.nD Cert.KernelSGIdeal.τ).loc Cert.KernelSGIdeal.main_arg7)
          ∧ r.2.mem ((c.tc : Thread Cert.KernelSGIdeal.nD Cert.KernelSGIdeal.τ).loc Cert.KernelSGIdeal.main_arg8) = m ((c.tc : Thread Cert.KernelSGIdeal.nD Cert.KernelSGIdeal.τ).loc Cert.KernelSGIdeal.main_arg8))
      ∧ θ_run (Cert.ReferenceSGIdeal.defs (F := Ideal)) (onTc (τ := Cert.ReferenceSGIdeal.τ) (Cert.ReferenceSGIdeal.main (F := Ideal))) ⟨m', fun _ => 0, g'⟩ (fun r => ∀ c : Dev Cert.ReferenceSGIdeal.nD,
          r.2.mem ((c.tc : Thread Cert.ReferenceSGIdeal.nD Cert.ReferenceSGIdeal.τ).loc Cert.ReferenceSGIdeal.main_v65) = v0 c
          ∧ r.2.mem ((c.tc : Thread Cert.ReferenceSGIdeal.nD Cert.ReferenceSGIdeal.τ).loc Cert.ReferenceSGIdeal.main_arg0) = m' ((c.tc : Thread Cert.ReferenceSGIdeal.nD Cert.ReferenceSGIdeal.τ).loc Cert.ReferenceSGIdeal.main_arg0)
          ∧ r.2.mem ((c.tc : Thread Cert.ReferenceSGIdeal.nD Cert.ReferenceSGIdeal.τ).loc Cert.ReferenceSGIdeal.main_arg1) = m' ((c.tc : Thread Cert.ReferenceSGIdeal.nD Cert.ReferenceSGIdeal.τ).loc Cert.ReferenceSGIdeal.main_arg1)
          ∧ r.2.mem ((c.tc : Thread Cert.ReferenceSGIdeal.nD Cert.ReferenceSGIdeal.τ).loc Cert.ReferenceSGIdeal.main_arg2) = m' ((c.tc : Thread Cert.ReferenceSGIdeal.nD Cert.ReferenceSGIdeal.τ).loc Cert.ReferenceSGIdeal.main_arg2)
          ∧ r.2.mem ((c.tc : Thread Cert.ReferenceSGIdeal.nD Cert.ReferenceSGIdeal.τ).loc Cert.ReferenceSGIdeal.main_arg3) = m' ((c.tc : Thread Cert.ReferenceSGIdeal.nD Cert.ReferenceSGIdeal.τ).loc Cert.ReferenceSGIdeal.main_arg3)
          ∧ r.2.mem ((c.tc : Thread Cert.ReferenceSGIdeal.nD Cert.ReferenceSGIdeal.τ).loc Cert.ReferenceSGIdeal.main_arg4) = m' ((c.tc : Thread Cert.ReferenceSGIdeal.nD Cert.ReferenceSGIdeal.τ).loc Cert.ReferenceSGIdeal.main_arg4)
          ∧ r.2.mem ((c.tc : Thread Cert.ReferenceSGIdeal.nD Cert.ReferenceSGIdeal.τ).loc Cert.ReferenceSGIdeal.main_arg5) = m' ((c.tc : Thread Cert.ReferenceSGIdeal.nD Cert.ReferenceSGIdeal.τ).loc Cert.ReferenceSGIdeal.main_arg5)
          ∧ r.2.mem ((c.tc : Thread Cert.ReferenceSGIdeal.nD Cert.ReferenceSGIdeal.τ).loc Cert.ReferenceSGIdeal.main_arg6) = m' ((c.tc : Thread Cert.ReferenceSGIdeal.nD Cert.ReferenceSGIdeal.τ).loc Cert.ReferenceSGIdeal.main_arg6)
          ∧ r.2.mem ((c.tc : Thread Cert.ReferenceSGIdeal.nD Cert.ReferenceSGIdeal.τ).loc Cert.ReferenceSGIdeal.main_arg7) = m' ((c.tc : Thread Cert.ReferenceSGIdeal.nD Cert.ReferenceSGIdeal.τ).loc Cert.ReferenceSGIdeal.main_arg7)
          ∧ r.2.mem ((c.tc : Thread Cert.ReferenceSGIdeal.nD Cert.ReferenceSGIdeal.τ).loc Cert.ReferenceSGIdeal.main_arg8) = m' ((c.tc : Thread Cert.ReferenceSGIdeal.nD Cert.ReferenceSGIdeal.τ).loc Cert.ReferenceSGIdeal.main_arg8))

def preserves_KernelCA_KernelCAIdeal : Prop :=
  IdealRules.named_const.Statement Cert.KernelCAIdeal.κ "scale512" .f32 0x3D3504F3#32 (((Real.sqrt 512)⁻¹ : ℝ) : EReal)

def algebraic_KernelCAIdeal_ReferenceCAIdeal_pre_finite_memory [hKernelCAIdeal : Cert.KernelCAIdeal.Facts] [hReferenceCAIdeal : Cert.ReferenceCAIdeal.Facts] [hPre_finite_memory : Cert.Pre_finite_memory.Facts] : Prop :=
  ∀ (m : (ℓ : Loc Cert.KernelCAIdeal.nD Cert.KernelCAIdeal.τ Cert.KernelCAIdeal.sig) → Buf (Elt Ideal) ℓ) (g : Dev Cert.KernelCAIdeal.nD → PrngReg)
    (m' : (ℓ : Loc Cert.ReferenceCAIdeal.nD Cert.ReferenceCAIdeal.τ Cert.ReferenceCAIdeal.sig) → Buf (Elt Ideal) ℓ) (g' : Dev Cert.ReferenceCAIdeal.nD → PrngReg), Pre_KernelCAIdeal_finite_memory m →
    (∀ c : Dev Cert.KernelCAIdeal.nD,
      m' ((c.tc : Thread Cert.ReferenceCAIdeal.nD Cert.ReferenceCAIdeal.τ).loc Cert.ReferenceCAIdeal.main_arg0) = m ((c.tc : Thread Cert.KernelCAIdeal.nD Cert.KernelCAIdeal.τ).loc Cert.KernelCAIdeal.main_arg0)
      ∧ m' ((c.tc : Thread Cert.ReferenceCAIdeal.nD Cert.ReferenceCAIdeal.τ).loc Cert.ReferenceCAIdeal.main_arg1) = m ((c.tc : Thread Cert.KernelCAIdeal.nD Cert.KernelCAIdeal.τ).loc Cert.KernelCAIdeal.main_arg1)) →
    ∃ (v0 : (c : Dev Cert.KernelCAIdeal.nD) → Buf (Elt Ideal) ((c.tc : Thread Cert.KernelCAIdeal.nD Cert.KernelCAIdeal.τ).loc Cert.KernelCAIdeal.main_v0)),
      θ_run (Cert.KernelCAIdeal.defs (F := Ideal)) (onTc (τ := Cert.KernelCAIdeal.τ) (Cert.KernelCAIdeal.main (F := Ideal))) ⟨m, fun _ => 0, g⟩ (fun r => ∀ c : Dev Cert.KernelCAIdeal.nD,
          r.2.mem ((c.tc : Thread Cert.KernelCAIdeal.nD Cert.KernelCAIdeal.τ).loc Cert.KernelCAIdeal.main_v0) = v0 c
          ∧ r.2.mem ((c.tc : Thread Cert.KernelCAIdeal.nD Cert.KernelCAIdeal.τ).loc Cert.KernelCAIdeal.main_arg0) = m ((c.tc : Thread Cert.KernelCAIdeal.nD Cert.KernelCAIdeal.τ).loc Cert.KernelCAIdeal.main_arg0)
          ∧ r.2.mem ((c.tc : Thread Cert.KernelCAIdeal.nD Cert.KernelCAIdeal.τ).loc Cert.KernelCAIdeal.main_arg1) = m ((c.tc : Thread Cert.KernelCAIdeal.nD Cert.KernelCAIdeal.τ).loc Cert.KernelCAIdeal.main_arg1))
      ∧ θ_run (Cert.ReferenceCAIdeal.defs (F := Ideal)) (onTc (τ := Cert.ReferenceCAIdeal.τ) (Cert.ReferenceCAIdeal.main (F := Ideal))) ⟨m', fun _ => 0, g'⟩ (fun r => ∀ c : Dev Cert.ReferenceCAIdeal.nD,
          r.2.mem ((c.tc : Thread Cert.ReferenceCAIdeal.nD Cert.ReferenceCAIdeal.τ).loc Cert.ReferenceCAIdeal.main_v27) = v0 c
          ∧ r.2.mem ((c.tc : Thread Cert.ReferenceCAIdeal.nD Cert.ReferenceCAIdeal.τ).loc Cert.ReferenceCAIdeal.main_arg0) = m' ((c.tc : Thread Cert.ReferenceCAIdeal.nD Cert.ReferenceCAIdeal.τ).loc Cert.ReferenceCAIdeal.main_arg0)
          ∧ r.2.mem ((c.tc : Thread Cert.ReferenceCAIdeal.nD Cert.ReferenceCAIdeal.τ).loc Cert.ReferenceCAIdeal.main_arg1) = m' ((c.tc : Thread Cert.ReferenceCAIdeal.nD Cert.ReferenceCAIdeal.τ).loc Cert.ReferenceCAIdeal.main_arg1))

def preserves_KernelRM_KernelRMIdeal : Prop :=
  True

def algebraic_KernelRMIdeal_ReferenceRMIdeal [hKernelRMIdeal : Cert.KernelRMIdeal.Facts] [hReferenceRMIdeal : Cert.ReferenceRMIdeal.Facts] : Prop :=
  ∀ (m : (ℓ : Loc Cert.KernelRMIdeal.nD Cert.KernelRMIdeal.τ Cert.KernelRMIdeal.sig) → Buf (Elt Ideal) ℓ) (g : Dev Cert.KernelRMIdeal.nD → PrngReg)
    (m' : (ℓ : Loc Cert.ReferenceRMIdeal.nD Cert.ReferenceRMIdeal.τ Cert.ReferenceRMIdeal.sig) → Buf (Elt Ideal) ℓ) (g' : Dev Cert.ReferenceRMIdeal.nD → PrngReg), Pre_KernelRMIdeal m →
    (∀ c : Dev Cert.KernelRMIdeal.nD,
      m' ((c.tc : Thread Cert.ReferenceRMIdeal.nD Cert.ReferenceRMIdeal.τ).loc Cert.ReferenceRMIdeal.main_arg0) = m ((c.tc : Thread Cert.KernelRMIdeal.nD Cert.KernelRMIdeal.τ).loc Cert.KernelRMIdeal.main_arg0)
      ∧ m' ((c.tc : Thread Cert.ReferenceRMIdeal.nD Cert.ReferenceRMIdeal.τ).loc Cert.ReferenceRMIdeal.main_arg1) = m ((c.tc : Thread Cert.KernelRMIdeal.nD Cert.KernelRMIdeal.τ).loc Cert.KernelRMIdeal.main_arg1)
      ∧ m' ((c.tc : Thread Cert.ReferenceRMIdeal.nD Cert.ReferenceRMIdeal.τ).loc Cert.ReferenceRMIdeal.main_arg2) = m ((c.tc : Thread Cert.KernelRMIdeal.nD Cert.KernelRMIdeal.τ).loc Cert.KernelRMIdeal.main_arg2)) →
    ∃ (v0 : (c : Dev Cert.KernelRMIdeal.nD) → Buf (Elt Ideal) ((c.tc : Thread Cert.KernelRMIdeal.nD Cert.KernelRMIdeal.τ).loc Cert.KernelRMIdeal.main_v4)),
      θ_run (Cert.KernelRMIdeal.defs (F := Ideal)) (onTc (τ := Cert.KernelRMIdeal.τ) (Cert.KernelRMIdeal.main (F := Ideal))) ⟨m, fun _ => 0, g⟩ (fun r => ∀ c : Dev Cert.KernelRMIdeal.nD,
          r.2.mem ((c.tc : Thread Cert.KernelRMIdeal.nD Cert.KernelRMIdeal.τ).loc Cert.KernelRMIdeal.main_v4) = v0 c
          ∧ r.2.mem ((c.tc : Thread Cert.KernelRMIdeal.nD Cert.KernelRMIdeal.τ).loc Cert.KernelRMIdeal.main_arg0) = m ((c.tc : Thread Cert.KernelRMIdeal.nD Cert.KernelRMIdeal.τ).loc Cert.KernelRMIdeal.main_arg0)
          ∧ r.2.mem ((c.tc : Thread Cert.KernelRMIdeal.nD Cert.KernelRMIdeal.τ).loc Cert.KernelRMIdeal.main_arg1) = m ((c.tc : Thread Cert.KernelRMIdeal.nD Cert.KernelRMIdeal.τ).loc Cert.KernelRMIdeal.main_arg1)
          ∧ r.2.mem ((c.tc : Thread Cert.KernelRMIdeal.nD Cert.KernelRMIdeal.τ).loc Cert.KernelRMIdeal.main_arg2) = m ((c.tc : Thread Cert.KernelRMIdeal.nD Cert.KernelRMIdeal.τ).loc Cert.KernelRMIdeal.main_arg2))
      ∧ θ_run (Cert.ReferenceRMIdeal.defs (F := Ideal)) (onTc (τ := Cert.ReferenceRMIdeal.τ) (Cert.ReferenceRMIdeal.main (F := Ideal))) ⟨m', fun _ => 0, g'⟩ (fun r => ∀ c : Dev Cert.ReferenceRMIdeal.nD,
          r.2.mem ((c.tc : Thread Cert.ReferenceRMIdeal.nD Cert.ReferenceRMIdeal.τ).loc Cert.ReferenceRMIdeal.main_v17) = v0 c
          ∧ r.2.mem ((c.tc : Thread Cert.ReferenceRMIdeal.nD Cert.ReferenceRMIdeal.τ).loc Cert.ReferenceRMIdeal.main_arg0) = m' ((c.tc : Thread Cert.ReferenceRMIdeal.nD Cert.ReferenceRMIdeal.τ).loc Cert.ReferenceRMIdeal.main_arg0)
          ∧ r.2.mem ((c.tc : Thread Cert.ReferenceRMIdeal.nD Cert.ReferenceRMIdeal.τ).loc Cert.ReferenceRMIdeal.main_arg1) = m' ((c.tc : Thread Cert.ReferenceRMIdeal.nD Cert.ReferenceRMIdeal.τ).loc Cert.ReferenceRMIdeal.main_arg1)
          ∧ r.2.mem ((c.tc : Thread Cert.ReferenceRMIdeal.nD Cert.ReferenceRMIdeal.τ).loc Cert.ReferenceRMIdeal.main_arg2) = m' ((c.tc : Thread Cert.ReferenceRMIdeal.nD Cert.ReferenceRMIdeal.τ).loc Cert.ReferenceRMIdeal.main_arg2))

def preserves_KernelAT_KernelATIdeal : Prop :=
  IdealRules.named_const.Statement Cert.KernelATIdeal.κ "mask" .f32 0xF149F2CA#32 ⊥
  ∧ IdealRules.named_const.Statement Cert.KernelATIdeal.κ "scale" .f32 0x3DB504F3#32 (((Real.sqrt 128)⁻¹ : ℝ) : EReal)

def algebraic_KernelATIdeal_ReferenceATIdeal_pre_finite_scores [hKernelATIdeal : Cert.KernelATIdeal.Facts] [hReferenceATIdeal : Cert.ReferenceATIdeal.Facts] [hPre_finite_scores : Cert.Pre_finite_scores.Facts] : Prop :=
  ∀ (m : (ℓ : Loc Cert.KernelATIdeal.nD Cert.KernelATIdeal.τ Cert.KernelATIdeal.sig) → Buf (Elt Ideal) ℓ) (g : Dev Cert.KernelATIdeal.nD → PrngReg)
    (m' : (ℓ : Loc Cert.ReferenceATIdeal.nD Cert.ReferenceATIdeal.τ Cert.ReferenceATIdeal.sig) → Buf (Elt Ideal) ℓ) (g' : Dev Cert.ReferenceATIdeal.nD → PrngReg), Pre_KernelATIdeal_finite_scores m →
    (∀ c : Dev Cert.KernelATIdeal.nD,
      m' ((c.tc : Thread Cert.ReferenceATIdeal.nD Cert.ReferenceATIdeal.τ).loc Cert.ReferenceATIdeal.main_arg0) = m ((c.tc : Thread Cert.KernelATIdeal.nD Cert.KernelATIdeal.τ).loc Cert.KernelATIdeal.main_arg0)
      ∧ m' ((c.tc : Thread Cert.ReferenceATIdeal.nD Cert.ReferenceATIdeal.τ).loc Cert.ReferenceATIdeal.main_arg1) = m ((c.tc : Thread Cert.KernelATIdeal.nD Cert.KernelATIdeal.τ).loc Cert.KernelATIdeal.main_arg1)
      ∧ m' ((c.tc : Thread Cert.ReferenceATIdeal.nD Cert.ReferenceATIdeal.τ).loc Cert.ReferenceATIdeal.main_arg2) = m ((c.tc : Thread Cert.KernelATIdeal.nD Cert.KernelATIdeal.τ).loc Cert.KernelATIdeal.main_arg2)
      ∧ m' ((c.tc : Thread Cert.ReferenceATIdeal.nD Cert.ReferenceATIdeal.τ).loc Cert.ReferenceATIdeal.main_arg3) = m ((c.tc : Thread Cert.KernelATIdeal.nD Cert.KernelATIdeal.τ).loc Cert.KernelATIdeal.main_arg3)
      ∧ m' ((c.tc : Thread Cert.ReferenceATIdeal.nD Cert.ReferenceATIdeal.τ).loc Cert.ReferenceATIdeal.main_arg4) = m ((c.tc : Thread Cert.KernelATIdeal.nD Cert.KernelATIdeal.τ).loc Cert.KernelATIdeal.main_arg4)
      ∧ m' ((c.tc : Thread Cert.ReferenceATIdeal.nD Cert.ReferenceATIdeal.τ).loc Cert.ReferenceATIdeal.main_arg5) = m ((c.tc : Thread Cert.KernelATIdeal.nD Cert.KernelATIdeal.τ).loc Cert.KernelATIdeal.main_arg5)
      ∧ m' ((c.tc : Thread Cert.ReferenceATIdeal.nD Cert.ReferenceATIdeal.τ).loc Cert.ReferenceATIdeal.main_arg6) = m ((c.tc : Thread Cert.KernelATIdeal.nD Cert.KernelATIdeal.τ).loc Cert.KernelATIdeal.main_arg6)
      ∧ m' ((c.tc : Thread Cert.ReferenceATIdeal.nD Cert.ReferenceATIdeal.τ).loc Cert.ReferenceATIdeal.main_arg7) = m ((c.tc : Thread Cert.KernelATIdeal.nD Cert.KernelATIdeal.τ).loc Cert.KernelATIdeal.main_arg7)) →
    ∃ (v0 : (c : Dev Cert.KernelATIdeal.nD) → Buf (Elt Ideal) ((c.tc : Thread Cert.KernelATIdeal.nD Cert.KernelATIdeal.τ).loc Cert.KernelATIdeal.main_v20_0)) (v1 : (c : Dev Cert.KernelATIdeal.nD) → Buf (Elt Ideal) ((c.tc : Thread Cert.KernelATIdeal.nD Cert.KernelATIdeal.τ).loc Cert.KernelATIdeal.main_v20_1)) (v2 : (c : Dev Cert.KernelATIdeal.nD) → Buf (Elt Ideal) ((c.tc : Thread Cert.KernelATIdeal.nD Cert.KernelATIdeal.τ).loc Cert.KernelATIdeal.main_v20_2)) (v3 : (c : Dev Cert.KernelATIdeal.nD) → Buf (Elt Ideal) ((c.tc : Thread Cert.KernelATIdeal.nD Cert.KernelATIdeal.τ).loc Cert.KernelATIdeal.main_v20_3)) (v4 : (c : Dev Cert.KernelATIdeal.nD) → Buf (Elt Ideal) ((c.tc : Thread Cert.KernelATIdeal.nD Cert.KernelATIdeal.τ).loc Cert.KernelATIdeal.main_v20_4)) (v5 : (c : Dev Cert.KernelATIdeal.nD) → Buf (Elt Ideal) ((c.tc : Thread Cert.KernelATIdeal.nD Cert.KernelATIdeal.τ).loc Cert.KernelATIdeal.main_v20_5)) (v6 : (c : Dev Cert.KernelATIdeal.nD) → Buf (Elt Ideal) ((c.tc : Thread Cert.KernelATIdeal.nD Cert.KernelATIdeal.τ).loc Cert.KernelATIdeal.main_v20_6)),
      θ_run (Cert.KernelATIdeal.defs (F := Ideal)) (onTc (τ := Cert.KernelATIdeal.τ) (Cert.KernelATIdeal.main (F := Ideal))) ⟨m, fun _ => 0, g⟩ (fun r => ∀ c : Dev Cert.KernelATIdeal.nD,
          r.2.mem ((c.tc : Thread Cert.KernelATIdeal.nD Cert.KernelATIdeal.τ).loc Cert.KernelATIdeal.main_v20_0) = v0 c
          ∧ r.2.mem ((c.tc : Thread Cert.KernelATIdeal.nD Cert.KernelATIdeal.τ).loc Cert.KernelATIdeal.main_v20_1) = v1 c
          ∧ r.2.mem ((c.tc : Thread Cert.KernelATIdeal.nD Cert.KernelATIdeal.τ).loc Cert.KernelATIdeal.main_v20_2) = v2 c
          ∧ r.2.mem ((c.tc : Thread Cert.KernelATIdeal.nD Cert.KernelATIdeal.τ).loc Cert.KernelATIdeal.main_v20_3) = v3 c
          ∧ r.2.mem ((c.tc : Thread Cert.KernelATIdeal.nD Cert.KernelATIdeal.τ).loc Cert.KernelATIdeal.main_v20_4) = v4 c
          ∧ r.2.mem ((c.tc : Thread Cert.KernelATIdeal.nD Cert.KernelATIdeal.τ).loc Cert.KernelATIdeal.main_v20_5) = v5 c
          ∧ r.2.mem ((c.tc : Thread Cert.KernelATIdeal.nD Cert.KernelATIdeal.τ).loc Cert.KernelATIdeal.main_v20_6) = v6 c
          ∧ r.2.mem ((c.tc : Thread Cert.KernelATIdeal.nD Cert.KernelATIdeal.τ).loc Cert.KernelATIdeal.main_arg0) = m ((c.tc : Thread Cert.KernelATIdeal.nD Cert.KernelATIdeal.τ).loc Cert.KernelATIdeal.main_arg0)
          ∧ r.2.mem ((c.tc : Thread Cert.KernelATIdeal.nD Cert.KernelATIdeal.τ).loc Cert.KernelATIdeal.main_arg1) = m ((c.tc : Thread Cert.KernelATIdeal.nD Cert.KernelATIdeal.τ).loc Cert.KernelATIdeal.main_arg1)
          ∧ r.2.mem ((c.tc : Thread Cert.KernelATIdeal.nD Cert.KernelATIdeal.τ).loc Cert.KernelATIdeal.main_arg2) = m ((c.tc : Thread Cert.KernelATIdeal.nD Cert.KernelATIdeal.τ).loc Cert.KernelATIdeal.main_arg2)
          ∧ r.2.mem ((c.tc : Thread Cert.KernelATIdeal.nD Cert.KernelATIdeal.τ).loc Cert.KernelATIdeal.main_arg3) = m ((c.tc : Thread Cert.KernelATIdeal.nD Cert.KernelATIdeal.τ).loc Cert.KernelATIdeal.main_arg3)
          ∧ r.2.mem ((c.tc : Thread Cert.KernelATIdeal.nD Cert.KernelATIdeal.τ).loc Cert.KernelATIdeal.main_arg4) = m ((c.tc : Thread Cert.KernelATIdeal.nD Cert.KernelATIdeal.τ).loc Cert.KernelATIdeal.main_arg4)
          ∧ r.2.mem ((c.tc : Thread Cert.KernelATIdeal.nD Cert.KernelATIdeal.τ).loc Cert.KernelATIdeal.main_arg5) = m ((c.tc : Thread Cert.KernelATIdeal.nD Cert.KernelATIdeal.τ).loc Cert.KernelATIdeal.main_arg5)
          ∧ r.2.mem ((c.tc : Thread Cert.KernelATIdeal.nD Cert.KernelATIdeal.τ).loc Cert.KernelATIdeal.main_arg6) = m ((c.tc : Thread Cert.KernelATIdeal.nD Cert.KernelATIdeal.τ).loc Cert.KernelATIdeal.main_arg6)
          ∧ r.2.mem ((c.tc : Thread Cert.KernelATIdeal.nD Cert.KernelATIdeal.τ).loc Cert.KernelATIdeal.main_arg7) = m ((c.tc : Thread Cert.KernelATIdeal.nD Cert.KernelATIdeal.τ).loc Cert.KernelATIdeal.main_arg7))
      ∧ θ_run (Cert.ReferenceATIdeal.defs (F := Ideal)) (onTc (τ := Cert.ReferenceATIdeal.τ) (Cert.ReferenceATIdeal.main (F := Ideal))) ⟨m', fun _ => 0, g'⟩ (fun r => ∀ c : Dev Cert.ReferenceATIdeal.nD,
          r.2.mem ((c.tc : Thread Cert.ReferenceATIdeal.nD Cert.ReferenceATIdeal.τ).loc Cert.ReferenceATIdeal.main_v84) = v0 c
          ∧ r.2.mem ((c.tc : Thread Cert.ReferenceATIdeal.nD Cert.ReferenceATIdeal.τ).loc Cert.ReferenceATIdeal.main_v86) = v1 c
          ∧ r.2.mem ((c.tc : Thread Cert.ReferenceATIdeal.nD Cert.ReferenceATIdeal.τ).loc Cert.ReferenceATIdeal.main_v88) = v2 c
          ∧ r.2.mem ((c.tc : Thread Cert.ReferenceATIdeal.nD Cert.ReferenceATIdeal.τ).loc Cert.ReferenceATIdeal.main_v90) = v3 c
          ∧ r.2.mem ((c.tc : Thread Cert.ReferenceATIdeal.nD Cert.ReferenceATIdeal.τ).loc Cert.ReferenceATIdeal.main_v92) = v4 c
          ∧ r.2.mem ((c.tc : Thread Cert.ReferenceATIdeal.nD Cert.ReferenceATIdeal.τ).loc Cert.ReferenceATIdeal.main_v94) = v5 c
          ∧ r.2.mem ((c.tc : Thread Cert.ReferenceATIdeal.nD Cert.ReferenceATIdeal.τ).loc Cert.ReferenceATIdeal.main_v96) = v6 c
          ∧ r.2.mem ((c.tc : Thread Cert.ReferenceATIdeal.nD Cert.ReferenceATIdeal.τ).loc Cert.ReferenceATIdeal.main_arg0) = m' ((c.tc : Thread Cert.ReferenceATIdeal.nD Cert.ReferenceATIdeal.τ).loc Cert.ReferenceATIdeal.main_arg0)
          ∧ r.2.mem ((c.tc : Thread Cert.ReferenceATIdeal.nD Cert.ReferenceATIdeal.τ).loc Cert.ReferenceATIdeal.main_arg1) = m' ((c.tc : Thread Cert.ReferenceATIdeal.nD Cert.ReferenceATIdeal.τ).loc Cert.ReferenceATIdeal.main_arg1)
          ∧ r.2.mem ((c.tc : Thread Cert.ReferenceATIdeal.nD Cert.ReferenceATIdeal.τ).loc Cert.ReferenceATIdeal.main_arg2) = m' ((c.tc : Thread Cert.ReferenceATIdeal.nD Cert.ReferenceATIdeal.τ).loc Cert.ReferenceATIdeal.main_arg2)
          ∧ r.2.mem ((c.tc : Thread Cert.ReferenceATIdeal.nD Cert.ReferenceATIdeal.τ).loc Cert.ReferenceATIdeal.main_arg3) = m' ((c.tc : Thread Cert.ReferenceATIdeal.nD Cert.ReferenceATIdeal.τ).loc Cert.ReferenceATIdeal.main_arg3)
          ∧ r.2.mem ((c.tc : Thread Cert.ReferenceATIdeal.nD Cert.ReferenceATIdeal.τ).loc Cert.ReferenceATIdeal.main_arg4) = m' ((c.tc : Thread Cert.ReferenceATIdeal.nD Cert.ReferenceATIdeal.τ).loc Cert.ReferenceATIdeal.main_arg4)
          ∧ r.2.mem ((c.tc : Thread Cert.ReferenceATIdeal.nD Cert.ReferenceATIdeal.τ).loc Cert.ReferenceATIdeal.main_arg5) = m' ((c.tc : Thread Cert.ReferenceATIdeal.nD Cert.ReferenceATIdeal.τ).loc Cert.ReferenceATIdeal.main_arg5)
          ∧ r.2.mem ((c.tc : Thread Cert.ReferenceATIdeal.nD Cert.ReferenceATIdeal.τ).loc Cert.ReferenceATIdeal.main_arg6) = m' ((c.tc : Thread Cert.ReferenceATIdeal.nD Cert.ReferenceATIdeal.τ).loc Cert.ReferenceATIdeal.main_arg6)
          ∧ r.2.mem ((c.tc : Thread Cert.ReferenceATIdeal.nD Cert.ReferenceATIdeal.τ).loc Cert.ReferenceATIdeal.main_arg7) = m' ((c.tc : Thread Cert.ReferenceATIdeal.nD Cert.ReferenceATIdeal.τ).loc Cert.ReferenceATIdeal.main_arg7))

def Claim : Prop :=
  ∃ (hKernelRP : Cert.KernelRP.Facts) (hKernelRPIdeal : Cert.KernelRPIdeal.Facts) (hReferenceRPIdeal : Cert.ReferenceRPIdeal.Facts) (hKernelIP : Cert.KernelIP.Facts) (hKernelIPIdeal : Cert.KernelIPIdeal.Facts) (hReferenceIPIdeal : Cert.ReferenceIPIdeal.Facts) (hKernelSG : Cert.KernelSG.Facts) (hKernelSGIdeal : Cert.KernelSGIdeal.Facts) (hReferenceSGIdeal : Cert.ReferenceSGIdeal.Facts) (hKernelCA : Cert.KernelCA.Facts) (hKernelCAIdeal : Cert.KernelCAIdeal.Facts) (hReferenceCAIdeal : Cert.ReferenceCAIdeal.Facts) (hKernelRM : Cert.KernelRM.Facts) (hKernelRMIdeal : Cert.KernelRMIdeal.Facts) (hReferenceRMIdeal : Cert.ReferenceRMIdeal.Facts) (hKernelAT : Cert.KernelAT.Facts) (hKernelATIdeal : Cert.KernelATIdeal.Facts) (hReferenceATIdeal : Cert.ReferenceATIdeal.Facts) (hPre_finite_memory : Cert.Pre_finite_memory.Facts) (hPre_finite_scores : Cert.Pre_finite_scores.Facts),
    quiescent_KernelRP (hKernelRP := hKernelRP)
    ∧ quiescent_KernelRPIdeal (hKernelRPIdeal := hKernelRPIdeal)
    ∧ quiescent_ReferenceRPIdeal (hReferenceRPIdeal := hReferenceRPIdeal)
    ∧ quiescent_KernelIP (hKernelIP := hKernelIP)
    ∧ quiescent_KernelIPIdeal (hKernelIPIdeal := hKernelIPIdeal)
    ∧ quiescent_ReferenceIPIdeal (hReferenceIPIdeal := hReferenceIPIdeal)
    ∧ quiescent_KernelSG (hKernelSG := hKernelSG)
    ∧ quiescent_KernelSGIdeal (hKernelSGIdeal := hKernelSGIdeal)
    ∧ quiescent_ReferenceSGIdeal (hReferenceSGIdeal := hReferenceSGIdeal)
    ∧ quiescent_KernelCA (hKernelCA := hKernelCA)
    ∧ quiescent_KernelCAIdeal (hKernelCAIdeal := hKernelCAIdeal)
    ∧ quiescent_KernelCAIdeal_pre_finite_memory (hKernelCAIdeal := hKernelCAIdeal) (hPre_finite_memory := hPre_finite_memory)
    ∧ quiescent_ReferenceCAIdeal (hReferenceCAIdeal := hReferenceCAIdeal)
    ∧ quiescent_ReferenceCAIdeal_pre_finite_memory (hReferenceCAIdeal := hReferenceCAIdeal) (hPre_finite_memory := hPre_finite_memory)
    ∧ quiescent_KernelRM (hKernelRM := hKernelRM)
    ∧ quiescent_KernelRMIdeal (hKernelRMIdeal := hKernelRMIdeal)
    ∧ quiescent_ReferenceRMIdeal (hReferenceRMIdeal := hReferenceRMIdeal)
    ∧ quiescent_KernelAT (hKernelAT := hKernelAT)
    ∧ quiescent_KernelATIdeal (hKernelATIdeal := hKernelATIdeal)
    ∧ quiescent_KernelATIdeal_pre_finite_scores (hKernelATIdeal := hKernelATIdeal) (hPre_finite_scores := hPre_finite_scores)
    ∧ quiescent_ReferenceATIdeal (hReferenceATIdeal := hReferenceATIdeal)
    ∧ quiescent_ReferenceATIdeal_pre_finite_scores (hReferenceATIdeal := hReferenceATIdeal) (hPre_finite_scores := hPre_finite_scores)
    ∧ preserves_KernelRP_KernelRPIdeal
    ∧ algebraic_KernelRPIdeal_ReferenceRPIdeal (hKernelRPIdeal := hKernelRPIdeal) (hReferenceRPIdeal := hReferenceRPIdeal)
    ∧ preserves_KernelIP_KernelIPIdeal
    ∧ algebraic_KernelIPIdeal_ReferenceIPIdeal (hKernelIPIdeal := hKernelIPIdeal) (hReferenceIPIdeal := hReferenceIPIdeal)
    ∧ preserves_KernelSG_KernelSGIdeal
    ∧ algebraic_KernelSGIdeal_ReferenceSGIdeal (hKernelSGIdeal := hKernelSGIdeal) (hReferenceSGIdeal := hReferenceSGIdeal)
    ∧ preserves_KernelCA_KernelCAIdeal
    ∧ algebraic_KernelCAIdeal_ReferenceCAIdeal_pre_finite_memory (hKernelCAIdeal := hKernelCAIdeal) (hReferenceCAIdeal := hReferenceCAIdeal) (hPre_finite_memory := hPre_finite_memory)
    ∧ preserves_KernelRM_KernelRMIdeal
    ∧ algebraic_KernelRMIdeal_ReferenceRMIdeal (hKernelRMIdeal := hKernelRMIdeal) (hReferenceRMIdeal := hReferenceRMIdeal)
    ∧ preserves_KernelAT_KernelATIdeal
    ∧ algebraic_KernelATIdeal_ReferenceATIdeal_pre_finite_scores (hKernelATIdeal := hKernelATIdeal) (hReferenceATIdeal := hReferenceATIdeal) (hPre_finite_scores := hPre_finite_scores)
-- ==== Pre_finite_memory.lean ====
abbrev S8192x2048 : Shape := ⟨2, ![8192, 2048]⟩
abbrev S512x4096 : Shape := ⟨2, ![512, 4096]⟩
abbrev S_ : Shape := ⟨0, ![]⟩
abbrev S512x2048 : Shape := ⟨2, ![512, 2048]⟩

class Facts : Prop where
  bitsLt_bf16_f32 : FTy.bits .bf16 < FTy.bits .f32
  bcast_S_S8192x2048 : S_.BroadcastsInDim S8192x2048 (![] : Fin 0 → Fin S8192x2048.rank)
  slices_S512x4096_S512x2048_0_0 : S512x4096.Slices ![0, 0] S512x2048
  bcast_S_S512x2048 : S_.BroadcastsInDim S512x2048 (![] : Fin 0 → Fin S512x2048.rank)

variable [Facts]

def fn {F : FTy → Type} [FloatOps F] (main_arg0 : FVec F S8192x2048 .bf16) (main_arg1 : FVec F S512x4096 .bf16) : IVec S8192x2048 1 × IVec S512x2048 1 :=
  let main_v0 : FVec F S8192x2048 .f32 := (extf .f32 · bitsLt_bf16_f32) main_arg0
  let main_v1 : FVec F S8192x2048 .f32 := Host.absf main_v0
  let main_cst : FVec F S_ .f32 := constant S_ .f32 0x7F800000#32
  let main_v2 : FVec F S8192x2048 .f32 := broadcastInDim S8192x2048 ![] bcast_S_S8192x2048 main_cst
  let main_v3 : IVec S8192x2048 1 := cmpf .olt main_v1 main_v2
  let main_v4 : FVec F S512x2048 .bf16 := (extractStridedSlice S512x2048 ![0, 0] · slices_S512x4096_S512x2048_0_0) main_arg1
  let main_v5 : FVec F S512x2048 .f32 := (extf .f32 · bitsLt_bf16_f32) main_v4
  let main_v6 : FVec F S512x2048 .f32 := Host.absf main_v5
  let main_cst_0 : FVec F S_ .f32 := constant S_ .f32 0x7F800000#32
  let main_v7 : FVec F S512x2048 .f32 := broadcastInDim S512x2048 ![] bcast_S_S512x2048 main_cst_0
  let main_v8 : IVec S512x2048 1 := cmpf .olt main_v6 main_v7
  (main_v3, main_v8)
-- ==== Pre_finite_scores.lean ====
abbrev S8192x3072 : Shape := ⟨2, ![8192, 3072]⟩
abbrev S1x8x257 : Shape := ⟨3, ![1, 8, 257]⟩
abbrev S1x1024x2048 : Shape := ⟨3, ![1, 1024, 2048]⟩
abbrev S1x2048x2048 : Shape := ⟨3, ![1, 2048, 2048]⟩
abbrev S8192x2048 : Shape := ⟨2, ![8192, 2048]⟩
abbrev S_ : Shape := ⟨0, ![]⟩

class Facts : Prop where
  slices_S8192x3072_S8192x2048_0_0 : S8192x3072.Slices ![0, 0] S8192x2048
  bitsLt_bf16_f32 : FTy.bits .bf16 < FTy.bits .f32
  bcast_S_S8192x2048 : S_.BroadcastsInDim S8192x2048 (![] : Fin 0 → Fin S8192x2048.rank)
  bcast_S_S1x8x257 : S_.BroadcastsInDim S1x8x257 (![] : Fin 0 → Fin S1x8x257.rank)

variable [Facts]

def fn {F : FTy → Type} [FloatOps F] (main_arg0 : FVec F S8192x3072 .bf16) (main_arg1 : FVec F S1x8x257 .f32) (main_arg2 : FVec F S1x1024x2048 .f32) (main_arg3 : FVec F S1x1024x2048 .f32) (main_arg4 : FVec F S1x2048x2048 .f32) (main_arg5 : FVec F S1x2048x2048 .f32) (main_arg6 : FVec F S1x2048x2048 .f32) (main_arg7 : FVec F S1x2048x2048 .f32) : IVec S8192x2048 1 × IVec S1x8x257 1 :=
  let main_v0 : FVec F S8192x2048 .bf16 := (extractStridedSlice S8192x2048 ![0, 0] · slices_S8192x3072_S8192x2048_0_0) main_arg0
  let main_v1 : FVec F S8192x2048 .f32 := (extf .f32 · bitsLt_bf16_f32) main_v0
  let main_v2 : FVec F S8192x2048 .f32 := Host.absf main_v1
  let main_cst : FVec F S_ .f32 := constant S_ .f32 0x7F800000#32
  let main_v3 : FVec F S8192x2048 .f32 := broadcastInDim S8192x2048 ![] bcast_S_S8192x2048 main_cst
  let main_v4 : IVec S8192x2048 1 := cmpf .olt main_v2 main_v3
  let main_v5 : FVec F S1x8x257 .f32 := Host.absf main_arg1
  let main_cst_0 : FVec F S_ .f32 := constant S_ .f32 0x7F800000#32
  let main_v6 : FVec F S1x8x257 .f32 := broadcastInDim S1x8x257 ![] bcast_S_S1x8x257 main_cst_0
  let main_v7 : IVec S1x8x257 1 := cmpf .olt main_v5 main_v6
  (main_v4, main_v7)
-- ==== KernelRP.lean ====
abbrev S8192x2048 : Shape := ⟨2, ![8192, 2048]⟩
abbrev S2048x2048 : Shape := ⟨2, ![2048, 2048]⟩
abbrev S1x2048 : Shape := ⟨2, ![1, 2048]⟩
abbrev S2048 : Shape := ⟨1, ![2048]⟩
abbrev S512x2048 : Shape := ⟨2, ![512, 2048]⟩
abbrev S512 : Shape := ⟨1, ![512]⟩
abbrev S512x1 : Shape := ⟨2, ![512, 1]⟩

abbrev nBuf : Space → Nat
  | .hbm => 9
  | .vmem => 11
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S1x2048, .f32⟩
  | .hbm, ⟨4, _⟩ => ⟨S2048x2048, .bf16⟩
  | .hbm, ⟨5, _⟩ => ⟨S2048, .f32⟩
  | .hbm, ⟨6, _⟩ => ⟨S1x2048, .f32⟩
  | .hbm, ⟨7, _⟩ => ⟨S8192x2048, .f32⟩
  | .hbm, ⟨8, _⟩ => ⟨S8192x2048, .bf16⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S2048x2048, .bf16⟩
  | .local _ .vmem, ⟨7, _⟩ => ⟨S512x2048, .f32⟩
  | .local _ .vmem, ⟨8, _⟩ => ⟨S512x2048, .f32⟩
  | .local _ .vmem, ⟨9, _⟩ => ⟨S512x2048, .bf16⟩
  | .local _ .vmem, ⟨10, _⟩ => ⟨S512x2048, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceRPIdeal.lean ====
abbrev S8192x2048 : Shape := ⟨2, ![8192, 2048]⟩
abbrev S2048x2048 : Shape := ⟨2, ![2048, 2048]⟩
abbrev S1x2048 : Shape := ⟨2, ![1, 2048]⟩
abbrev S2048 : Shape := ⟨1, ![2048]⟩
abbrev S_ : Shape := ⟨0, ![]⟩
abbrev S8192 : Shape := ⟨1, ![8192]⟩
abbrev S8192x1 : Shape := ⟨2, ![8192, 1]⟩

abbrev nBuf : Space → Nat
  | .hbm => 29
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S1x2048, .f32⟩
  | .hbm, ⟨4, _⟩ => ⟨S2048x2048, .bf16⟩
  | .hbm, ⟨5, _⟩ => ⟨S8192x2048, .f32⟩
  | .hbm, ⟨6, _⟩ => ⟨S2048x2048, .f32⟩
  | .hbm, ⟨7, _⟩ => ⟨S8192x2048, .f32⟩
  | .hbm, ⟨8, _⟩ => ⟨S8192x2048, .f32⟩
  | .hbm, ⟨9, _⟩ => ⟨S2048, .f32⟩
  | .hbm, ⟨10, _⟩ => ⟨S8192x2048, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S8192x2048, .f32⟩
  | .hbm, ⟨22, _⟩ => ⟨S8192x2048, .f32⟩
  | .hbm, ⟨23, _⟩ => ⟨S1x2048, .f32⟩
  | .hbm, ⟨24, _⟩ => ⟨S8192x2048, .f32⟩
  | .hbm, ⟨25, _⟩ => ⟨S8192x2048, .f32⟩
  | .hbm, ⟨26, _⟩ => ⟨S2048x2048, .f32⟩
  | .hbm, ⟨27, _⟩ => ⟨S8192x2048, .f32⟩
  | .hbm, ⟨28, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]
-- ==== KernelIP.lean ====
abbrev S2x4096x2048 : Shape := ⟨3, ![2, 4096, 2048]⟩
abbrev S1x2048 : Shape := ⟨2, ![1, 2048]⟩
abbrev S1x2048x9216 : Shape := ⟨3, ![1, 2048, 9216]⟩
abbrev S8192x2048 : Shape := ⟨2, ![8192, 2048]⟩
abbrev S2048 : Shape := ⟨1, ![2048]⟩
abbrev S2048x9216 : Shape := ⟨2, ![2048, 9216]⟩
abbrev S8192x3072 : Shape := ⟨2, ![8192, 3072]⟩
abbrev S8192x4096 : Shape := ⟨2, ![8192, 4096]⟩
abbrev S1024x2048 : Shape := ⟨2, ![1024, 2048]⟩
abbrev S2048x1024 : Shape := ⟨2, ![2048, 1024]⟩
abbrev S1024x1024 : Shape := ⟨2, ![1024, 1024]⟩
abbrev S1024 : Shape := ⟨1, ![1024]⟩
abbrev S1024x1 : Shape := ⟨2, ![1024, 1]⟩
abbrev S2048x512 : Shape := ⟨2, ![2048, 512]⟩
abbrev S1024x512 : Shape := ⟨2, ![1024, 512]⟩

abbrev nBuf : Space → Nat
  | .hbm => 10
  | .vmem => 12
  | .smem => 0
  | _ => 0

abbrev bufTy : (tb : Table) → Fin (tcTables nBuf tb) → BufTy
  | .hbm, ⟨0, _⟩ => ⟨S2x4096x2048, .f32⟩
  | .hbm, ⟨1, _⟩ => ⟨S1x2048, .f32⟩
  | .hbm, ⟨2, _⟩ => ⟨S1x2048x9216, .f32⟩
  | .hbm, ⟨3, _⟩ => ⟨S8192x2048, .f32⟩
  | .hbm, ⟨4, _⟩ => ⟨S2048, .f32⟩
  | .hbm, ⟨5, _⟩ => ⟨S2048x9216, .f32⟩
  | .hbm, ⟨6, _⟩ => ⟨S1x2048, .f32⟩
  | .hbm, ⟨7, _⟩ => ⟨S8192x2048, .bf16⟩
  | .hbm, ⟨8, _⟩ => ⟨S8192x3072, .bf16⟩
  | .hbm, ⟨9, _⟩ => ⟨S8192x4096, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x1024, .f32⟩
  | .local _ .vmem, ⟨4, _⟩ => ⟨S2048x1024, .f32⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x2048, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev main_v4_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![8, 9], ![false, false]⟩

def k0_cond2 (i : grid0.Coords) : BitVec 1 :=
  let arg1 : BitVec 32 := BitVec.ofNat 32 (i 1).val
  let c2_i32 : BitVec 32 := 2#32
  let v3 : BitVec 1 := Scalar.cmpi .slt arg1 c2_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg1 : BitVec 32 := BitVec.ofNat 32 (i 1).val
  let c2_i32_2 : BitVec 32 := 2#32
  let v6 : BitVec 1 := Scalar.cmpi .sge arg1 c2_i32_2
  let c5_i32 : BitVec 32 := 5#32
  let v7 : BitVec 1 := Scalar.cmpi .slt arg1 c5_i32
  let v8 : BitVec 1 := Scalar.andi v6 v7
  let v9 : BitVec 32 := Scalar.extui v8
  let c0_i32_3 : BitVec 32 := 0#32
  let v10 : BitVec 1 := Scalar.cmpi .ne v9 c0_i32_3
  v10

def k0_cond4 (i : grid0.Coords) : BitVec 1 :=
  let arg1 : BitVec 32 := BitVec.ofNat 32 (i 1).val
  let c5_i32_4 : BitVec 32 := 5#32
  let v11 : BitVec 1 := Scalar.cmpi .sge arg1 c5_i32_4
  let v12 : BitVec 32 := Scalar.extui v11
  let c0_i32_5 : BitVec 32 := 0#32
  let v13 : BitVec 1 := Scalar.cmpi .ne v12 c0_i32_5
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.minsi arg1 c1_i32
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c0_i32 : BitVec 32 := 0#32
  let c2_i32_0 : BitVec 32 := 2#32
  let v1 : BitVec 32 := Scalar.maxsi c0_i32 v0
  let v2 : BitVec 32 := Scalar.minsi c2_i32_0 v1
  let c0_i32_1 : BitVec 32 := 0#32
  ![arg0.toNat, v2.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c3_i32 : BitVec 32 := 3#32
  let v1 : BitVec 32 := Scalar.subi v0 c3_i32
  let c0_i32 : BitVec 32 := 0#32
  let v2 : BitVec 32 := Scalar.maxsi v1 c0_i32
  let c0_i32_0 : BitVec 32 := 0#32
  ![arg0.toNat, v2.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIPIdeal.lean ====
abbrev S2x4096x2048 : Shape := ⟨3, ![2, 4096, 2048]⟩
abbrev S1x2048 : Shape := ⟨2, ![1, 2048]⟩
abbrev S1x2048x9216 : Shape := ⟨3, ![1, 2048, 9216]⟩
abbrev S2048 : Shape := ⟨1, ![2048]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S2048x9216 : Shape := ⟨2, ![2048, 9216]⟩
abbrev S2x4096x9216 : Shape := ⟨3, ![2, 4096, 9216]⟩
abbrev S2x4096x1024 : Shape := ⟨3, ![2, 4096, 1024]⟩
abbrev S2x4096x3072 : Shape := ⟨3, ![2, 4096, 3072]⟩
abbrev S2x4096x4096 : Shape := ⟨3, ![2, 4096, 4096]⟩
abbrev S8192x2048 : Shape := ⟨2, ![8192, 2048]⟩
abbrev S8192x3072 : Shape := ⟨2, ![8192, 3072]⟩
abbrev S8192x4096 : Shape := ⟨2, ![8192, 4096]⟩

abbrev nBuf : Space → Nat
  | .hbm => 72
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S1x2048, .f32⟩
  | .hbm, ⟨2, _⟩ => ⟨S1x2048x9216, .f32⟩
  | .hbm, ⟨3, _⟩ => ⟨S2048, .f32⟩
  | .hbm, ⟨4, _⟩ => ⟨S2x4096x2048, .f32⟩
  | .hbm, ⟨5, _⟩ => ⟨S_, .f32⟩
  | .hbm, ⟨6, _⟩ => ⟨S2x4096, .f32⟩
  | .hbm, ⟨7, _⟩ => ⟨S2x4096x1, .f32⟩
  | .hbm, ⟨8, _⟩ => ⟨S_, .f32⟩
  | .hbm, ⟨9, _⟩ => ⟨S2x4096x1, .f32⟩
  | .hbm, ⟨10, _⟩ => ⟨S2x4096x1, .f32⟩
  | .hbm, ⟨11, _⟩ => ⟨S_, .f32⟩
  | .hbm, ⟨12, _⟩ => ⟨S2x4096x1, .f32⟩
  | .hbm, ⟨13, _⟩ => ⟨S2x4096x1, .f32⟩
  | .hbm, ⟨14, _⟩ => ⟨S2x4096x1, .f32⟩
  | .hbm, ⟨15, _⟩ => ⟨S2x4096x2048, .f32⟩
  | .hbm, ⟨16, _⟩ => ⟨S2x4096x2048, .f32⟩
  | .hbm, ⟨17, _⟩ => ⟨S1x1x2048, .f32⟩
  | .hbm, ⟨18, _⟩ => ⟨S2x4096x2048, .f32⟩
  | .hbm, ⟨19, _⟩ => ⟨S2x4096x2048, .f32⟩
  | .hbm, ⟨20, _⟩ => ⟨S2048x9216, .f32⟩
  | .hbm, ⟨21, _⟩ => ⟨S2x4096x9216, .f32⟩
  | .hbm, ⟨22, _⟩ => ⟨S2x4096x1024, .f32⟩
  | .hbm, ⟨23, _⟩ => ⟨S2x4096x1024, .f32⟩
  | .hbm, ⟨24, _⟩ => ⟨S2x4096x1024, .f32⟩
  | .hbm, ⟨25, _⟩ => ⟨S2x4096x1024, .f32⟩
  | .hbm, ⟨26, _⟩ => ⟨S2x4096x1024, .f32⟩
  | .hbm, ⟨27, _⟩ => ⟨S2x4096x2048, .f32⟩
  | .hbm, ⟨28, _⟩ => ⟨S2x4096x2048, .f32⟩
  | .hbm, ⟨29, _⟩ => ⟨S_, .f32⟩
  | .hbm, ⟨30, _⟩ => ⟨S2x4096x1024, .f32⟩
  | .hbm, ⟨31, _⟩ => ⟨S2x4096x1024, .f32⟩
  | .hbm, ⟨32, _⟩ => ⟨S2x4096x1024, .f32⟩
  | .hbm, ⟨33, _⟩ => ⟨S_, .f32⟩
  | .hbm, ⟨34, _⟩ => ⟨S2x4096x1024, .f32⟩
  | .hbm, ⟨35, _⟩ => ⟨S2x4096x1024, .f32⟩
  | .hbm, ⟨36, _⟩ => ⟨S2x4096x1024, .f32⟩
  | .hbm, ⟨37, _⟩ => ⟨S2x4096x1024, .f32⟩
  | .hbm, ⟨38, _⟩ => ⟨S_, .f32⟩
  | .hbm, ⟨39, _⟩ => ⟨S2x4096x1024, .f32⟩
  | .hbm, ⟨40, _⟩ => ⟨S2x4096x1024, .f32⟩
  | .hbm, ⟨41, _⟩ => ⟨S2x4096x1024, .f32⟩
  | .hbm, ⟨42, _⟩ => ⟨S_, .f32⟩
  | .hbm, ⟨43, _⟩ => ⟨S2x4096x1024, .f32⟩
  | .hbm, ⟨44, _⟩ => ⟨S2x4096x1024, .f32⟩
  | .hbm, ⟨45, _⟩ => ⟨S2x4096x1024, .f32⟩
  | .hbm, ⟨46, _⟩ => ⟨S2x4096x1024, .f32⟩
  | .hbm, ⟨47, _⟩ => ⟨S2x4096x2048, .f32⟩
  | .hbm, ⟨48, _⟩ => ⟨S2x4096x3072, .f32⟩
  | .hbm, ⟨49, _⟩ => ⟨S2x4096x2048, .f32⟩
  | .hbm, ⟨50, _⟩ => ⟨S2x4096x2048, .f32⟩
  | .hbm, ⟨51, _⟩ => ⟨S_, .f32⟩
  | .hbm, ⟨52, _⟩ => ⟨S2x4096x2048, .f32⟩
  | .hbm, ⟨53, _⟩ => ⟨S2x4096x2048, .f32⟩
  | .hbm, ⟨54, _⟩ => ⟨S_, .f32⟩
  | .hbm, ⟨55, _⟩ => ⟨S2x4096x2048, .f32⟩
  | .hbm, ⟨56, _⟩ => ⟨S2x4096x2048, .f32⟩
  | .hbm, ⟨57, _⟩ => ⟨S2x4096x2048, .f32⟩
  | .hbm, ⟨58, _⟩ => ⟨S2x4096x2048, .f32⟩
  | .hbm, ⟨59, _⟩ => ⟨S_, .f32⟩
  | .hbm, ⟨60, _⟩ => ⟨S2x4096x2048, .f32⟩
  | .hbm, ⟨61, _⟩ => ⟨S2x4096x2048, .f32⟩
  | .hbm, ⟨62, _⟩ => ⟨S_, .f32⟩
  | .hbm, ⟨63, _⟩ => ⟨S2x4096x2048, .f32⟩
  | .hbm, ⟨64, _⟩ => ⟨S2x4096x2048, .f32⟩
  | .hbm, ⟨65, _⟩ => ⟨S2x4096x4096, .f32⟩
  | .hbm, ⟨66, _⟩ => ⟨S8192x2048, .f32⟩
  | .hbm, ⟨67, _⟩ => ⟨S8192x2048, .bf16⟩
  | .hbm, ⟨68, _⟩ => ⟨S8192x3072, .f32⟩
  | .hbm, ⟨69, _⟩ => ⟨S8192x3072, .bf16⟩
  | .hbm, ⟨70, _⟩ => ⟨S8192x4096, .f32⟩
  | .hbm, ⟨71, _⟩ => ⟨S8192x4096, .bf16⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_2 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_cst_3 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_cst_4 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_cst_5 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_cst_6 : Ref sig .tc := ⟨.hbm, 51, rfl⟩
abbrev main_v41 : Ref sig .tc := ⟨.hbm, 52, rfl⟩
abbrev main_v42 : Ref sig .tc := ⟨.hbm, 53, rfl⟩
abbrev main_cst_7 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_cst_8 : Ref sig .tc := ⟨.hbm, 59, rfl⟩
abbrev main_v47 : Ref sig .tc := ⟨.hbm, 60, rfl⟩
abbrev main_v48 : Ref sig .tc := ⟨.hbm, 61, rfl⟩
abbrev main_cst_9 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩

abbrev nD : Nat := 1
abbrev τ : Topo := Topo.v7x

variable {F : FTy → Type} [FloatOps F]
-- ==== KernelSG.lean ====
abbrev S8192x2048 : Shape := ⟨2, ![8192, 2048]⟩
abbrev S1x1024 : Shape := ⟨2, ![1, 1024]⟩
abbrev S1x4x128x128 : Shape := ⟨4, ![1, 4, 128, 128]⟩
abbrev S1x4x128 : Shape := ⟨3, ![1, 4, 128]⟩
abbrev S8192x1024 : Shape := ⟨2, ![8192, 1024]⟩
abbrev S1024x2048 : Shape := ⟨2, ![1024, 2048]⟩
abbrev S8192x4096 : Shape := ⟨2, ![8192, 4096]⟩
abbrev S1024 : Shape := ⟨1, ![1024]⟩
abbrev S4x128x128 : Shape := ⟨3, ![4, 128, 128]⟩
abbrev S4x128 : Shape := ⟨2, ![4, 128]⟩
abbrev S128x4 : Shape := ⟨2, ![128, 4]⟩
abbrev S512x1024 : Shape := ⟨2, ![512, 1024]⟩
abbrev S512x2048 : Shape := ⟨2, ![512, 2048]⟩
abbrev S512 : Shape := ⟨1, ![512]⟩
abbrev S512x1 : Shape := ⟨2, ![512, 1]⟩
abbrev S128x128 : Shape := ⟨2, ![128, 128]⟩
abbrev S1x128x128 : Shape := ⟨3, ![1, 128, 128]⟩
abbrev S128x1 : Shape := ⟨2, ![128, 1]⟩
abbrev S128x256 : Shape := ⟨2, ![128, 256]⟩

abbrev nBuf : Space → Nat
  | .hbm => 17
  | .vmem => 20
  | .smem => 0
  | _ => 0

abbrev bufTy : (tb : Table) → Fin (tcTables nBuf tb) → BufTy
  | .hbm, ⟨0, _⟩ => ⟨S8192x2048, .bf16⟩
  | .hbm, ⟨1, _⟩ => ⟨S1x1024, .f32⟩
  | .hbm, ⟨2, _⟩ => ⟨S1x1024, .f32⟩
  | .hbm, ⟨3, _⟩ => ⟨S1x4x128x128, .f32⟩
  | .hbm, ⟨4, _⟩ => ⟨S1x4x128, .f32⟩
  | .hbm, ⟨5, _⟩ => ⟨S8192x1024, .bf16⟩
  | .hbm, ⟨6, _⟩ => ⟨S1024x2048, .bf16⟩
  | .hbm, ⟨7, _⟩ => ⟨S1024x2048, .bf16⟩
  | .hbm, ⟨8, _⟩ => ⟨S8192x4096, .bf16⟩
  | .hbm, ⟨9, _⟩ => ⟨S1024, .f32⟩
  | .hbm, ⟨10, _⟩ => ⟨S1024, .f32⟩
  | .hbm, ⟨11, _⟩ => ⟨S4x128x128, .f32⟩
  | .hbm, ⟨12, _⟩ => ⟨S4x128, .f32⟩
  | .hbm, ⟨13, _⟩ => ⟨S1x1024, .f32⟩
  | .hbm, ⟨14, _⟩ => ⟨S1x1024, .f32⟩
  | .hbm, ⟨15, _⟩ => ⟨S128x4, .f32⟩
  | .hbm, ⟨16, _⟩ => ⟨S8192x2048, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1x1024, .f32⟩
  | .local _ .vmem, ⟨5, _⟩ => ⟨S1x1024, .f32⟩
  | .local _ .vmem, ⟨6, _⟩ => ⟨S4x128x128, .f32⟩
  | .local _ .vmem, ⟨7, _⟩ => ⟨S128x4, .f32⟩
  | .local _ .vmem, ⟨8, _⟩ => ⟨S512x1024, .bf16⟩
  | .local _ .vmem, ⟨9, _⟩ => ⟨S512x1024, .bf16⟩
  | .local _ .vmem, ⟨10, _⟩ => ⟨S1024x2048, .bf16⟩
  | .local _ .vmem, ⟨11, _⟩ => ⟨S1024x2048, .bf16⟩
  | .local _ .vmem, ⟨12, _⟩ => ⟨S512x2048, .bf16⟩
  | .local _ .vmem, ⟨13, _⟩ => ⟨S512x2048, .bf16⟩
  | .local _ .vmem, ⟨14, _⟩ => ⟨S512x2048, .bf16⟩
  | .local _ .vmem, ⟨15, _⟩ => ⟨S512x2048, .bf16⟩
  | .local _ .vmem, ⟨16, _⟩ => ⟨S512x2048, .bf16⟩
  | .local _ .vmem, ⟨17, _⟩ => ⟨S512x2048, .bf16⟩
  | .local _ .vmem, ⟨18, _⟩ => ⟨S512x1024, .bf16⟩
  | .local _ .vmem, ⟨19, _⟩ => ⟨S512x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x4 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1024x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== ReferenceSGIdeal.lean ====
abbrev S8192x2048 : Shape := ⟨2, ![8192, 2048]⟩
abbrev S1x1024 : Shape := ⟨2, ![1, 1024]⟩
abbrev S1x4x128x128 : Shape := ⟨4, ![1, 4, 128, 128]⟩
abbrev S1x4x128 : Shape := ⟨3, ![1, 4, 128]⟩
abbrev S8192x1024 : Shape := ⟨2, ![8192, 1024]⟩
abbrev S1024x2048 : Shape := ⟨2, ![1024, 2048]⟩
abbrev S8192x4096 : Shape := ⟨2, ![8192, 4096]⟩
abbrev S2x4096x2048 : Shape := ⟨3, ![2, 4096, 2048]⟩
abbrev S2x4096x1024 : Shape := ⟨3, ![2, 4096, 1024]⟩
abbrev S1024 : Shape := ⟨1, ![1024]⟩
abbrev S4x128x128 : Shape := ⟨3, ![4, 128, 128]⟩
abbrev S4x128 : Shape := ⟨2, ![4, 128]⟩
abbrev S_ : Shape := ⟨0, ![]⟩
abbrev S2x4096 : Shape := ⟨2, ![2, 4096]⟩
abbrev S2x4096x1 : Shape := ⟨3, ![2, 4096, 1]⟩
abbrev S1x1x1024 : Shape := ⟨3, ![1, 1, 1024]⟩
abbrev S2x32x128x4x256 : Shape := ⟨5, ![2, 32, 128, 4, 256]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x128x128 : Shape := ⟨3, ![1, 128, 128]⟩
abbrev S4x2x32x256x128 : Shape := ⟨5, ![4, 2, 32, 256, 128]⟩
abbrev S128x4 : Shape := ⟨2, ![128, 4]⟩
abbrev S128x4x1 : Shape := ⟨3, ![128, 4, 1]⟩
abbrev S1x1x128x4x1 : Shape := ⟨5, ![1, 1, 128, 4, 1]⟩

abbrev nBuf : Space → Nat
  | .hbm => 97
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S1x1024, .f32⟩
  | .hbm, ⟨2, _⟩ => ⟨S1x1024, .f32⟩
  | .hbm, ⟨3, _⟩ => ⟨S1x4x128x128, .f32⟩
  | .hbm, ⟨4, _⟩ => ⟨S1x4x128, .f32⟩
  | .hbm, ⟨5, _⟩ => ⟨S8192x1024, .bf16⟩
  | .hbm, ⟨6, _⟩ => ⟨S1024x2048, .bf16⟩
  | .hbm, ⟨7, _⟩ => ⟨S1024x2048, .bf16⟩
  | .hbm, ⟨8, _⟩ => ⟨S8192x4096, .bf16⟩
  | .hbm, ⟨9, _⟩ => ⟨S8192x2048, .f32⟩
  | .hbm, ⟨10, _⟩ => ⟨S2x4096x2048, .f32⟩
  | .hbm, ⟨11, _⟩ => ⟨S2x4096x1024, .f32⟩
  | .hbm, ⟨12, _⟩ => ⟨S2x4096x1024, .f32⟩
  | .hbm, ⟨13, _⟩ => ⟨S8192x4096, .f32⟩
  | .hbm, ⟨14, _⟩ => ⟨S8192x2048, .f32⟩
  | .hbm, ⟨15, _⟩ => ⟨S8192x2048, .f32⟩
  | .hbm, ⟨16, _⟩ => ⟨S1024, .f32⟩
  | .hbm, ⟨17, _⟩ => ⟨S1024, .f32⟩
  | .hbm, ⟨18, _⟩ => ⟨S4x128x128, .f32⟩
  | .hbm, ⟨19, _⟩ => ⟨S4x128, .f32⟩
  | .hbm, ⟨20, _⟩ => ⟨S_, .f32⟩
  | .hbm, ⟨21, _⟩ => ⟨S2x4096, .f32⟩
  | .hbm, ⟨22, _⟩ => ⟨S2x4096x1, .f32⟩
  | .hbm, ⟨23, _⟩ => ⟨S_, .f32⟩
  | .hbm, ⟨24, _⟩ => ⟨S2x4096x1, .f32⟩
  | .hbm, ⟨25, _⟩ => ⟨S2x4096x1, .f32⟩
  | .hbm, ⟨26, _⟩ => ⟨S2x4096x1024, .f32⟩
  | .hbm, ⟨27, _⟩ => ⟨S2x4096x1024, .f32⟩
  | .hbm, ⟨28, _⟩ => ⟨S2x4096x1024, .f32⟩
  | .hbm, ⟨29, _⟩ => ⟨S_, .f32⟩
  | .hbm, ⟨30, _⟩ => ⟨S2x4096, .f32⟩
  | .hbm, ⟨31, _⟩ => ⟨S2x4096x1, .f32⟩
  | .hbm, ⟨32, _⟩ => ⟨S_, .f32⟩
  | .hbm, ⟨33, _⟩ => ⟨S2x4096x1, .f32⟩
  | .hbm, ⟨34, _⟩ => ⟨S2x4096x1, .f32⟩
  | .hbm, ⟨35, _⟩ => ⟨S2x4096x1024, .f32⟩
  | .hbm, ⟨36, _⟩ => ⟨S2x4096x1024, .f32⟩
  | .hbm, ⟨37, _⟩ => ⟨S_, .f32⟩
  | .hbm, ⟨38, _⟩ => ⟨S2x4096x1, .f32⟩
  | .hbm, ⟨39, _⟩ => ⟨S2x4096x1, .f32⟩
  | .hbm, ⟨40, _⟩ => ⟨S2x4096x1, .f32⟩
  | .hbm, ⟨41, _⟩ => ⟨S2x4096x1024, .f32⟩
  | .hbm, ⟨42, _⟩ => ⟨S2x4096x1024, .f32⟩
  | .hbm, ⟨43, _⟩ => ⟨S1x1x1024, .f32⟩
  | .hbm, ⟨44, _⟩ => ⟨S2x4096x1024, .f32⟩
  | .hbm, ⟨45, _⟩ => ⟨S2x4096x1024, .f32⟩
  | .hbm, ⟨46, _⟩ => ⟨S1x1x1024, .f32⟩
  | .hbm, ⟨47, _⟩ => ⟨S2x4096x1024, .f32⟩
  | .hbm, ⟨48, _⟩ => ⟨S2x4096x1024, .f32⟩
  | .hbm, ⟨49, _⟩ => ⟨S2x32x128x4x256, .f32⟩
  | .hbm, ⟨50, _⟩ => ⟨S128, .i32⟩
  | .hbm, ⟨51, _⟩ => ⟨S_, .i32⟩
  | .hbm, ⟨52, _⟩ => ⟨S_, .i32⟩
  | .hbm, ⟨53, _⟩ => ⟨S128, .i32⟩
  | .hbm, ⟨54, _⟩ => ⟨S128, .i32⟩
  | .hbm, ⟨55, _⟩ => ⟨S128, .i32⟩
  | .hbm, ⟨56, _⟩ => ⟨S_, .i32⟩
  | .hbm, ⟨57, _⟩ => ⟨S128, .i32⟩
  | .hbm, ⟨58, _⟩ => ⟨S128, .i1⟩
  | .hbm, ⟨59, _⟩ => ⟨S128, .i32⟩
  | .hbm, ⟨60, _⟩ => ⟨S128, .i32⟩
  | .hbm, ⟨61, _⟩ => ⟨S_, .i32⟩
  | .hbm, ⟨62, _⟩ => ⟨S128, .i32⟩
  | .hbm, ⟨63, _⟩ => ⟨S128, .i1⟩
  | .hbm, ⟨64, _⟩ => ⟨S128, .i1⟩
  | .hbm, ⟨65, _⟩ => ⟨S_, .i32⟩
  | .hbm, ⟨66, _⟩ => ⟨S128, .i32⟩
  | .hbm, ⟨67, _⟩ => ⟨S128, .i32⟩
  | .hbm, ⟨68, _⟩ => ⟨S128, .i32⟩
  | .hbm, ⟨69, _⟩ => ⟨S128x1, .i32⟩
  | .hbm, ⟨70, _⟩ => ⟨S1x128, .i32⟩
  | .hbm, ⟨71, _⟩ => ⟨S128x128, .i32⟩
  | .hbm, ⟨72, _⟩ => ⟨S128x128, .i32⟩
  | .hbm, ⟨73, _⟩ => ⟨S128x128, .i1⟩
  | .hbm, ⟨74, _⟩ => ⟨S128x128, .f32⟩
  | .hbm, ⟨75, _⟩ => ⟨S1x128x128, .f32⟩
  | .hbm, ⟨76, _⟩ => ⟨S4x128x128, .f32⟩
  | .hbm, ⟨77, _⟩ => ⟨S4x128x128, .f32⟩
  | .hbm, ⟨78, _⟩ => ⟨S4x2x32x256x128, .f32⟩
  | .hbm, ⟨79, _⟩ => ⟨S2x32x128x4x256, .f32⟩
  | .hbm, ⟨80, _⟩ => ⟨S128x4, .f32⟩
  | .hbm, ⟨81, _⟩ => ⟨S128x4x1, .f32⟩
  | .hbm, ⟨82, _⟩ => ⟨S1x1x128x4x1, .f32⟩
  | .hbm, ⟨83, _⟩ => ⟨S2x32x128x4x256, .f32⟩
  | .hbm, ⟨84, _⟩ => ⟨S2x32x128x4x256, .f32⟩
  | .hbm, ⟨85, _⟩ => ⟨S2x4096x1024, .f32⟩
  | .hbm, ⟨86, _⟩ => ⟨S2x4096x1024, .f32⟩
  | .hbm, ⟨87, _⟩ => ⟨S8192x1024, .f32⟩
  | .hbm, ⟨88, _⟩ => ⟨S1024x2048, .f32⟩
  | .hbm, ⟨89, _⟩ => ⟨S8192x2048, .f32⟩
  | .hbm, ⟨90, _⟩ => ⟨S8192x2048, .f32⟩
  | .hbm, ⟨91, _⟩ => ⟨S8192x1024, .f32⟩
  | .hbm, ⟨92, _⟩ => ⟨S1024x2048, .f32⟩
  | .hbm, ⟨93, _⟩ => ⟨S8192x2048, .f32⟩
  | .hbm, ⟨94, _⟩ => ⟨S8192x2048, .f32⟩
  | .hbm, ⟨95, _⟩ => ⟨S8192x2048, .f32⟩
  | .hbm, ⟨96, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_cst_0 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_1 : Ref sig .tc := ⟨.hbm, 29, rfl⟩
abbrev main_v18 : Ref sig .tc := ⟨.hbm, 30, rfl⟩
abbrev main_v19 : Ref sig .tc := ⟨.hbm, 31, rfl⟩
abbrev main_cst_2 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_c : Ref sig .tc := ⟨.hbm, 51, rfl⟩
abbrev main_call0_v0 : Ref sig .tc := ⟨.hbm, 52, rfl⟩
abbrev main_call0_v1 : Ref sig .tc := ⟨.hbm, 53, rfl⟩
abbrev main_call0_v2 : Ref sig .tc := ⟨.hbm, 54, rfl⟩
abbrev main_call0_v3 : Ref sig .tc := ⟨.hbm, 55, rfl⟩
abbrev main_call0_v4 : Ref sig .tc := ⟨.hbm, 56, rfl⟩
abbrev main_call0_v5 : Ref sig .tc := ⟨.hbm, 57, rfl⟩
abbrev main_call0_v6 : Ref sig .tc := ⟨.hbm, 58, rfl⟩
abbrev main_call0_v7 : Ref sig .tc := ⟨.hbm, 59, rfl⟩
abbrev main_call0_v8 : Ref sig .tc := ⟨.hbm, 60, rfl⟩
abbrev main_call0_c : Ref sig .tc := ⟨.hbm, 61, rfl⟩
abbrev main_call0_v9 : Ref sig .tc := ⟨.hbm, 62, rfl⟩
abbrev main_call0_v10 : Ref sig .tc := ⟨.hbm, 63, rfl⟩
abbrev main_call0_v11 : Ref sig .tc := ⟨.hbm, 64, rfl⟩
abbrev main_call0_c_0 : Ref sig .tc := ⟨.hbm, 65, rfl⟩
abbrev main_call0_v12 : Ref sig .tc := ⟨.hbm, 66, rfl⟩
abbrev main_call0_v13 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩

abbrev nD : Nat := 1
abbrev τ : Topo := Topo.v7x

variable {F : FTy → Type} [FloatOps F]
-- ==== KernelCA.lean ====
abbrev S8192x2048 : Shape := ⟨2, ![8192, 2048]⟩
abbrev S512x4096 : Shape := ⟨2, ![512, 4096]⟩
abbrev S512x2048 : Shape := ⟨2, ![512, 2048]⟩
abbrev S256x2048 : Shape := ⟨2, ![256, 2048]⟩
abbrev S512x512 : Shape := ⟨2, ![512, 512]⟩
abbrev S256x512 : Shape := ⟨2, ![256, 512]⟩
abbrev S512x256 : Shape := ⟨2, ![512, 256]⟩
abbrev S512 : Shape := ⟨1, ![512]⟩
abbrev S512x1 : Shape := ⟨2, ![512, 1]⟩

abbrev nBuf : Space → Nat
  | .hbm => 3
  | .vmem => 8
  | .smem => 0
  | _ => 0

abbrev bufTy : (tb : Table) → Fin (tcTables nBuf tb) → BufTy
  | .hbm, ⟨0, _⟩ => ⟨S8192x2048, .bf16⟩
  | .hbm, ⟨1, _⟩ => ⟨S512x4096, .bf16⟩
  | .hbm, ⟨2, _⟩ => ⟨S8192x2048, .bf16⟩
  | .local _ .vmem, ⟨0, _⟩ => ⟨S512x2048, .bf16⟩
  | .local _ .vmem, ⟨1, _⟩ => ⟨S512x2048, .bf16⟩
  | .local _ .vmem, ⟨2, _⟩ => ⟨S256x2048, .bf16⟩
  | .local _ .vmem, ⟨3, _⟩ => ⟨S256x2048, .bf16⟩
  | .local _ .vmem, ⟨4, _⟩ => ⟨S256x2048, .bf16⟩
  | .local _ .vmem, ⟨5, _⟩ => ⟨S256x2048, .bf16⟩
  | .local _ .vmem, ⟨6, _⟩ => ⟨S512x2048, .bf16⟩
  | .local _ .vmem, ⟨7, _⟩ => ⟨S512x2048, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== KernelCAIdeal.lean ====
variable {F : FTy → Type} [FloatOps F] [Named F]
def κ : String → Option EReal := fun
  | "scale512" => some (((Real.sqrt 512)⁻¹ : ℝ) : EReal)
  | _ => none
-- ==== ReferenceCAIdeal.lean ====
abbrev S8192x2048 : Shape := ⟨2, ![8192, 2048]⟩
abbrev S512x4096 : Shape := ⟨2, ![512, 4096]⟩
abbrev S2x4096x4x512 : Shape := ⟨4, ![2, 4096, 4, 512]⟩
abbrev S2x256x4096 : Shape := ⟨3, ![2, 256, 4096]⟩
abbrev S2x256x2048 : Shape := ⟨3, ![2, 256, 2048]⟩
abbrev S2x256x4x512 : Shape := ⟨4, ![2, 256, 4, 512]⟩
abbrev S2x4x4096x256 : Shape := ⟨4, ![2, 4, 4096, 256]⟩
abbrev S_ : Shape := ⟨0, ![]⟩
abbrev S2x4x4096 : Shape := ⟨3, ![2, 4, 4096]⟩
abbrev S2x4x4096x1 : Shape := ⟨4, ![2, 4, 4096, 1]⟩
abbrev S2x4x512x4096 : Shape := ⟨4, ![2, 4, 512, 4096]⟩
abbrev S2x4096x2048 : Shape := ⟨3, ![2, 4096, 2048]⟩

abbrev nBuf : Space → Nat
  | .hbm => 34
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S512x4096, .bf16⟩
  | .hbm, ⟨2, _⟩ => ⟨S8192x2048, .f32⟩
  | .hbm, ⟨3, _⟩ => ⟨S2x4096x4x512, .f32⟩
  | .hbm, ⟨4, _⟩ => ⟨S512x4096, .f32⟩
  | .hbm, ⟨5, _⟩ => ⟨S2x256x4096, .f32⟩
  | .hbm, ⟨6, _⟩ => ⟨S2x256x2048, .f32⟩
  | .hbm, ⟨7, _⟩ => ⟨S2x256x4x512, .f32⟩
  | .hbm, ⟨8, _⟩ => ⟨S2x256x2048, .f32⟩
  | .hbm, ⟨9, _⟩ => ⟨S2x256x4x512, .f32⟩
  | .hbm, ⟨10, _⟩ => ⟨S2x4x4096x256, .f32⟩
  | .hbm, ⟨11, _⟩ => ⟨S_, .f32⟩
  | .hbm, ⟨12, _⟩ => ⟨S_, .f32⟩
  | .hbm, ⟨13, _⟩ => ⟨S2x4x4096x256, .f32⟩
  | .hbm, ⟨14, _⟩ => ⟨S2x4x4096x256, .f32⟩
  | .hbm, ⟨15, _⟩ => ⟨S_, .f32⟩
  | .hbm, ⟨16, _⟩ => ⟨S2x4x4096, .f32⟩
  | .hbm, ⟨17, _⟩ => ⟨S_, .f32⟩
  | .hbm, ⟨18, _⟩ => ⟨S2x4x4096, .f32⟩
  | .hbm, ⟨19, _⟩ => ⟨S2x4x4096, .f32⟩
  | .hbm, ⟨20, _⟩ => ⟨S2x4x4096x1, .f32⟩
  | .hbm, ⟨21, _⟩ => ⟨S2x4x4096x256, .f32⟩
  | .hbm, ⟨22, _⟩ => ⟨S2x4x4096x256, .f32⟩
  | .hbm, ⟨23, _⟩ => ⟨S2x4x4096x256, .f32⟩
  | .hbm, ⟨24, _⟩ => ⟨S_, .f32⟩
  | .hbm, ⟨25, _⟩ => ⟨S2x4x4096, .f32⟩
  | .hbm, ⟨26, _⟩ => ⟨S2x4x4096x1, .f32⟩
  | .hbm, ⟨27, _⟩ => ⟨S2x4x4096x256, .f32⟩
  | .hbm, ⟨28, _⟩ => ⟨S2x4x4096x256, .f32⟩
  | .hbm, ⟨29, _⟩ => ⟨S2x4x512x4096, .f32⟩
  | .hbm, ⟨30, _⟩ => ⟨S2x4096x4x512, .f32⟩
  | .hbm, ⟨31, _⟩ => ⟨S2x4096x2048, .f32⟩
  | .hbm, ⟨32, _⟩ => ⟨S8192x2048, .f32⟩
  | .hbm, ⟨33, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst_0 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_2 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩

abbrev nD : Nat := 1
abbrev τ : Topo := Topo.v7x

variable {F : FTy → Type} [FloatOps F]

def κ : String → Option EReal := fun
  | "scale512" => some (((Real.sqrt 512)⁻¹ : ℝ) : EReal)
  | _ => none
-- ==== KernelRM.lean ====
abbrev S2x256x2048 : Shape := ⟨3, ![2, 256, 2048]⟩
abbrev S1x2048 : Shape := ⟨2, ![1, 2048]⟩
abbrev S1x2048x4096 : Shape := ⟨3, ![1, 2048, 4096]⟩
abbrev S512x2048 : Shape := ⟨2, ![512, 2048]⟩
abbrev S2048 : Shape := ⟨1, ![2048]⟩
abbrev S2048x4096 : Shape := ⟨2, ![2048, 4096]⟩
abbrev S512x4096 : Shape := ⟨2, ![512, 4096]⟩
abbrev S2048x512 : Shape := ⟨2, ![2048, 512]⟩
abbrev S512x512 : Shape := ⟨2, ![512, 512]⟩
abbrev S512 : Shape := ⟨1, ![512]⟩
abbrev S512x1 : Shape := ⟨2, ![512, 1]⟩

abbrev nBuf : Space → Nat
  | .hbm => 8
  | .vmem => 7
  | .smem => 0
  | _ => 0

abbrev bufTy : (tb : Table) → Fin (tcTables nBuf tb) → BufTy
  | .hbm, ⟨0, _⟩ => ⟨S2x256x2048, .f32⟩
  | .hbm, ⟨1, _⟩ => ⟨S1x2048, .f32⟩
  | .hbm, ⟨2, _⟩ => ⟨S1x2048x4096, .f32⟩
  | .hbm, ⟨3, _⟩ => ⟨S512x2048, .f32⟩
  | .hbm, ⟨4, _⟩ => ⟨S2048, .f32⟩
  | .hbm, ⟨5, _⟩ => ⟨S2048x4096, .f32⟩
  | .hbm, ⟨6, _⟩ => ⟨S1x2048, .f32⟩
  | .hbm, ⟨7, _⟩ => ⟨S512x4096, .bf16⟩
  | .local _ .vmem, ⟨0, _⟩ => ⟨S512x2048, .f32⟩
  | .local _ .vmem, ⟨1, _⟩ => ⟨S1x2048, .f32⟩
  | .local _ .vmem, ⟨2, _⟩ => ⟨S2048x512, .f32⟩
  | .local _ .vmem, ⟨3, _⟩ => ⟨S2048x512, .f32⟩
  | .local _ .vmem, ⟨4, _⟩ => ⟨S512x512, .bf16⟩
  | .local _ .vmem, ⟨5, _⟩ => ⟨S512x512, .bf16⟩
  | .local _ .vmem, ⟨6, _⟩ => ⟨S512x2048, .bf16⟩
  | _, _ => ⟨S2x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S512x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceRMIdeal.lean ====
abbrev S2x256x2048 : Shape := ⟨3, ![2, 256, 2048]⟩
abbrev S1x2048 : Shape := ⟨2, ![1, 2048]⟩
abbrev S1x2048x4096 : Shape := ⟨3, ![1, 2048, 4096]⟩
abbrev S2048 : Shape := ⟨1, ![2048]⟩
abbrev S_ : Shape := ⟨0, ![]⟩
abbrev S2x256 : Shape := ⟨2, ![2, 256]⟩
abbrev S2x256x1 : Shape := ⟨3, ![2, 256, 1]⟩
abbrev S1x1x2048 : Shape := ⟨3, ![1, 1, 2048]⟩
abbrev S2048x4096 : Shape := ⟨2, ![2048, 4096]⟩
abbrev S2x256x4096 : Shape := ⟨3, ![2, 256, 4096]⟩
abbrev S512x4096 : Shape := ⟨2, ![512, 4096]⟩

abbrev nBuf : Space → Nat
  | .hbm => 24
  | .vmem => 0
  | .smem => 0
  | _ => 0

abbrev bufTy : (tb : Table) → Fin (tcTables nBuf tb) → BufTy
  | .hbm, ⟨0, _⟩ => ⟨S2x256x2048, .f32⟩
  | .hbm, ⟨1, _⟩ => ⟨S1x2048, .f32⟩
  | .hbm, ⟨2, _⟩ => ⟨S1x2048x4096, .f32⟩
  | .hbm, ⟨3, _⟩ => ⟨S2048, .f32⟩
  | .hbm, ⟨4, _⟩ => ⟨S2x256x2048, .f32⟩
  | .hbm, ⟨5, _⟩ => ⟨S_, .f32⟩
  | .hbm, ⟨6, _⟩ => ⟨S2x256, .f32⟩
  | .hbm, ⟨7, _⟩ => ⟨S2x256x1, .f32⟩
  | .hbm, ⟨8, _⟩ => ⟨S_, .f32⟩
  | .hbm, ⟨9, _⟩ => ⟨S2x256x1, .f32⟩
  | .hbm, ⟨10, _⟩ => ⟨S2x256x1, .f32⟩
  | .hbm, ⟨11, _⟩ => ⟨S_, .f32⟩
  | .hbm, ⟨12, _⟩ => ⟨S2x256x1, .f32⟩
  | .hbm, ⟨13, _⟩ => ⟨S2x256x1, .f32⟩
  | .hbm, ⟨14, _⟩ => ⟨S2x256x1, .f32⟩
  | .hbm, ⟨15, _⟩ => ⟨S2x256x2048, .f32⟩
  | .hbm, ⟨16, _⟩ => ⟨S2x256x2048, .f32⟩
  | .hbm, ⟨17, _⟩ => ⟨S1x1x2048, .f32⟩
  | .hbm, ⟨18, _⟩ => ⟨S2x256x2048, .f32⟩
  | .hbm, ⟨19, _⟩ => ⟨S2x256x2048, .f32⟩
  | .hbm, ⟨20, _⟩ => ⟨S2048x4096, .f32⟩
  | .hbm, ⟨21, _⟩ => ⟨S2x256x4096, .f32⟩
  | .hbm, ⟨22, _⟩ => ⟨S512x4096, .f32⟩
  | .hbm, ⟨23, _⟩ => ⟨S512x4096, .bf16⟩
  | _, _ => ⟨S2x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== KernelAT.lean ====
abbrev S8192x3072 : Shape := ⟨2, ![8192, 3072]⟩
abbrev S1x8x257 : Shape := ⟨3, ![1, 8, 257]⟩
abbrev S1x1024x2048 : Shape := ⟨3, ![1, 1024, 2048]⟩
abbrev S1x2048x2048 : Shape := ⟨3, ![1, 2048, 2048]⟩
abbrev S8x257 : Shape := ⟨2, ![8, 257]⟩
abbrev S1024 : Shape := ⟨1, ![1024]⟩
abbrev S_ : Shape := ⟨0, ![]⟩
abbrev S1024x1 : Shape := ⟨2, ![1024, 1]⟩
abbrev S8x1024 : Shape := ⟨2, ![8, 1024]⟩
abbrev S1024x2048 : Shape := ⟨2, ![1024, 2048]⟩
abbrev S2048x2048 : Shape := ⟨2, ![2048, 2048]⟩
abbrev S8192x1024 : Shape := ⟨2, ![8192, 1024]⟩
abbrev S256x1024 : Shape := ⟨2, ![256, 1024]⟩
abbrev S32x2048 : Shape := ⟨2, ![32, 2048]⟩
abbrev S64x2048 : Shape := ⟨2, ![64, 2048]⟩
abbrev S8x256x768 : Shape := ⟨3, ![8, 256, 768]⟩
abbrev S256x768 : Shape := ⟨2, ![256, 768]⟩
abbrev S1x1024 : Shape := ⟨2, ![1, 1024]⟩
abbrev S1x256x768 : Shape := ⟨3, ![1, 256, 768]⟩
abbrev S1x768 : Shape := ⟨2, ![1, 768]⟩
abbrev S256x128 : Shape := ⟨2, ![256, 128]⟩
abbrev S768x128 : Shape := ⟨2, ![768, 128]⟩
abbrev S256 : Shape := ⟨1, ![256]⟩
abbrev S256x1 : Shape := ⟨2, ![256, 1]⟩

abbrev nBuf : Space → Nat
  | .hbm => 46
  | .vmem => 42
  | .smem => 0
  | _ => 0

abbrev bufTy : (tb : Table) → Fin (tcTables nBuf tb) → BufTy
  | .hbm, ⟨0, _⟩ => ⟨S8192x3072, .bf16⟩
  | .hbm, ⟨1, _⟩ => ⟨S1x8x257, .f32⟩
  | .hbm, ⟨2, _⟩ => ⟨S1x1024x2048, .f32⟩
  | .hbm, ⟨3, _⟩ => ⟨S1x1024x2048, .f32⟩
  | .hbm, ⟨4, _⟩ => ⟨S1x2048x2048, .f32⟩
  | .hbm, ⟨5, _⟩ => ⟨S1x2048x2048, .f32⟩
  | .hbm, ⟨6, _⟩ => ⟨S1x2048x2048, .f32⟩
  | .hbm, ⟨7, _⟩ => ⟨S1x2048x2048, .f32⟩
  | .hbm, ⟨8, _⟩ => ⟨S8x257, .f32⟩
  | .hbm, ⟨9, _⟩ => ⟨S1024, .i32⟩
  | .hbm, ⟨10, _⟩ => ⟨S_, .i32⟩
  | .hbm, ⟨11, _⟩ => ⟨S1024, .i32⟩
  | .hbm, ⟨12, _⟩ => ⟨S1024, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S1024, .i32⟩
  | .hbm, ⟨17, _⟩ => ⟨S1024, .i32⟩
  | .hbm, ⟨18, _⟩ => ⟨S_, .i32⟩
  | .hbm, ⟨19, _⟩ => ⟨S1024, .i32⟩
  | .hbm, ⟨20, _⟩ => ⟨S1024, .i32⟩
  | .hbm, ⟨21, _⟩ => ⟨S_, .i32⟩
  | .hbm, ⟨22, _⟩ => ⟨S1024, .i32⟩
  | .hbm, ⟨23, _⟩ => ⟨S1024, .i32⟩
  | .hbm, ⟨24, _⟩ => ⟨S_, .i32⟩
  | .hbm, ⟨25, _⟩ => ⟨S1024, .i32⟩
  | .hbm, ⟨26, _⟩ => ⟨S1024, .i1⟩
  | .hbm, ⟨27, _⟩ => ⟨S_, .i32⟩
  | .hbm, ⟨28, _⟩ => ⟨S1024, .i32⟩
  | .hbm, ⟨29, _⟩ => ⟨S1024, .i32⟩
  | .hbm, ⟨30, _⟩ => ⟨S1024, .i32⟩
  | .hbm, ⟨31, _⟩ => ⟨S1024x1, .i32⟩
  | .hbm, ⟨32, _⟩ => ⟨S8x1024, .f32⟩
  | .hbm, ⟨33, _⟩ => ⟨S1024x2048, .f32⟩
  | .hbm, ⟨34, _⟩ => ⟨S1024x2048, .f32⟩
  | .hbm, ⟨35, _⟩ => ⟨S2048x2048, .f32⟩
  | .hbm, ⟨36, _⟩ => ⟨S2048x2048, .f32⟩
  | .hbm, ⟨37, _⟩ => ⟨S2048x2048, .f32⟩
  | .hbm, ⟨38, _⟩ => ⟨S2048x2048, .f32⟩
  | .hbm, ⟨39, _⟩ => ⟨S8192x1024, .bf16⟩
  | .hbm, ⟨40, _⟩ => ⟨S1024x2048, .bf16⟩
  | .hbm, ⟨41, _⟩ => ⟨S1024x2048, .bf16⟩
  | .hbm, ⟨42, _⟩ => ⟨S2048x2048, .bf16⟩
  | .hbm, ⟨43, _⟩ => ⟨S2048x2048, .bf16⟩
  | .hbm, ⟨44, _⟩ => ⟨S2048x2048, .bf16⟩
  | .hbm, ⟨45, _⟩ => ⟨S2048x2048, .bf16⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | .local _ .vmem, ⟨14, _⟩ => ⟨S8x1024, .f32⟩
  | .local _ .vmem, ⟨15, _⟩ => ⟨S32x2048, .f32⟩
  | .local _ .vmem, ⟨16, _⟩ => ⟨S32x2048, .f32⟩
  | .local _ .vmem, ⟨17, _⟩ => ⟨S32x2048, .f32⟩
  | .local _ .vmem, ⟨18, _⟩ => ⟨S32x2048, .f32⟩
  | .local _ .vmem, ⟨19, _⟩ => ⟨S64x2048, .f32⟩
  | .local _ .vmem, ⟨20, _⟩ => ⟨S64x2048, .f32⟩
  | .local _ .vmem, ⟨21, _⟩ => ⟨S64x2048, .f32⟩
  | .local _ .vmem, ⟨22, _⟩ => ⟨S64x2048, .f32⟩
  | .local _ .vmem, ⟨23, _⟩ => ⟨S64x2048, .f32⟩
  | .local _ .vmem, ⟨24, _⟩ => ⟨S64x2048, .f32⟩
  | .local _ .vmem, ⟨25, _⟩ => ⟨S64x2048, .f32⟩
  | .local _ .vmem, ⟨26, _⟩ => ⟨S64x2048, .f32⟩
  | .local _ .vmem, ⟨27, _⟩ => ⟨S256x1024, .bf16⟩
  | .local _ .vmem, ⟨28, _⟩ => ⟨S256x1024, .bf16⟩
  | .local _ .vmem, ⟨29, _⟩ => ⟨S32x2048, .bf16⟩
  | .local _ .vmem, ⟨30, _⟩ => ⟨S32x2048, .bf16⟩
  | .local _ .vmem, ⟨31, _⟩ => ⟨S32x2048, .bf16⟩
  | .local _ .vmem, ⟨32, _⟩ => ⟨S32x2048, .bf16⟩
  | .local _ .vmem, ⟨33, _⟩ => ⟨S64x2048, .bf16⟩
  | .local _ .vmem, ⟨34, _⟩ => ⟨S64x2048, .bf16⟩
  | .local _ .vmem, ⟨35, _⟩ => ⟨S64x2048, .bf16⟩
  | .local _ .vmem, ⟨36, _⟩ => ⟨S64x2048, .bf16⟩
  | .local _ .vmem, ⟨37, _⟩ => ⟨S64x2048, .bf16⟩
  | .local _ .vmem, ⟨38, _⟩ => ⟨S64x2048, .bf16⟩
  | .local _ .vmem, ⟨39, _⟩ => ⟨S64x2048, .bf16⟩
  | .local _ .vmem, ⟨40, _⟩ => ⟨S64x2048, .bf16⟩
  | .local _ .vmem, ⟨41, _⟩ => ⟨S8x256x768, .f32⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_c_1 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_v4 : Ref sig .tc := ⟨.hbm, 20, rfl⟩
abbrev main_c_2 : Ref sig .tc := ⟨.hbm, 21, rfl⟩
abbrev main_v5 : Ref sig .tc := ⟨.hbm, 22, rfl⟩
abbrev main_v6 : Ref sig .tc := ⟨.hbm, 23, rfl⟩
abbrev main_c_3 : Ref sig .tc := ⟨.hbm, 24, rfl⟩
abbrev main_v7 : Ref sig .tc := ⟨.hbm, 25, rfl⟩
abbrev main_v8 : Ref sig .tc := ⟨.hbm, 26, rfl⟩
abbrev main_c_4 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20_0 : Ref sig .tc := ⟨.hbm, 39, rfl⟩
abbrev main_v20_1 : Ref sig .tc := ⟨.hbm, 40, rfl⟩
abbrev main_v20_2 : Ref sig .tc := ⟨.hbm, 41, rfl⟩
abbrev main_v20_3 : Ref sig .tc := ⟨.hbm, 42, rfl⟩
abbrev main_v20_4 : Ref sig .tc := ⟨.hbm, 43, rfl⟩
abbrev main_v20_5 : Ref sig .tc := ⟨.hbm, 44, rfl⟩
abbrev main_v20_6 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_stg14_0 : Ref sig .tc := ⟨.vmem, 27, rfl⟩
abbrev cc0_stg14_1 : Ref sig .tc := ⟨.vmem, 28, rfl⟩
abbrev cc0_stg15_0 : Ref sig .tc := ⟨.vmem, 29, rfl⟩
abbrev cc0_stg15_1 : Ref sig .tc := ⟨.vmem, 30, rfl⟩
abbrev cc0_stg16_0 : Ref sig .tc := ⟨.vmem, 31, rfl⟩
abbrev cc0_stg16_1 : Ref sig .tc := ⟨.vmem, 32, rfl⟩
abbrev cc0_stg17_0 : Ref sig .tc := ⟨.vmem, 33, rfl⟩
abbrev cc0_stg17_1 : Ref sig .tc := ⟨.vmem, 34, rfl⟩
abbrev cc0_stg18_0 : Ref sig .tc := ⟨.vmem, 35, rfl⟩
abbrev cc0_stg18_1 : Ref sig .tc := ⟨.vmem, 36, rfl⟩
abbrev cc0_stg19_0 : Ref sig .tc := ⟨.vmem, 37, rfl⟩
abbrev cc0_stg19_1 : Ref sig .tc := ⟨.vmem, 38, rfl⟩
abbrev cc0_stg20_0 : Ref sig .tc := ⟨.vmem, 39, rfl⟩
abbrev cc0_stg20_1 : Ref sig .tc := ⟨.vmem, 40, rfl⟩
abbrev cc0_scratch0 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem14_1 : DmaSem sig := 28
abbrev cc0_sem15_0 : DmaSem sig := 29
abbrev cc0_sem15_1 : DmaSem sig := 30
abbrev cc0_sem16_0 : DmaSem sig := 31
abbrev cc0_sem16_1 : DmaSem sig := 32
abbrev cc0_sem17_0 : DmaSem sig := 33
abbrev cc0_sem17_1 : DmaSem sig := 34
abbrev cc0_sem18_0 : DmaSem sig := 35
abbrev cc0_sem18_1 : DmaSem sig := 36
abbrev cc0_sem19_0 : DmaSem sig := 37
abbrev cc0_sem19_1 : DmaSem sig := 38
abbrev cc0_sem20_0 : DmaSem sig := 39
abbrev cc0_sem20_1 : DmaSem sig := 40

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c2_i32 : BitVec 32 := 2#32
  let v1 : BitVec 32 := Scalar.subi arg1 c2_i32
  let c0_i32 : BitVec 32 := 0#32
  let v2 : BitVec 32 := Scalar.maxsi v1 c0_i32
  let v3 : BitVec 32 := Scalar.addi v0 v2
  let c1_i32 : BitVec 32 := 1#32
  let c0_i32_0 : BitVec 32 := 0#32
  ![v3.toNat, c1_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c1_i32 : BitVec 32 := 1#32
  let v1 : BitVec 32 := Scalar.subi arg1 c1_i32
  let c0_i32 : BitVec 32 := 0#32
  let v2 : BitVec 32 := Scalar.maxsi v1 c0_i32
  let v3 : BitVec 32 := Scalar.addi v0 v2
  let c1_i32_0 : BitVec 32 := 1#32
  let c0_i32_1 : BitVec 32 := 0#32
  ![v3.toNat, c1_i32_0.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c0_i32 : BitVec 32 := 0#32
  let v1 : BitVec 32 := Scalar.subi arg1 c0_i32
  let c0_i32_0 : BitVec 32 := 0#32
  let v2 : BitVec 32 := Scalar.maxsi v1 c0_i32_0
  let v3 : BitVec 32 := Scalar.addi v0 v2
  let c1_i32 : BitVec 32 := 1#32
  let c0_i32_1 : BitVec 32 := 0#32
  ![v3.toNat, c1_i32.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c2_i32 : BitVec 32 := 2#32
  let v1 : BitVec 32 := Scalar.subi arg1 c2_i32
  let c0_i32 : BitVec 32 := 0#32
  let v2 : BitVec 32 := Scalar.maxsi v1 c0_i32
  let v3 : BitVec 32 := Scalar.addi v0 v2
  let c2_i32_0 : BitVec 32 := 2#32
  let c0_i32_1 : BitVec 32 := 0#32
  ![v3.toNat, c2_i32_0.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c1_i32 : BitVec 32 := 1#32
  let v1 : BitVec 32 := Scalar.subi arg1 c1_i32
  let c0_i32 : BitVec 32 := 0#32
  let v2 : BitVec 32 := Scalar.maxsi v1 c0_i32
  let v3 : BitVec 32 := Scalar.addi v0 v2
  let c2_i32 : BitVec 32 := 2#32
  let c0_i32_0 : BitVec 32 := 0#32
  ![v3.toNat, c2_i32.toNat]

def cc0_transform_6 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c0_i32 : BitVec 32 := 0#32
  let v1 : BitVec 32 := Scalar.subi arg1 c0_i32
  let c0_i32_0 : BitVec 32 := 0#32
  let v2 : BitVec 32 := Scalar.maxsi v1 c0_i32_0
  let v3 : BitVec 32 := Scalar.addi v0 v2
  let c2_i32 : BitVec 32 := 2#32
  let c0_i32_1 : BitVec 32 := 0#32
  ![v3.toNat, c2_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_11 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_12 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_13 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_14 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_15 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_16 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_17 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_18 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_19 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_20 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S32x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S32x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S64x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S64x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S64x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S64x2048 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S32x2048 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S32x2048 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S64x2048 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S64x2048 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S64x2048 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S64x2048 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]
-- ==== KernelATIdeal.lean ====
variable {F : FTy → Type} [FloatOps F] [Named F]
def κ : String → Option EReal := fun
  | "mask" => some ⊥
  | "scale" => some (((Real.sqrt 128)⁻¹ : ℝ) : EReal)
  | _ => none
-- ==== ReferenceATIdeal.lean ====
abbrev S8192x3072 : Shape := ⟨2, ![8192, 3072]⟩
abbrev S1x8x257 : Shape := ⟨3, ![1, 8, 257]⟩
abbrev S1x1024x2048 : Shape := ⟨3, ![1, 1024, 2048]⟩
abbrev S1x2048x2048 : Shape := ⟨3, ![1, 2048, 2048]⟩
abbrev S2x4096x3072 : Shape := ⟨3, ![2, 4096, 3072]⟩
abbrev S2x4096x1024 : Shape := ⟨3, ![2, 4096, 1024]⟩
abbrev S8x257 : Shape := ⟨2, ![8, 257]⟩
abbrev S2x64x64x8x128 : Shape := ⟨5, ![2, 64, 64, 8, 128]⟩
abbrev S576 : Shape := ⟨1, ![576]⟩
abbrev S64 : Shape := ⟨1, ![64]⟩
abbrev S_ : Shape := ⟨0, ![]⟩
abbrev S64x1 : Shape := ⟨2, ![64, 1]⟩
abbrev S1x576 : Shape := ⟨2, ![1, 576]⟩
abbrev S64x576 : Shape := ⟨2, ![64, 576]⟩
abbrev S2x4096x8x128 : Shape := ⟨4, ![2, 4096, 8, 128]⟩
abbrev S2x4608x8x128 : Shape := ⟨4, ![2, 4608, 8, 128]⟩
abbrev S64x576x1 : Shape := ⟨3, ![64, 576, 1]⟩
abbrev S2x64x576x8x128 : Shape := ⟨5, ![2, 64, 576, 8, 128]⟩
abbrev S2x8x64x64x576 : Shape := ⟨5, ![2, 8, 64, 64, 576]⟩
abbrev S8x64x576 : Shape := ⟨3, ![8, 64, 576]⟩
abbrev S1x1x64x1x576 : Shape := ⟨5, ![1, 1, 64, 1, 576]⟩
abbrev S1x8x1x64x576 : Shape := ⟨5, ![1, 8, 1, 64, 576]⟩
abbrev S2x8x64x64 : Shape := ⟨4, ![2, 8, 64, 64]⟩
abbrev S2x8x64x64x1 : Shape := ⟨5, ![2, 8, 64, 64, 1]⟩
abbrev S2x64x8x128x64 : Shape := ⟨5, ![2, 64, 8, 128, 64]⟩
abbrev S8192x1024 : Shape := ⟨2, ![8192, 1024]⟩
abbrev S1024x2048 : Shape := ⟨2, ![1024, 2048]⟩
abbrev S2048x2048 : Shape := ⟨2, ![2048, 2048]⟩

abbrev nBuf : Space → Nat
  | .hbm => 137
  | .vmem => 0
  | .smem => 0
  | _ => 0

abbrev hbmTy0_0 (i : Nat) : BufTy := match i % 128 with
  | 0 => ⟨S8192x3072, .bf16⟩
  | 1 => ⟨S1x8x257, .f32⟩
  | 2 => ⟨S1x1024x2048, .f32⟩
  | 3 => ⟨S1x1024x2048, .f32⟩
  | 4 => ⟨S1x2048x2048, .f32⟩
  | 5 => ⟨S1x2048x2048, .f32⟩
  | 6 => ⟨S1x2048x2048, .f32⟩
  | 7 => ⟨S1x2048x2048, .f32⟩
  | 8 => ⟨S8192x3072, .f32⟩
  | 9 => ⟨S2x4096x3072, .f32⟩
  | 10 => ⟨S2x4096x1024, .f32⟩
  | 11 => ⟨S2x4096x1024, .f32⟩
  | 12 => ⟨S2x4096x1024, .f32⟩
  | 13 => ⟨S8x257, .f32⟩
  | 14 => ⟨S2x64x64x8x128, .f32⟩
  | 15 => ⟨S576, .i32⟩
  | 16 => ⟨S64, .i32⟩
  | 17 => ⟨S_, .i32⟩
  | 18 => ⟨S64, .i32⟩
  | 19 => ⟨S64, .i32⟩
  | 20 => ⟨S64x1, .i32⟩
  | 21 => ⟨S1x576, .i32⟩
  | 22 => ⟨S64x576, .i32⟩
  | 23 => ⟨S64x576, .i32⟩
  | 24 => ⟨S64x576, .i32⟩
  | 25 => ⟨S_, .i32⟩
  | 26 => ⟨S64x576, .i32⟩
  | 27 => ⟨S64x576, .i32⟩
  | 28 => ⟨S2x4096x8x128, .f32⟩
  | 29 => ⟨S_, .i32⟩
  | 30 => ⟨S_, .f32⟩
  | 31 => ⟨S2x4608x8x128, .f32⟩
  | 32 => ⟨S_, .i32⟩
  | 33 => ⟨S64x576, .i32⟩
  | 34 => ⟨S64x576, .i32⟩
  | 35 => ⟨S_, .i32⟩
  | 36 => ⟨S64x576, .i32⟩
  | 37 => ⟨S64x576, .i1⟩
  | 38 => ⟨S_, .i32⟩
  | 39 => ⟨S64x576, .i32⟩
  | 40 => ⟨S64x576, .i32⟩
  | 41 => ⟨S64x576, .i32⟩
  | 42 => ⟨S64x576x1, .i32⟩
  | 43 => ⟨S2x64x576x8x128, .f32⟩
  | 44 => ⟨S2x4096x8x128, .f32⟩
  | 45 => ⟨S_, .i32⟩
  | 46 => ⟨S_, .f32⟩
  | 47 => ⟨S2x4608x8x128, .f32⟩
  | 48 => ⟨S_, .i32⟩
  | 49 => ⟨S64x576, .i32⟩
  | 50 => ⟨S64x576, .i32⟩
  | 51 => ⟨S_, .i32⟩
  | 52 => ⟨S64x576, .i32⟩
  | 53 => ⟨S64x576, .i1⟩
  | 54 => ⟨S_, .i32⟩
  | 55 => ⟨S64x576, .i32⟩
  | 56 => ⟨S64x576, .i32⟩
  | 57 => ⟨S64x576, .i32⟩
  | 58 => ⟨S64x576x1, .i32⟩
  | 59 => ⟨S2x64x576x8x128, .f32⟩
  | 60 => ⟨S2x8x64x64x576, .f32⟩
  | 61 => ⟨S_, .f32⟩
  | 62 => ⟨S_, .f32⟩
  | 63 => ⟨S2x8x64x64x576, .f32⟩
  | 64 => ⟨S2x8x64x64x576, .f32⟩
  | 65 => ⟨S64, .i32⟩
  | 66 => ⟨S_, .i32⟩
  | 67 => ⟨S64, .i32⟩
  | 68 => ⟨S64, .i32⟩
  | 69 => ⟨S64x1, .i32⟩
  | 70 => ⟨S1x576, .i32⟩
  | 71 => ⟨S64x576, .i32⟩
  | 72 => ⟨S64x576, .i32⟩
  | 73 => ⟨S64x576, .i32⟩
  | 74 => ⟨S_, .i32⟩
  | 75 => ⟨S_, .i32⟩
  | 76 => ⟨S_, .i32⟩
  | 77 => ⟨S64x576, .i32⟩
  | 78 => ⟨S64x576, .i32⟩
  | 79 => ⟨S_, .i32⟩
  | 80 => ⟨S64x576, .i32⟩
  | 81 => ⟨S64x576, .i32⟩
  | 82 => ⟨S_, .i32⟩
  | 83 => ⟨S64x576, .i32⟩
  | 84 => ⟨S64x576, .i32⟩
  | 85 => ⟨S_, .i32⟩
  | 86 => ⟨S64x576, .i32⟩
  | 87 => ⟨S64x576, .i1⟩
  | 88 => ⟨S_, .i32⟩
  | 89 => ⟨S64x576, .i32⟩
  | 90 => ⟨S64x576, .i32⟩
  | 91 => ⟨S64x576, .i32⟩
  | 92 => ⟨S64x576x1, .i32⟩
  | 93 => ⟨S8x64x576, .f32⟩
  | 94 => ⟨S_, .i32⟩
  | 95 => ⟨S64x576, .i32⟩
  | 96 => ⟨S64x576, .i1⟩
  | 97 => ⟨S1x1x64x1x576, .i1⟩
  | 98 => ⟨S1x8x1x64x576, .f32⟩
  | 99 => ⟨S2x8x64x64x576, .f32⟩
  | 100 => ⟨S2x8x64x64x576, .f32⟩
  | 101 => ⟨S_, .f32⟩
  | 102 => ⟨S_, .f32⟩
  | 103 => ⟨S2x8x64x64x576, .i1⟩
  | 104 => ⟨S2x8x64x64x576, .f32⟩
  | 105 => ⟨S2x8x64x64x576, .f32⟩
  | 106 => ⟨S_, .f32⟩
  | 107 => ⟨S2x8x64x64, .f32⟩
  | 108 => ⟨S_, .f32⟩
  | 109 => ⟨S2x8x64x64, .f32⟩
  | 110 => ⟨S2x8x64x64, .f32⟩
  | 111 => ⟨S2x8x64x64x1, .f32⟩
  | 112 => ⟨S2x8x64x64x576, .f32⟩
  | 113 => ⟨S2x8x64x64x576, .f32⟩
  | 114 => ⟨S2x8x64x64x576, .f32⟩
  | 115 => ⟨S_, .f32⟩
  | 116 => ⟨S2x8x64x64, .f32⟩
  | 117 => ⟨S2x8x64x64x1, .f32⟩
  | 118 => ⟨S2x8x64x64x576, .f32⟩
  | 119 => ⟨S2x8x64x64x576, .f32⟩
  | 120 => ⟨S2x64x8x128x64, .f32⟩
  | 121 => ⟨S2x64x64x8x128, .f32⟩
  | 122 => ⟨S2x4096x1024, .f32⟩
  | 123 => ⟨S8192x1024, .f32⟩
  | 124 => ⟨S8192x1024, .bf16⟩
  | 125 => ⟨S1024x2048, .f32⟩
  | 126 => ⟨S1024x2048, .bf16⟩
  | 127 => ⟨S1024x2048, .f32⟩
  | _ => ⟨S8192x3072, .bf16⟩

abbrev hbmTy0_1 (i : Nat) : BufTy := match i % 128 with
  | 0 => ⟨S1024x2048, .bf16⟩
  | 1 => ⟨S2048x2048, .f32⟩
  | 2 => ⟨S2048x2048, .bf16⟩
  | 3 => ⟨S2048x2048, .f32⟩
  | 4 => ⟨S2048x2048, .bf16⟩
  | 5 => ⟨S2048x2048, .f32⟩
  | 6 => ⟨S2048x2048, .bf16⟩
  | 7 => ⟨S2048x2048, .f32⟩
  | 8 => ⟨S2048x2048, .bf16⟩
  | _ => ⟨S8192x3072, .bf16⟩

abbrev hbmTy (i : Nat) : BufTy := match i / 128 with
  | 0 => hbmTy0_0 i
  | 1 => hbmTy0_1 i
  | _ => ⟨S8192x3072, .bf16⟩

abbrev bufTy : (tb : Table) → Fin (tcTables nBuf tb) → BufTy
  | .hbm, ⟨i, _⟩ => hbmTy i
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c_0 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_1 : Ref sig .tc := ⟨.hbm, 29, rfl⟩
abbrev main_call0_v0 : Ref sig .tc := ⟨.hbm, 30, rfl⟩
abbrev main_v19 : Ref sig .tc := ⟨.hbm, 31, rfl⟩
abbrev main_c_2 : Ref sig .tc := ⟨.hbm, 32, rfl⟩
abbrev main_v20 : Ref sig .tc := ⟨.hbm, 33, rfl⟩
abbrev main_v21 : Ref sig .tc := ⟨.hbm, 34, rfl⟩
abbrev main_c_3 : Ref sig .tc := ⟨.hbm, 35, rfl⟩
abbrev main_v22 : Ref sig .tc := ⟨.hbm, 36, rfl⟩
abbrev main_v23 : Ref sig .tc := ⟨.hbm, 37, rfl⟩
abbrev main_c_4 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_c_5 : Ref sig .tc := ⟨.hbm, 45, rfl⟩
abbrev main_call1_v0 : Ref sig .tc := ⟨.hbm, 46, rfl⟩
abbrev main_v30 : Ref sig .tc := ⟨.hbm, 47, rfl⟩
abbrev main_c_6 : Ref sig .tc := ⟨.hbm, 48, rfl⟩
abbrev main_v31 : Ref sig .tc := ⟨.hbm, 49, rfl⟩
abbrev main_v32 : Ref sig .tc := ⟨.hbm, 50, rfl⟩
abbrev main_c_7 : Ref sig .tc := ⟨.hbm, 51, rfl⟩
abbrev main_v33 : Ref sig .tc := ⟨.hbm, 52, rfl⟩
abbrev main_v34 : Ref sig .tc := ⟨.hbm, 53, rfl⟩
abbrev main_c_8 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_c_9 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_c_10 : Ref sig .tc := ⟨.hbm, 74, rfl⟩
abbrev main_c_11 : Ref sig .tc := ⟨.hbm, 75, rfl⟩
abbrev main_call2_v0 : Ref sig .tc := ⟨.hbm, 76, rfl⟩
abbrev main_call2_v1 : Ref sig .tc := ⟨.hbm, 77, rfl⟩
abbrev main_call2_v2 : Ref sig .tc := ⟨.hbm, 78, rfl⟩
abbrev main_call2_v3 : Ref sig .tc := ⟨.hbm, 79, rfl⟩
abbrev main_call2_v4 : Ref sig .tc := ⟨.hbm, 80, rfl⟩
abbrev main_v52 : Ref sig .tc := ⟨.hbm, 81, rfl⟩
abbrev main_c_12 : Ref sig .tc := ⟨.hbm, 82, rfl⟩
abbrev main_v53 : Ref sig .tc := ⟨.hbm, 83, rfl⟩
abbrev main_v54 : Ref sig .tc := ⟨.hbm, 84, rfl⟩
abbrev main_c_13 : Ref sig .tc := ⟨.hbm, 85, rfl⟩
abbrev main_v55 : Ref sig .tc := ⟨.hbm, 86, rfl⟩
abbrev main_v56 : Ref sig .tc := ⟨.hbm, 87, rfl⟩
abbrev main_c_14 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_c_15 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_cst_16 : Ref sig .tc := ⟨.hbm, 101, rfl⟩
abbrev main_call3_v0 : Ref sig .tc := ⟨.hbm, 102, rfl⟩
abbrev main_call3_v1 : Ref sig .tc := ⟨.hbm, 103, rfl⟩
abbrev main_call3_v2 : Ref sig .tc := ⟨.hbm, 104, rfl⟩
abbrev main_v68 : Ref sig .tc := ⟨.hbm, 105, rfl⟩
abbrev main_cst_17 : Ref sig .tc := ⟨.hbm, 106, rfl⟩
abbrev main_v69 : Ref sig .tc := ⟨.hbm, 107, rfl⟩
abbrev main_cst_18 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_cst_19 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩

abbrev nD : Nat := 1
abbrev τ : Topo := Topo.v7x

variable {F : FTy → Type} [FloatOps F]

def κ : String → Option EReal := fun
  | "mask" => some ⊥
  | "scale" => some (((Real.sqrt 128)⁻¹ : ℝ) : EReal)
  | _ => none
-- ==== Proof.RPValue.lean ====
/- The residual projection: what its two result arrays hold after the run, as the reference's terms of the arguments. -/
module

public import proofs.«01_k».proof.Proof.Gen.KernelRPIdeal.Value
public import proofs.«01_k».proof.Proof.Gen.ReferenceRPIdeal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelRPIdeal.RefValue

open Cert.KernelRPIdeal Cert.KernelRPIdeal.Gen

variable (m : (ℓ : Loc nD τ sig) → Buf (Elt Ideal) ℓ)

/-- The reference's new residual stream: the old one plus the product. -/
abbrev REFH (A : FVec Ideal S8192x2048 .bf16) (W1 : FVec Ideal S2048x2048 .bf16) (Res : FVec Ideal S8192x2048 .f32) :
    FVec Ideal S8192x2048 .f32 :=
  addf Res (Host.dotGeneral Cert.ReferenceRPIdeal.dot_S8192x2048_S2048x2048_S8192x2048_1_0_0_1_n_n none
    (extf .f32 A Cert.ReferenceRPIdeal.Gen.bitsLt_bf16_f32) (extf .f32 W1 Cert.ReferenceRPIdeal.Gen.bitsLt_bf16_f32))

open Cert.ReferenceRPIdeal.Gen in
/-- The reference's next query projection: the new stream normalised by rows, scaled by the gain, times the weights. -/
abbrev REFP (H : FVec Ideal S8192x2048 .f32) (G : FVec Ideal S1x2048 .f32) (W2 : FVec Ideal S2048x2048 .bf16) :
    FVec Ideal S8192x2048 .bf16 :=
  truncf .bf16 (Host.dotGeneral Cert.ReferenceRPIdeal.dot_S8192x2048_S2048x2048_S8192x2048_1_0_0_1_n_n none
    (mulf (mulf H (broadcastInDim S8192x2048 ![0, 1] bcast_S8192x1_S8192x2048_0_1 (Host.rsqrt (addf (Host.divf
      (broadcastInDim Cert.ReferenceRPIdeal.S8192x1 ![0] bcast_S8192_S8192x1_0 (Host.reduceAdd (mulf H H)
        (constant Cert.ReferenceRPIdeal.S_ .f32 0x00000000#32) reducesTo_S8192x2048_S8192_d1 h_S_))
      (broadcastInDim Cert.ReferenceRPIdeal.S8192x1 ![] bcast_S_S8192x1 (constant Cert.ReferenceRPIdeal.S_ .f32 0x45000000#32)))
      (broadcastInDim Cert.ReferenceRPIdeal.S8192x1 ![] bcast_S_S8192x1 (constant Cert.ReferenceRPIdeal.S_ .f32 0x358637BD#32))))))
      (broadcastInDim S8192x2048 ![0, 1] bcast_S1x2048_S8192x2048_0_1
        (broadcastInDim S1x2048 ![1] bcast_S2048_S1x2048_1 (shapeCast Cert.ReferenceRPIdeal.S2048 G Cert.KernelRPIdeal.Gen.shapeCasts_S1x2048_S2048))))
    (extf .f32 W2 Cert.KernelRPIdeal.Gen.bitsLt_bf16_f32)) Cert.KernelRPIdeal.Gen.bitsLt_bf16_f32

/-- The windows' block indices at a point: rows by the point, the weights and the gain whole. -/
theorem idx : ∀ t : Fin cfg0.N, win0_0.index t = ![t.val, 0] ∧ win0_1.index t = ![0, 0] ∧ win0_2.index t = ![t.val, 0]
    ∧ win0_3.index t = ![0, 0] ∧ win0_4.index t = ![0, 0] ∧ win0_5.index t = ![t.val, 0] ∧ win0_6.index t = ![t.val, 0] :=
  (by decide +kernel : ∀ t : Fin grid0.N, _)

/-- What a point stores of the new residual stream is the reference's at the rows of its block. -/
theorem point5 (c : Dev nD) (t : Fin cfg0.N) (y) : k0_pay1 (iblk m c 2 t) (iblk m c 0 t) (iblk m c 1 t) y
    = REFH (m ((c : Thread nD τ).loc main_arg0)) (m ((c : Thread nD τ).loc main_arg1)) (m ((c : Thread nD τ).loc main_arg2))
        (((cfg0.win 5).blk t).view.emb y) := by
  pointwise [k0_pay1, REFH]
  blk_point [iblk, V, idx t]

/-- The residual stream's array after the run is the reference's. -/
theorem final5 (c : Dev nD) : (dats m 0 c).arrAt 5 (cfgs 0).N
    = REFH (m ((c : Thread nD τ).loc main_arg0)) (m ((c : Thread nD τ).loc main_arg1)) (m ((c : Thread nD τ).loc main_arg2)) := by
  refine (dats m 0 c).arrAt_eq_of_covers 5 _ (by decide +kernel) fun t _ y => ?_
  blk_simp
  rw [after0_5]; frame_out
  exact point5 m c t y

/-- What a point stores of the query projection is the reference's at the rows of its block. -/
theorem point6 (c : Dev nD) (t : Fin cfg0.N) (y) :
    k0_pay2 (iblk m c 2 t) (iblk m c 0 t) (iblk m c 1 t) (iblk m c 3 t) (iblk m c 4 t) y
    = REFP (REFH (m ((c : Thread nD τ).loc main_arg0)) (m ((c : Thread nD τ).loc main_arg1)) (m ((c : Thread nD τ).loc main_arg2)))
        (m ((c : Thread nD τ).loc main_arg3)) (m ((c : Thread nD τ).loc main_arg4)) (((cfg0.win 6).blk t).view.emb y) := by
  pointwise [k0_pay2, k0_pay1, REFP, REFH]
  blk_point [iblk, V, idx t]

/-- The query projection's array after the run is the reference's. -/
theorem final6 (c : Dev nD) : (dats m 0 c).arrAt 6 (cfgs 0).N
    = REFP (REFH (m ((c : Thread nD τ).loc main_arg0)) (m ((c : Thread nD τ).loc main_arg1)) (m ((c : Thread nD τ).loc main_arg2)))
        (m ((c : Thread nD τ).loc main_arg3)) (m ((c : Thread nD τ).loc main_arg4)) := by
  refine (dats m 0 c).arrAt_eq_of_covers 6 _ (by decide +kernel) fun t _ y => ?_
  blk_simp
  rw [after0_6]; frame_out
  exact point6 m c t y

end Cert.KernelRPIdeal.RefValue

end
-- ==== Proof.RPClaims.lean ====
/- The residual projection: the claims of its programs. -/
module

public import proofs.«01_k».proof.Defs
public import proofs.«01_k».proof.Proof.Gen.KernelRP.Frame
public import proofs.«01_k».proof.Proof.Gen.ReferenceRPIdeal.Run
public import proofs.«01_k».proof.Proof.RPValue
public import Idealize.ShloMosaic.Lib.Claim

@[expose] public section

set_option maxRecDepth 16384

noncomputable section

namespace Cert.Proof

open Idealize.ShloMosaic Idealize.ShloMosaic.TcCoe Idealize.SL.Sem

theorem frame_KernelRP : Cert.quiescent_KernelRP := fun m ρ _ => Cert.KernelRP.Gen.frame m ρ

theorem frame_KernelRPIdeal : Cert.quiescent_KernelRPIdeal := fun m ρ _ => Cert.KernelRPIdeal.Gen.frame m ρ

theorem frame_ReferenceRPIdeal : Cert.quiescent_ReferenceRPIdeal := fun m ρ _ =>
  (θ_run Cert.ReferenceRPIdeal.defs _ _).mono
    (fun r h => ⟨fun c => (h c).2.2, Idealize.ShloMosaic.sem_eq_zero_of_no_sems (by decide) r.2⟩)
    (Cert.ReferenceRPIdeal.Value.run m ρ)

theorem preserves_RP : Cert.preserves_KernelRP_KernelRPIdeal := trivial

theorem algebraic_RP : Cert.algebraic_KernelRPIdeal_ReferenceRPIdeal := by
  pair_intro
  · run_from Cert.KernelRPIdeal.Gen.run_main m g
  · run_from Cert.ReferenceRPIdeal.Value.run m' g'
    · exact (Cert.KernelRPIdeal.RefValue.final5 m c).symm
    · exact (Cert.KernelRPIdeal.RefValue.final6 m c).symm

end Cert.Proof

end
-- ==== Proof.IPIRun.lean ====
/- The input projection (idealized): what its body leaves at a point. -/
module

public import proofs.«01_k».proof.Proof.Gen.KernelIPIdeal.Frame
public import proofs.«01_k».proof.Proof.Gen.KernelIPIdeal.Skeleton
public import Idealize.ShloMosaic.Lib.Pipeline.ValueKit

@[expose] public section

set_option maxRecDepth 16384

noncomputable section

namespace Cert.KernelIPIdeal.Hand

open Cert.KernelIPIdeal Cert.KernelIPIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A block of the activation of the mixer columns, from the normalised rows and the weights. -/
def UP (A : Vec F S1024x2048 .bf16) (W : Vec F S2048x1024 .f32) : Vec F S1024x1024 .bf16 :=
  View.canon (Val := Elt F)
    [ (⟨Rect.unit ![0, 512] ![1024, 512] inb_S1024x1024_S1024x512_0_512, k0_pay3 A (View.ld W (Rect.unit ![0, 512] ![2048, 512] inb_S2048x1024_S2048x512_0_512))⟩ : View.Piece (Elt F) S1024x1024 .bf16),
      ⟨Rect.unit ![0, 0] ![1024, 512] inb_S1024x1024_S1024x512_0_0, k0_pay2 A (View.ld W (Rect.unit ![0, 0] ![2048, 512] inb_S2048x1024_S2048x512_0_0))⟩ ]

/-- A block of the attention columns, from the normalised rows and the weights. -/
def QK (A : Vec F S1024x2048 .bf16) (W : Vec F S2048x1024 .f32) : Vec F S1024x1024 .bf16 :=
  View.canon (Val := Elt F)
    [ (⟨Rect.unit ![0, 512] ![1024, 512] inb_S1024x1024_S1024x512_0_512, k0_pay5 A (View.ld W (Rect.unit ![0, 512] ![2048, 512] inb_S2048x1024_S2048x512_0_512))⟩ : View.Piece (Elt F) S1024x1024 .bf16),
      ⟨Rect.unit ![0, 0] ![1024, 512] inb_S1024x1024_S1024x512_0_0, k0_pay4 A (View.ld W (Rect.unit ![0, 0] ![2048, 512] inb_S2048x1024_S2048x512_0_0))⟩ ]

/-- A block of the gates, from the normalised rows and the weights. -/
def GT (A : Vec F S1024x2048 .bf16) (W : Vec F S2048x1024 .f32) : Vec F S1024x1024 .bf16 :=
  View.canon (Val := Elt F)
    [ (⟨Rect.unit ![0, 512] ![1024, 512] inb_S1024x1024_S1024x512_0_512, k0_pay7 A (View.ld W (Rect.unit ![0, 512] ![2048, 512] inb_S2048x1024_S2048x512_0_512))⟩ : View.Piece (Elt F) S1024x1024 .bf16),
      ⟨Rect.unit ![0, 0] ![1024, 512] inb_S1024x1024_S1024x512_0_0, k0_pay6 A (View.ld W (Rect.unit ![0, 0] ![2048, 512] inb_S2048x1024_S2048x512_0_0))⟩ ]

/-- The condition under which a row of blocks is normalised. -/
abbrev cond0 (i : grid0.Coords) : Prop := (Scalar.cmpi .ne (Scalar.extui (Scalar.cmpi .eq (BitVec.ofNat 32 (i 1).val) 0#32)) 0#32) = 1#1

theorem hcond : ∀ t : Fin cfg0.N, (cond0 (grid0.coords t) ↔ t.val % 9 = 0) ∧ (k0_cond2 (grid0.coords t) = 1#1 ↔ t.val % 9 < 2)
    ∧ (k0_cond3 (grid0.coords t) = 1#1 ↔ 2 ≤ t.val % 9 ∧ t.val % 9 < 5) ∧ (k0_cond4 (grid0.coords t) = 1#1 ↔ 5 ≤ t.val % 9) :=
  (by decide +kernel : ∀ t : Fin grid0.N, _)

/-- A point that stores a block of the gates. -/
theorem run_D (c : Dev nD) (i : grid0.Coords) (arg2 : Memref sig .tc .vmem S1024x2048 .f32) (harg2 : arg2.IsWhole) (arg3 : Memref sig .tc .vmem S1x2048 .f32) (harg3 : arg3.IsWhole)
    (arg4 : Memref sig .tc .vmem S2048x1024 .f32) (harg4 : arg4.IsWhole) (arg5 : Memref sig .tc .vmem S1024x1024 .bf16) (harg5 : arg5.IsWhole)
    (arg6 : Memref sig .tc .vmem S1024x1024 .bf16) (harg6 : arg6.IsWhole) (arg7 : Memref sig .tc .vmem S1024x1024 .bf16) (harg7 : arg7.IsWhole)
    (arg8 : Memref sig .tc .vmem S1024x2048 .bf16) (harg8 : arg8.IsWhole)
    (hc0 : ¬cond0 i) (hc1 : ¬k0_cond2 i = 1#1) (hc2 : ¬k0_cond3 i = 1#1) (hc3 : k0_cond4 i = 1#1)
    (x0 : Vec F S1024x2048 .f32) (x1 : Vec F S1x2048 .f32) (x2 : Vec F S2048x1024 .f32) (y3 y4 y5 : Vec F S1024x1024 .bf16) (xs : Vec F S1024x2048 .bf16)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare y3 ∗ owns (c : Thread nD τ) arg6 fullShare y4 ∗ owns (c : Thread nD τ) arg7 fullShare y5 ∗ owns (c : Thread nD τ) arg8 fullShare xs
        ∗ (iprop(owns (c : Thread nD τ) arg2 fullShare x0 ∗ owns (c : Thread nD τ) arg3 fullShare x1 ∗ owns (c : Thread nD τ) arg4 fullShare x2
            ∗ owns (c : Thread nD τ) arg5 fullShare y3 ∗ owns (c : Thread nD τ) arg6 fullShare y4 ∗ owns (c : Thread nD τ) arg7 fullShare (GT (xs) x2) ∗ owns (c : Thread nD τ) arg8 fullShare (xs)) -∗ K ⟨⟩))
      ⊢ wp frame (wpE (defs₀ (F := F)) Variants.none c none) E (cc0_in_projection i arg2 harg2 arg3 harg3 arg4 harg4 arg5 harg5 arg6 harg6 arg7 harg7 arg8 harg8) K := by
  simp only [cc0_in_projection_eq_skeleton]; unfold cc0_in_projection_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, Hk⟩
  obtain rfl := harg2.eq_unread hf0; obtain rfl := harg3.eq_unread hf1; obtain rfl := harg4.eq_unread hf2; obtain rfl := harg8.eq_unread hfs
  sl_exec (disch := first | sl_exact hc0 | sl_exact hc1 | sl_exact hc2 | sl_exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro; exact hf3
  isplitl [H4]
  · iexists _; isplitr
    swap; · iexact H4
    ipureintro; exact hf4
  isplitl [H5]
  · iexists _; isplitr
    swap; · iexact H5
    ipureintro
    refine (View.read_writes_eq_canon (Val := Elt F) arg7.view f5 _ ?_).trans ?_
    · exact View.cover_of_tiledL (s := S1024x1024) _ ![1024, 512] (by sl_kernel_rfl)
    simp (disch := decide) only [View.canon_cons_unit_lit', View.ld_unit_lit', View.readCov_unit_lit', View.readCov_cons_unit_lit', View.readAt_eq_ld, Memref.IsWhole.read_unread]; rfl
  iexists _; isplitr; · ipureintro; exact harg8.read_unread _
  iexact HS

/-- A point that stores a block of the attention columns. -/
theorem run_C (c : Dev nD) (i : grid0.Coords) (arg2 : Memref sig .tc .vmem S1024x2048 .f32) (harg2 : arg2.IsWhole) (arg3 : Memref sig .tc .vmem S1x2048 .f32) (harg3 : arg3.IsWhole)
    (arg4 : Memref sig .tc .vmem S2048x1024 .f32) (harg4 : arg4.IsWhole) (arg5 : Memref sig .tc .vmem S1024x1024 .bf16) (harg5 : arg5.IsWhole)
    (arg6 : Memref sig .tc .vmem S1024x1024 .bf16) (harg6 : arg6.IsWhole) (arg7 : Memref sig .tc .vmem S1024x1024 .bf16) (harg7 : arg7.IsWhole)
    (arg8 : Memref sig .tc .vmem S1024x2048 .bf16) (harg8 : arg8.IsWhole)
    (hc0 : ¬cond0 i) (hc1 : ¬k0_cond2 i = 1#1) (hc2 : k0_cond3 i = 1#1) (hc3 : ¬k0_cond4 i = 1#1)
    (x0 : Vec F S1024x2048 .f32) (x1 : Vec F S1x2048 .f32) (x2 : Vec F S2048x1024 .f32) (y3 y4 y5 : Vec F S1024x1024 .bf16) (xs : Vec F S1024x2048 .bf16)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare y3 ∗ owns (c : Thread nD τ) arg6 fullShare y4 ∗ owns (c : Thread nD τ) arg7 fullShare y5 ∗ owns (c : Thread nD τ) arg8 fullShare xs
        ∗ (iprop(owns (c : Thread nD τ) arg2 fullShare x0 ∗ owns (c : Thread nD τ) arg3 fullShare x1 ∗ owns (c : Thread nD τ) arg4 fullShare x2
            ∗ owns (c : Thread nD τ) arg5 fullShare y3 ∗ owns (c : Thread nD τ) arg6 fullShare (QK (xs) x2) ∗ owns (c : Thread nD τ) arg7 fullShare y5 ∗ owns (c : Thread nD τ) arg8 fullShare (xs)) -∗ K ⟨⟩))
      ⊢ wp frame (wpE (defs₀ (F := F)) Variants.none c none) E (cc0_in_projection i arg2 harg2 arg3 harg3 arg4 harg4 arg5 harg5 arg6 harg6 arg7 harg7 arg8 harg8) K := by
  simp only [cc0_in_projection_eq_skeleton]; unfold cc0_in_projection_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, Hk⟩
  obtain rfl := harg2.eq_unread hf0; obtain rfl := harg3.eq_unread hf1; obtain rfl := harg4.eq_unread hf2; obtain rfl := harg8.eq_unread hfs
  sl_exec (disch := first | sl_exact hc0 | sl_exact hc1 | sl_exact hc2 | sl_exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro; exact hf3
  isplitl [H4]
  · iexists _; isplitr
    swap; · iexact H4
    ipureintro
    refine (View.read_writes_eq_canon (Val := Elt F) arg6.view f4 _ ?_).trans ?_
    · exact View.cover_of_tiledL (s := S1024x1024) _ ![1024, 512] (by sl_kernel_rfl)
    simp (disch := decide) only [View.canon_cons_unit_lit', View.ld_unit_lit', View.readCov_unit_lit', View.readCov_cons_unit_lit', View.readAt_eq_ld, Memref.IsWhole.read_unread]; rfl
  isplitl [H5]
  · iexists _; isplitr
    swap; · iexact H5
    ipureintro; exact hf5
  iexists _; isplitr; · ipureintro; exact harg8.read_unread _
  iexact HS

/-- A point that stores a later block of the mixer columns. -/
theorem run_B (c : Dev nD) (i : grid0.Coords) (arg2 : Memref sig .tc .vmem S1024x2048 .f32) (harg2 : arg2.IsWhole) (arg3 : Memref sig .tc .vmem S1x2048 .f32) (harg3 : arg3.IsWhole)
    (arg4 : Memref sig .tc .vmem S2048x1024 .f32) (harg4 : arg4.IsWhole) (arg5 : Memref sig .tc .vmem S1024x1024 .bf16) (harg5 : arg5.IsWhole)
    (arg6 : Memref sig .tc .vmem S1024x1024 .bf16) (harg6 : arg6.IsWhole) (arg7 : Memref sig .tc .vmem S1024x1024 .bf16) (harg7 : arg7.IsWhole)
    (arg8 : Memref sig .tc .vmem S1024x2048 .bf16) (harg8 : arg8.IsWhole)
    (hc0 : ¬cond0 i) (hc1 : k0_cond2 i = 1#1) (hc2 : ¬k0_cond3 i = 1#1) (hc3 : ¬k0_cond4 i = 1#1)
    (x0 : Vec F S1024x2048 .f32) (x1 : Vec F S1x2048 .f32) (x2 : Vec F S2048x1024 .f32) (y3 y4 y5 : Vec F S1024x1024 .bf16) (xs : Vec F S1024x2048 .bf16)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare y3 ∗ owns (c : Thread nD τ) arg6 fullShare y4 ∗ owns (c : Thread nD τ) arg7 fullShare y5 ∗ owns (c : Thread nD τ) arg8 fullShare xs
        ∗ (iprop(owns (c : Thread nD τ) arg2 fullShare x0 ∗ owns (c : Thread nD τ) arg3 fullShare x1 ∗ owns (c : Thread nD τ) arg4 fullShare x2
            ∗ owns (c : Thread nD τ) arg5 fullShare (UP (xs) x2) ∗ owns (c : Thread nD τ) arg6 fullShare y4 ∗ owns (c : Thread nD τ) arg7 fullShare y5 ∗ owns (c : Thread nD τ) arg8 fullShare (xs)) -∗ K ⟨⟩))
      ⊢ wp frame (wpE (defs₀ (F := F)) Variants.none c none) E (cc0_in_projection i arg2 harg2 arg3 harg3 arg4 harg4 arg5 harg5 arg6 harg6 arg7 harg7 arg8 harg8) K := by
  simp only [cc0_in_projection_eq_skeleton]; unfold cc0_in_projection_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, Hk⟩
  obtain rfl := harg2.eq_unread hf0; obtain rfl := harg3.eq_unread hf1; obtain rfl := harg4.eq_unread hf2; obtain rfl := harg8.eq_unread hfs
  sl_exec (disch := first | sl_exact hc0 | sl_exact hc1 | sl_exact hc2 | sl_exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    refine (View.read_writes_eq_canon (Val := Elt F) arg5.view f3 _ ?_).trans ?_
    · exact View.cover_of_tiledL (s := S1024x1024) _ ![1024, 512] (by sl_kernel_rfl)
    simp (disch := decide) only [View.canon_cons_unit_lit', View.ld_unit_lit', View.readCov_unit_lit', View.readCov_cons_unit_lit', View.readAt_eq_ld, Memref.IsWhole.read_unread]; rfl
  isplitl [H4]
  · iexists _; isplitr
    swap; · iexact H4
    ipureintro; exact hf4
  isplitl [H5]
  · iexists _; isplitr
    swap; · iexact H5
    ipureintro; exact hf5
  iexists _; isplitr; · ipureintro; exact harg8.read_unread _
  iexact HS

/-- The first point of a row, which normalises it. -/
theorem run_A (c : Dev nD) (i : grid0.Coords) (arg2 : Memref sig .tc .vmem S1024x2048 .f32) (harg2 : arg2.IsWhole) (arg3 : Memref sig .tc .vmem S1x2048 .f32) (harg3 : arg3.IsWhole)
    (arg4 : Memref sig .tc .vmem S2048x1024 .f32) (harg4 : arg4.IsWhole) (arg5 : Memref sig .tc .vmem S1024x1024 .bf16) (harg5 : arg5.IsWhole)
    (arg6 : Memref sig .tc .vmem S1024x1024 .bf16) (harg6 : arg6.IsWhole) (arg7 : Memref sig .tc .vmem S1024x1024 .bf16) (harg7 : arg7.IsWhole)
    (arg8 : Memref sig .tc .vmem S1024x2048 .bf16) (harg8 : arg8.IsWhole)
    (hc0 : cond0 i) (hc1 : k0_cond2 i = 1#1) (hc2 : ¬k0_cond3 i = 1#1) (hc3 : ¬k0_cond4 i = 1#1)
    (x0 : Vec F S1024x2048 .f32) (x1 : Vec F S1x2048 .f32) (x2 : Vec F S2048x1024 .f32) (y3 y4 y5 : Vec F S1024x1024 .bf16) (xs : Vec F S1024x2048 .bf16)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare y3 ∗ owns (c : Thread nD τ) arg6 fullShare y4 ∗ owns (c : Thread nD τ) arg7 fullShare y5 ∗ owns (c : Thread nD τ) arg8 fullShare xs
        ∗ (iprop(owns (c : Thread nD τ) arg2 fullShare x0 ∗ owns (c : Thread nD τ) arg3 fullShare x1 ∗ owns (c : Thread nD τ) arg4 fullShare x2
            ∗ owns (c : Thread nD τ) arg5 fullShare (UP (k0_pay1 x0 x1) x2) ∗ owns (c : Thread nD τ) arg6 fullShare y4 ∗ owns (c : Thread nD τ) arg7 fullShare y5 ∗ owns (c : Thread nD τ) arg8 fullShare (k0_pay1 x0 x1)) -∗ K ⟨⟩))
      ⊢ wp frame (wpE (defs₀ (F := F)) Variants.none c none) E (cc0_in_projection i arg2 harg2 arg3 harg3 arg4 harg4 arg5 harg5 arg6 harg6 arg7 harg7 arg8 harg8) K := by
  simp only [cc0_in_projection_eq_skeleton]; unfold cc0_in_projection_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, Hk⟩
  obtain rfl := harg2.eq_unread hf0; obtain rfl := harg3.eq_unread hf1; obtain rfl := harg4.eq_unread hf2; obtain rfl := harg8.eq_unread hfs
  sl_exec (disch := first | sl_exact hc0 | sl_exact hc1 | sl_exact hc2 | sl_exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    refine (View.read_writes_eq_canon (Val := Elt F) arg5.view f3 _ ?_).trans ?_
    · exact View.cover_of_tiledL (s := S1024x1024) _ ![1024, 512] (by sl_kernel_rfl)
    unfold run_A.sl.v14 run_A.sl.HS_1; simp (disch := decide) only [View.canon_cons_unit_lit', View.ld_unit_lit', View.readCov_unit_lit', View.readCov_cons_unit_lit', View.readAt_eq_ld, Memref.IsWhole.read_unread]; rfl
  isplitl [H4]
  · iexists _; isplitr
    swap; · iexact H4
    ipureintro; exact hf4
  isplitl [H5]
  · iexists _; isplitr
    swap; · iexact H5
    ipureintro; exact hf5
  iexists _; isplitr
  swap; · iexact HS
  ipureintro
  refine (View.read_writes_eq_canon (Val := Elt F) arg8.view _ _ ?_).trans ?_
  · exact View.cover_of_tiledL (s := S1024x2048) _ ![1024, 2048] (by sl_kernel_rfl)
  unfold run_A.sl.HS_1
  simp (disch := decide) only [View.canon_cons_unit_lit', View.ld_unit_lit', View.readCov_unit_lit', View.readCov_cons_unit_lit', View.readAt_eq_ld, Memref.IsWhole.read_unread]

end Cert.KernelIPIdeal.Hand

end
-- ==== Proof.IPIFrame.lean ====
/- The input projection (idealized): its run, whatever the floats are, and that its arguments end unchanged. -/
module

public import proofs.«01_k».proof.Proof.IPIRun

@[expose] public section

set_option maxRecDepth 16384

noncomputable section

namespace Cert.KernelIPIdeal.Hand

open Cert.KernelIPIdeal Cert.KernelIPIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem lt_points (t : Fin cfg0.N) : t.val < 72 := lt_of_lt_of_eq t.isLt (show cfg0.N = 72 from N_0)

/-- The scratch that keeps the normalised rows. -/
abbrev scr : Memref sig .tc .vmem S1024x2048 .bf16 := Memref.whole cc0_scratch0

theorem PhiA_eq (c : Dev nD) : (Pipeline.ΦA spec0 c : sProp 𝕄)
    = iprop(iprop((∃ d, owns (c : Thread nD τ) scr fullShare d)) ∗ (∃ r, prngReg c r)) := by
  unfold Pipeline.ΦA; rw [scopedRest0_eq]; simp only [scr, owns_whole]; try rfl

/-! The points of a row of blocks: the first, and those whose weights an output's buffer holds the result of. -/

def rowPt (t : Fin cfg0.N) : Fin cfg0.N := ⟨9 * (t.val / 9), lt_of_le_of_lt (by omega) t.isLt⟩

def upPt (t : Fin cfg0.N) : Fin cfg0.N := ⟨9 * (t.val / 9) + min (t.val % 9) 1, lt_of_le_of_lt (by omega) t.isLt⟩

def qkPt (t : Fin cfg0.N) : Fin cfg0.N :=
  ⟨9 * (t.val / 9) + min (max (t.val % 9) 2) 4, lt_of_lt_of_eq (by have := lt_points t; omega) (show cfg0.N = 72 from N_0).symm⟩

def gtPt (t : Fin cfg0.N) : Fin cfg0.N :=
  ⟨9 * (t.val / 9) + max (t.val % 9) 5, lt_of_lt_of_eq (by have := lt_points t; omega) (show cfg0.N = 72 from N_0).symm⟩

/-- The normalised rows the scratch keeps at a point. -/
def SC (c : Dev nD) (t : Fin cfg0.N) : Vec F S1024x2048 .bf16 := k0_pay1 (iblk m c 0 (rowPt t)) (iblk m c 1 (rowPt t))

def PhiS (c : Dev nD) : (n : ℕ) → n ≤ cfg0.N → sProp 𝕄
  | 0, _ => Pipeline.ΦA spec0 c
  | n + 1, hn => iprop(iprop(owns (c : Thread nD τ) scr fullShare (SC m c ⟨n, hn⟩)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scr fullShare (SC m c ⟨n, hn⟩)) ∗ (∃ r, prngReg c r)) := rfl

theorem PhiS_pos (c : Dev nD) (n : ℕ) (h : n ≤ cfg0.N) (hz : n ≠ 0) :
    PhiS m c n h = iprop(iprop(owns (c : Thread nD τ) scr fullShare (SC m c ⟨n - 1, by omega⟩)) ∗ (∃ r, prngReg c r)) := by
  cases n with
  | zero => exact absurd rfl hz
  | succ n => rfl

/-- What the run finds and leaves, point by point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => UP (SC m c t) (iblk m c 2 (upPt t))
    | ⟨4, _⟩ => QK (SC m c t) (iblk m c 2 (qkPt t))
    | ⟨5, _⟩ => GT (SC m c t) (iblk m c 2 (gtPt t))
    | ⟨_ + 6, h⟩ => absurd h (Nat.not_lt.2 (Nat.le_add_left _ _))
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = UP (SC m c t) (iblk m c 2 (upPt t)) := by dsimp only [dats]
theorem after0_4 (c : Dev nD) (t : Fin cfg0.N) : (dats m 0 c).after 4 t = QK (SC m c t) (iblk m c 2 (qkPt t)) := by dsimp only [dats]
theorem after0_5 (c : Dev nD) (t : Fin cfg0.N) : (dats m 0 c).after 5 t = GT (SC m c t) (iblk m c 2 (gtPt t)) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! Which outputs a point leaves alone, and where they are written back. -/

theorem idle3 : ∀ t : Fin cfg0.N, cfg0.idle 3 (cfg0.grid.coords t) = decide (2 ≤ t.val % 9) :=
  (by decide +kernel : ∀ t : Fin grid0.N, idle0 3 (grid0.coords t) = decide (2 ≤ t.val % 9))
theorem idle4 : ∀ t : Fin cfg0.N, cfg0.idle 4 (cfg0.grid.coords t) = !decide (2 ≤ t.val % 9 ∧ t.val % 9 < 5) :=
  (by decide +kernel : ∀ t : Fin grid0.N, idle0 4 (grid0.coords t) = !decide (2 ≤ t.val % 9 ∧ t.val % 9 < 5))
theorem idle5 : ∀ t : Fin cfg0.N, cfg0.idle 5 (cfg0.grid.coords t) = decide (t.val % 9 < 5) :=
  (by decide +kernel : ∀ t : Fin grid0.N, idle0 5 (grid0.coords t) = decide (t.val % 9 < 5))

theorem flush3 : ∀ t : Fin cfg0.N, 1 ≤ t.val % 9 → t.val % 9 < 8 → (cfg0.win 3).flush t = false :=
  (by decide +kernel : ∀ t : Fin grid0.N, 1 ≤ t.val % 9 → t.val % 9 < 8 → win0_3.flush t = false)
theorem flush4 : ∀ t : Fin cfg0.N, t.val % 9 < 2 ∨ 4 ≤ t.val % 9 ∧ t.val % 9 < 8 → (cfg0.win 4).flush t = false :=
  (by decide +kernel : ∀ t : Fin grid0.N, t.val % 9 < 2 ∨ 4 ≤ t.val % 9 ∧ t.val % 9 < 8 → win0_4.flush t = false)
theorem flush5 : ∀ t : Fin cfg0.N, t.val % 9 < 5 → (cfg0.win 5).flush t = false :=
  (by decide +kernel : ∀ t : Fin grid0.N, t.val % 9 < 5 → win0_5.flush t = false)

theorem SC_step (c : Dev nD) (t : Fin cfg0.N) (h0 : t.val % 9 ≠ 0) (h) : SC m c ⟨t.val - 1, h⟩ = SC m c t := by
  unfold SC
  rw [show rowPt ⟨t.val - 1, h⟩ = rowPt t from Fin.ext (by unfold rowPt; dsimp only; omega)]

theorem up_step (c : Dev nD) (t : Fin cfg0.N) (h0 : 2 ≤ t.val % 9) (h) : (dats m 0 c).after 3 ⟨t.val - 1, h⟩ = (dats m 0 c).after 3 t := by
  rw [after0_3, after0_3, SC_step m c t (by omega), show upPt ⟨t.val - 1, h⟩ = upPt t from Fin.ext (by unfold upPt; dsimp only; omega)]

theorem qk_step (c : Dev nD) (t : Fin cfg0.N) (h0 : 5 ≤ t.val % 9) (h) : (dats m 0 c).after 4 ⟨t.val - 1, h⟩ = (dats m 0 c).after 4 t := by
  rw [after0_4, after0_4, SC_step m c t (by omega), show qkPt ⟨t.val - 1, h⟩ = qkPt t from Fin.ext (by unfold qkPt; dsimp only; omega)]

theorem kept_eq (c : Dev nD) (w : Fin cfg0.W) (hclip : ∀ (i : cfg0.grid.Coords) a, (cfg0.win w).clip i a = none) (t : Fin cfg0.N) (d) :
    (dats m 0 c).kept w t d = (dats m 0 c).after w t := by
  unfold Dat.kept
  rw [Pipeline.fill_of_clip_none w _ (hclip _) d ((dats m 0 c).after w _), Window.fill_cut]

/-- After the points that store them, the mixer columns are held. -/
theorem held3 (c : Dev nD) : ∀ (n : ℕ) (hn : n < cfg0.N), 2 ≤ n % 9 → ∀ d, (dats m 0 c).before 3 ⟨n, hn⟩ d = (dats m 0 c).after 3 ⟨n, hn⟩
  | 0, _, h, _ => absurd h (by decide)
  | n + 1, hn, h, d => by
    rw [(dats m 0 c).before_of_pos 3 ⟨n + 1, hn⟩ (Nat.succ_ne_zero n) ((cfg0.win 3).fetch_out rfl _) d,
      flush3 _ (by dsimp only; omega) (by dsimp only; omega), if_neg Bool.false_ne_true]
    refine Eq.trans ?_ (up_step m c ⟨n + 1, hn⟩ h (by dsimp only; omega))
    unfold Dat.left
    by_cases h2 : 2 ≤ n % 9
    · rw [show cfg0.idle 3 (cfg0.grid.coords ⟨n + 1 - 1, Nat.lt_of_le_of_lt (Nat.sub_le _ _) hn⟩) = true from (idle3 _).trans (decide_eq_true h2)]
      exact held3 c n (by omega) h2 d
    · rw [show cfg0.idle 3 (cfg0.grid.coords ⟨n + 1 - 1, Nat.lt_of_le_of_lt (Nat.sub_le _ _) hn⟩) = false from (idle3 _).trans (decide_eq_false h2)]
      exact kept_eq m c 3 (fun _ _ => rfl) _ d

/-- After the points that store them, the attention columns are held. -/
theorem held4 (c : Dev nD) : ∀ (n : ℕ) (hn : n < cfg0.N), 5 ≤ n % 9 → ∀ d, (dats m 0 c).before 4 ⟨n, hn⟩ d = (dats m 0 c).after 4 ⟨n, hn⟩
  | 0, _, h, _ => absurd h (by decide)
  | n + 1, hn, h, d => by
    rw [(dats m 0 c).before_of_pos 4 ⟨n + 1, hn⟩ (Nat.succ_ne_zero n) ((cfg0.win 4).fetch_out rfl _) d,
      flush4 _ (by dsimp only; omega), if_neg Bool.false_ne_true]
    refine Eq.trans ?_ (qk_step m c ⟨n + 1, hn⟩ h (by dsimp only; omega))
    unfold Dat.left
    by_cases h2 : 5 ≤ n % 9
    · rw [show cfg0.idle 4 (cfg0.grid.coords ⟨n + 1 - 1, Nat.lt_of_le_of_lt (Nat.sub_le _ _) hn⟩) = true from (idle4 _).trans (by dsimp only [Nat.add_sub_cancel]; rw [decide_eq_false (by omega)]; rfl)]
      exact held4 c n (by omega) h2 d
    · rw [show cfg0.idle 4 (cfg0.grid.coords ⟨n + 1 - 1, Nat.lt_of_le_of_lt (Nat.sub_le _ _) hn⟩) = false from (idle4 _).trans (by dsimp only [Nat.add_sub_cancel]; rw [decide_eq_true (by omega)]; rfl)]
      exact kept_eq m c 4 (fun _ _ => rfl) _ d

/-! What a point gives back of an output: what it stored, or what it found. -/

abbrev stg (t : Fin cfg0.N) (w : Fin cfg0.W) := (cfg0.win w).stage (cfg0.slots t w)

theorem leaves_live (c : Dev nD) (w : Fin cfg0.W) (t : Fin cfg0.N) (h : cfg0.idle w (cfg0.grid.coords t) = false) :
    owns (c : Thread nD τ) (stg t w) fullShare ((dats m 0 c).after w t) ⊢ (dats m 0 c).leavesExact w t := by
  unfold Dat.leavesExact; rw [h]; try exact Idealize.SL.BI.Entails.refl _

theorem leaves_found (c : Dev nD) (w : Fin cfg0.W) (t : Fin cfg0.N) (h : cfg0.idle w (cfg0.grid.coords t) = true) (hf : (cfg0.win w).flush t = false) (d) :
    owns (c : Thread nD τ) (stg t w) fullShare ((dats m 0 c).before w t d) ⊢ (dats m 0 c).leavesExact w t := by
  unfold Dat.leavesExact; rw [h, hf]
  iintro H; iexists d; iexact H

theorem leaves_held (c : Dev nD) (w : Fin cfg0.W) (t : Fin cfg0.N) (h : cfg0.idle w (cfg0.grid.coords t) = true) (d)
    (he : (dats m 0 c).before w t d = (dats m 0 c).after w t) :
    owns (c : Thread nD τ) (stg t w) fullShare ((dats m 0 c).before w t d) ⊢ (dats m 0 c).leavesExact w t := by
  cases hf : (cfg0.win w).flush t with
  | false => exact leaves_found m c w t h hf d
  | true =>
    unfold Dat.leavesExact; rw [h, hf, he]; try exact Idealize.SL.BI.Entails.refl _

/-- What the body is called with at a point, and what it gives back. -/
def bodyPre (c : Dev nD) (t : Fin cfg0.N) : sProp 𝕄 :=
  iprop((dats m 0 c).Φ t.castSucc ∗ (dats m 0 c).owesAt () t.castSucc
    ∗ (∃ d, owns (c : Thread nD τ) (stg t 0) fullShare ((dats m 0 c).before 0 t d))
    ∗ (∃ d, owns (c : Thread nD τ) (stg t 1) fullShare ((dats m 0 c).before 1 t d))
    ∗ (∃ d, owns (c : Thread nD τ) (stg t 2) fullShare ((dats m 0 c).before 2 t d))
    ∗ (∃ d, owns (c : Thread nD τ) (stg t 3) fullShare ((dats m 0 c).before 3 t d))
    ∗ (∃ d, owns (c : Thread nD τ) (stg t 4) fullShare ((dats m 0 c).before 4 t d))
    ∗ (∃ d, owns (c : Thread nD τ) (stg t 5) fullShare ((dats m 0 c).before 5 t d)))

def bodyPost (c : Dev nD) (t : Fin cfg0.N) : sProp 𝕄 :=
  iprop((dats m 0 c).Φ t.succ ∗ (dats m 0 c).owesAt () t.succ
    ∗ owns (c : Thread nD τ) (stg t 0) fullShare ((dats m 0 c).after 0 t)
    ∗ owns (c : Thread nD τ) (stg t 1) fullShare ((dats m 0 c).after 1 t)
    ∗ owns (c : Thread nD τ) (stg t 2) fullShare ((dats m 0 c).after 2 t)
    ∗ (dats m 0 c).leavesExact 3 t
    ∗ (dats m 0 c).leavesExact 4 t
    ∗ (dats m 0 c).leavesExact 5 t)

set_option maxHeartbeats 1000000 in
/-- The body keeps what the run states at every point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl, after0_0, after0_1, after0_2]
  rw [show (dats m 0 c).Φ t.succ = PhiS m c (t.val + 1) t.isLt from rfl, PhiS_succ]
  obtain ⟨e0, e2, e3, e4⟩ := hcond t
  have hU : t.val % 9 < 2 → (dats m 0 c).after 3 t = UP (SC m c t) (iblk m c 2 t) := fun h => by
    rw [after0_3, show upPt t = t from Fin.ext (by unfold upPt; dsimp only; omega)]
  have hQ : 2 ≤ t.val % 9 → t.val % 9 < 5 → (dats m 0 c).after 4 t = QK (SC m c t) (iblk m c 2 t) := fun h h' => by
    rw [after0_4, show qkPt t = t from Fin.ext (by unfold qkPt; dsimp only; omega)]
  have hG : 5 ≤ t.val % 9 → (dats m 0 c).after 5 t = GT (SC m c t) (iblk m c 2 t) := fun h => by
    rw [after0_5, show gtPt t = t from Fin.ext (by unfold gtPt; dsimp only; omega)]
  by_cases h0 : t.val % 9 = 0
  · have hS : SC m c t = k0_pay1 (iblk m c 0 t) (iblk m c 1 t) := by
      unfold SC; rw [show rowPt t = t from Fin.ext (by unfold rowPt; dsimp only; omega)]
    have hU' : (dats m 0 c).after 3 t = UP (k0_pay1 (iblk m c 0 t) (iblk m c 1 t)) (iblk m c 2 t) := by rw [hU (by omega), hS]
    have hl := leaves_live m c 3 t ((idle3 t).trans (decide_eq_false (by omega)))
    rw [hU'] at hl
    rw [show (⟨t.val, t.isLt⟩ : Fin cfg0.N) = t from rfl, hS]
    by_cases hz : t.val = 0
    · rw [PhiS_castSucc m c t, PhiS_zero m c _ _ hz, PhiA_eq]
      iintro ⟨⟨⟨%ds, HS0⟩, Hg⟩, Ho, ⟨%d0, H0⟩, ⟨%d1, H1⟩, ⟨%d2, H2⟩, ⟨%d3, H3⟩, ⟨%d4, H4⟩, ⟨%d5, H5⟩⟩
      iapply (run_A c (grid0.coords t) _ _ _ _ _ _ _ _ _ _ _ _ _ _ (e0.mpr (by omega)) (e2.mpr (by omega)) (fun h => absurd (e3.mp h) (by omega)) (fun h => absurd (e4.mp h) (by omega)) (iblk m c 0 t) (iblk m c 1 t) (iblk m c 2 t) _ _ _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, HS0⟩
      isplitl [HS0 Hg]
      · isplitl [HS0]
        · iexact HS0
        iexact Hg
      isplitl [Ho]; · iexact Ho
      isplitl [H0]; · iexact H0
      isplitl [H1]; · iexact H1
      isplitl [H2]; · iexact H2
      isplitl [H3]
      · iapply hl
        iexact H3
      isplitl [H4]
      · iapply (leaves_found m c 4 t ((idle4 t).trans (by rw [decide_eq_false (by omega)]; rfl)) (flush4 t (by omega)) d4)
        iexact H4
      iapply (leaves_found m c 5 t ((idle5 t).trans (decide_eq_true (by omega))) (flush5 t (by omega)) d5)
      iexact H5
    · rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩, ⟨%d5, H5⟩⟩
      iapply (run_A c (grid0.coords t) _ _ _ _ _ _ _ _ _ _ _ _ _ _ (e0.mpr (by omega)) (e2.mpr (by omega)) (fun h => absurd (e3.mp h) (by omega)) (fun h => absurd (e4.mp h) (by omega)) (iblk m c 0 t) (iblk m c 1 t) (iblk m c 2 t) _ _ _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, HS0⟩
      isplitl [HS0 Hg]
      · isplitl [HS0]
        · iexact HS0
        iexact Hg
      isplitl [Ho]; · iexact Ho
      isplitl [H0]; · iexact H0
      isplitl [H1]; · iexact H1
      isplitl [H2]; · iexact H2
      isplitl [H3]
      · iapply hl
        iexact H3
      isplitl [H4]
      · iapply (leaves_found m c 4 t ((idle4 t).trans (by rw [decide_eq_false (by omega)]; rfl)) (flush4 t (by omega)) d4)
        iexact H4
      iapply (leaves_found m c 5 t ((idle5 t).trans (decide_eq_true (by omega))) (flush5 t (by omega)) d5)
      iexact H5
  · have hz : t.val ≠ 0 := fun h => h0 (by rw [h])
    rw [PhiS_castSucc m c t, PhiS_pos m c _ _ hz, SC_step m c t h0, show (⟨t.val, t.isLt⟩ : Fin cfg0.N) = t from rfl]
    by_cases h2 : t.val % 9 < 2
    · have hl := leaves_live m c 3 t ((idle3 t).trans (decide_eq_false (by omega)))
      rw [hU h2] at hl
      iintro ⟨⟨HS0, Hg⟩, Ho, ⟨%d0, H0⟩, ⟨%d1, H1⟩, ⟨%d2, H2⟩, ⟨%d3, H3⟩, ⟨%d4, H4⟩, ⟨%d5, H5⟩⟩
      iapply (run_B c (grid0.coords t) _ _ _ _ _ _ _ _ _ _ _ _ _ _ (fun h => absurd (e0.mp h) (by omega)) (e2.mpr (by omega)) (fun h => absurd (e3.mp h) (by omega)) (fun h => absurd (e4.mp h) (by omega)) (iblk m c 0 t) (iblk m c 1 t) (iblk m c 2 t) _ _ _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, HS0⟩
      isplitl [HS0 Hg]
      · isplitl [HS0]
        · iexact HS0
        iexact Hg
      isplitl [Ho]; · iexact Ho
      isplitl [H0]; · iexact H0
      isplitl [H1]; · iexact H1
      isplitl [H2]; · iexact H2
      isplitl [H3]
      · iapply hl
        iexact H3
      isplitl [H4]
      · iapply (leaves_found m c 4 t ((idle4 t).trans (by rw [decide_eq_false (by omega)]; rfl)) (flush4 t (by omega)) d4)
        iexact H4
      iapply (leaves_found m c 5 t ((idle5 t).trans (decide_eq_true (by omega))) (flush5 t (by omega)) d5)
      iexact H5
    · by_cases h5 : t.val % 9 < 5
      · have hl := leaves_live m c 4 t ((idle4 t).trans (by rw [decide_eq_true (by omega)]; rfl))
        rw [hQ (by omega) h5] at hl
        iintro ⟨⟨HS0, Hg⟩, Ho, ⟨%d0, H0⟩, ⟨%d1, H1⟩, ⟨%d2, H2⟩, ⟨%d3, H3⟩, ⟨%d4, H4⟩, ⟨%d5, H5⟩⟩
        iapply (run_C c (grid0.coords t) _ _ _ _ _ _ _ _ _ _ _ _ _ _ (fun h => absurd (e0.mp h) (by omega)) (fun h => absurd (e2.mp h) (by omega)) (e3.mpr (by omega)) (fun h => absurd (e4.mp h) (by omega)) (iblk m c 0 t) (iblk m c 1 t) (iblk m c 2 t) _ _ _ _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, HS0⟩
        isplitl [HS0 Hg]
        · isplitl [HS0]
          · iexact HS0
          iexact Hg
        isplitl [Ho]; · iexact Ho
        isplitl [H0]; · iexact H0
        isplitl [H1]; · iexact H1
        isplitl [H2]; · iexact H2
        isplitl [H3]
        · iapply (leaves_held m c 3 t ((idle3 t).trans (decide_eq_true (by omega))) d3 (held3 m c t.val t.isLt (by omega) d3))
          iexact H3
        isplitl [H4]
        · iapply hl
          iexact H4
        iapply (leaves_found m c 5 t ((idle5 t).trans (decide_eq_true (by omega))) (flush5 t (by omega)) d5)
        iexact H5
      · have hl := leaves_live m c 5 t ((idle5 t).trans (decide_eq_false (by omega)))
        rw [hG (by omega)] at hl
        iintro ⟨⟨HS0, Hg⟩, Ho, ⟨%d0, H0⟩, ⟨%d1, H1⟩, ⟨%d2, H2⟩, ⟨%d3, H3⟩, ⟨%d4, H4⟩, ⟨%d5, H5⟩⟩
        iapply (run_D c (grid0.coords t) _ _ _ _ _ _ _ _ _ _ _ _ _ _ (fun h => absurd (e0.mp h) (by omega)) (fun h => absurd (e2.mp h) (by omega)) (fun h => absurd (e3.mp h) (by omega)) (e4.mpr (by omega)) (iblk m c 0 t) (iblk m c 1 t) (iblk m c 2 t) _ _ _ _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, HS0⟩
        isplitl [HS0 Hg]
        · isplitl [HS0]
          · iexact HS0
          iexact Hg
        isplitl [Ho]; · iexact Ho
        isplitl [H0]; · iexact H0
        isplitl [H1]; · iexact H1
        isplitl [H2]; · iexact H2
        isplitl [H3]
        · iapply (leaves_held m c 3 t ((idle3 t).trans (decide_eq_true (by omega))) d3 (held3 m c t.val t.isLt (by omega) d3))
          iexact H3
        isplitl [H4]
        · iapply (leaves_held m c 4 t ((idle4 t).trans (by rw [decide_eq_false (by omega)]; rfl)) d4 (held4 m c t.val t.isLt (by omega) d4))
          iexact H4
        iapply hl
        iexact H5

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c cfg0.N (le_refl _) from rfl,
    PhiS_pos m c _ _ (by have : cfg0.N = 72 := N_0; omega), PhiA_eq]
  iintro ⟨HS0, Hg⟩
  isplitl [HS0]
  · iexists _; iexact HS0
  iexact Hg

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- Every run ends, with every array of the calls' windows at what is stated point by point. -/
theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- The same, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.KernelIPIdeal.Hand

end
-- ==== Proof.IPRef.lean ====
/- The input projection's reference, element by element. -/
module

public import proofs.«01_k».proof.Proof.Gen.ReferenceIPIdeal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.ReferenceIPIdeal.RefValue

open Cert.ReferenceIPIdeal Cert.ReferenceIPIdeal.Gen

/-- The rows, each divided by its root mean square and scaled by the gain, times the weights. -/
def NZ (X : FVec Ideal S2x4096x2048 .f32) (G : FVec Ideal S1x2048 .f32) (W : FVec Ideal S1x2048x9216 .f32) : FVec Ideal S2x4096x9216 .f32 :=
  Host.dotGeneral dot_S2x4096x2048_S2048x9216_S2x4096x9216_2_0_01_1_n_n none
    (mulf (mulf X (broadcastInDim S2x4096x2048 ![0, 1, 2] bcast_S2x4096x1_S2x4096x2048_0_1_2
      (Host.rsqrt (addf (Host.divf (broadcastInDim S2x4096x1 ![0, 1] bcast_S2x4096_S2x4096x1_0_1
        (Host.reduceAdd (mulf X X) (constant S_ .f32 0x00000000#32) reducesTo_S2x4096x2048_S2x4096_d2 h_S_))
        (broadcastInDim S2x4096x1 ![] bcast_S_S2x4096x1 (constant S_ .f32 0x45000000#32)))
        (broadcastInDim S2x4096x1 ![] bcast_S_S2x4096x1 (constant S_ .f32 0x358637BD#32))))))
      (broadcastInDim S2x4096x2048 ![0, 1, 2] bcast_S1x1x2048_S2x4096x2048_0_1_2
        (broadcastInDim S1x1x2048 ![2] bcast_S2048_S1x1x2048_2 (shapeCast _ G shapeCasts_S1x2048_S2048))))
    (shapeCast _ W shapeCasts_S1x2048x9216_S2048x9216)

/-- The exact GELU. -/
def GELU (Z : FVec Ideal S2x4096x1024 .f32) : FVec Ideal S2x4096x1024 .f32 :=
  mulf (mulf (broadcastInDim S2x4096x1024 ![] bcast_S_S2x4096x1024 (constant S_ .f32 0x3F000000#32)) Z)
    (Host.erfc (mulf (Host.negf Z) (broadcastInDim S2x4096x1024 ![] bcast_S_S2x4096x1024 (constant S_ .f32 0x3F3504F3#32))))

/-- The sigmoid. -/
def SIGM (Z : FVec Ideal S2x4096x2048 .f32) : FVec Ideal S2x4096x2048 .f32 :=
  Host.divf (broadcastInDim S2x4096x2048 ![] bcast_S_S2x4096x2048 (constant S_ .f32 0x3F800000#32))
    (addf (broadcastInDim S2x4096x2048 ![] bcast_S_S2x4096x2048 (constant S_ .f32 0x3F800000#32)) (Host.exp (Host.negf Z)))

/-- The two halves of the spatial mixer's columns. -/
def REF0 (Z : FVec Ideal S2x4096x9216 .f32) : FVec Ideal S8192x2048 .bf16 :=
  truncf .bf16 (shapeCast _ (concatenate S2x4096x2048 2
    [⟨S2x4096x1024, GELU (extractStridedSlice S2x4096x1024 ![0, 0, 0] Z slices_S2x4096x9216_S2x4096x1024_0_0_0)⟩,
      ⟨S2x4096x1024, GELU (extractStridedSlice S2x4096x1024 ![0, 0, 1024] Z slices_S2x4096x9216_S2x4096x1024_0_0_1024)⟩]
    concatenates_S2x4096x1024_S2x4096x1024_S2x4096x2048_d2) shapeCasts_S2x4096x2048_S8192x2048) bitsLt_bf16_f32

/-- The attention's queries, keys and values. -/
def REF1 (Z : FVec Ideal S2x4096x9216 .f32) : FVec Ideal S8192x3072 .bf16 :=
  truncf .bf16 (shapeCast _ (concatenate S2x4096x3072 2
    [⟨S2x4096x1024, extractStridedSlice S2x4096x1024 ![0, 0, 2048] Z slices_S2x4096x9216_S2x4096x1024_0_0_2048⟩,
      ⟨S2x4096x1024, extractStridedSlice S2x4096x1024 ![0, 0, 3072] Z slices_S2x4096x9216_S2x4096x1024_0_0_3072⟩,
      ⟨S2x4096x1024, extractStridedSlice S2x4096x1024 ![0, 0, 4096] Z slices_S2x4096x9216_S2x4096x1024_0_0_4096⟩]
    concatenates_S2x4096x1024_S2x4096x1024_S2x4096x1024_S2x4096x3072_d2) shapeCasts_S2x4096x3072_S8192x3072) bitsLt_bf16_f32

/-- The two gates. -/
def REF2 (Z : FVec Ideal S2x4096x9216 .f32) : FVec Ideal S8192x4096 .bf16 :=
  truncf .bf16 (shapeCast _ (concatenate S2x4096x4096 2
    [⟨S2x4096x2048, SIGM (extractStridedSlice S2x4096x2048 ![0, 0, 5120] Z slices_S2x4096x9216_S2x4096x2048_0_0_5120)⟩,
      ⟨S2x4096x2048, SIGM (extractStridedSlice S2x4096x2048 ![0, 0, 7168] Z slices_S2x4096x9216_S2x4096x2048_0_0_7168)⟩]
    concatenates_S2x4096x2048_S2x4096x2048_S2x4096x4096_d2) shapeCasts_S2x4096x4096_S8192x4096) bitsLt_bf16_f32

/-- The reference's run: its results as these functions of its arguments, and its arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v53) = REF0 (NZ (m ((c.tc : Thread nD τ).loc main_arg0)) (m ((c.tc : Thread nD τ).loc main_arg1)) (m ((c.tc : Thread nD τ).loc main_arg2)))
      ∧ r.2.mem ((c.tc : Thread nD τ).loc main_v55) = REF1 (NZ (m ((c.tc : Thread nD τ).loc main_arg0)) (m ((c.tc : Thread nD τ).loc main_arg1)) (m ((c.tc : Thread nD τ).loc main_arg2)))
      ∧ r.2.mem ((c.tc : Thread nD τ).loc main_v57) = REF2 (NZ (m ((c.tc : Thread nD τ).loc main_arg0)) (m ((c.tc : Thread nD τ).loc main_arg1)) (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  θ_run_mono (Value.run m ρ) fun r h c => ⟨(h c).1, (h c).2.1, (h c).2.2.1, (h c).2.2.2⟩

/-- A row, normalised and scaled, times a column of weights. -/
def cell (x g w : Fin 2048 → EReal) : EReal :=
  ∑ k, x k * Ideal.rsqrt (Ideal.div (∑ k, x k * x k) (Ideal.ofBits .f32 0x45000000#32) + Ideal.ofBits .f32 0x358637BD#32) * g k * w k

/-- The exact GELU of a number. -/
def gelu (z : EReal) : EReal :=
  Ideal.ofBits .f32 0x3F000000#32 * z * Ideal.erfc (-z * Ideal.ofBits .f32 0x3F3504F3#32)

/-- The sigmoid of a number. -/
def sigm (z : EReal) : EReal :=
  Ideal.div (Ideal.ofBits .f32 0x3F800000#32) (Ideal.ofBits .f32 0x3F800000#32 + Ideal.exp (-z))

theorem ofBits_one : Ideal.ofBits .f32 0x3F800000#32 = 1 := by simp [Ideal.ofBits, Ideal.ieee, -EReal.coe_mul]; norm_num

theorem ofBits_half : Ideal.ofBits .f32 0x3F000000#32 = ((1 / 2 : ℝ) : EReal) := by
  simp [Ideal.ofBits, Ideal.ieee, -EReal.coe_mul]; norm_num

/-- The GELU by the error function is the one by its complement. -/
theorem gelu_erf (z : EReal) :
    Ideal.ofBits .f32 0x3F000000#32 * z * (Ideal.ofBits .f32 0x3F800000#32 + Ideal.erf (z * Ideal.ofBits .f32 0x3F3504F3#32)) = gelu z := by
  rw [gelu, ofBits_one, neg_mul, Ideal.erfc_neg]

/-- The sigmoid by the hyperbolic tangent is the one by the exponential, at the infinities too. -/
theorem sigm_tanh (z : EReal) :
    Ideal.ofBits .f32 0x3F000000#32 * Ideal.tanh (Ideal.ofBits .f32 0x3F000000#32 * z) + Ideal.ofBits .f32 0x3F000000#32 = sigm z := by
  have hs : sigm z = Ideal.logistic z := by rw [sigm, ofBits_one]; rfl
  rw [hs, ofBits_half]
  induction z with
  | bot =>
    rw [EReal.coe_mul_bot_of_pos (by norm_num), Ideal.tanh_bot, Ideal.logistic_bot]
    have : (-1 : EReal) = ((-1 : ℝ) : EReal) := by norm_num
    rw [this, ← EReal.coe_mul, ← EReal.coe_add]; norm_num
  | top =>
    rw [EReal.coe_mul_top_of_pos (by norm_num), Ideal.tanh_top, Ideal.logistic_top, mul_one, ← EReal.coe_add]; norm_num
  | coe r =>
    rw [← EReal.coe_mul, Ideal.tanh_coe, Ideal.logistic_coe, ← EReal.coe_mul, ← EReal.coe_add]
    refine congrArg _ ?_
    have e : Real.exp (-r) = Real.exp (-(1 / 2 * r)) * Real.exp (-(1 / 2 * r)) := by rw [← Real.exp_add]; ring_nf
    have e' : Real.exp (1 / 2 * r) * Real.exp (-(1 / 2 * r)) = 1 := by rw [← Real.exp_add]; simp
    have p := Real.exp_pos (1 / 2 * r)
    have q := Real.exp_pos (-(1 / 2 * r))
    rw [Real.tanh_eq_sinh_div_cosh, Real.sinh_eq, Real.cosh_eq, e]
    set a := Real.exp (1 / 2 * r)
    set b := Real.exp (-(1 / 2 * r))
    have h1 : (a + b) ≠ 0 := by positivity
    have h2 : (1 + b * b) ≠ 0 := by positivity
    field_simp
    linear_combination 2 * b * e'

theorem NZ_at (X : FVec Ideal S2x4096x2048 .f32) (G : FVec Ideal S1x2048 .f32) (W : FVec Ideal S1x2048x9216 .f32) (b : Fin 2) (s : Fin 4096) (l : Fin 9216) :
    NZ X G W (ix3 b s l) = cell (fun k => X (ix3 b s k)) (fun k => G (ix2 0 k)) (fun k => W (ix3 0 k l)) := by
  pointwise [NZ]
  rfl

theorem GELU_at (Z : FVec Ideal S2x4096x1024 .f32) (i) : GELU Z i = gelu (Z i) := by
  pointwise [GELU]
  rfl

theorem SIGM_at (Z : FVec Ideal S2x4096x2048 .f32) (i) : SIGM Z i = sigm (Z i) := by
  pointwise [SIGM]
  rw [sigm, ofBits_one]

theorem REF0_at (Z : FVec Ideal S2x4096x9216 .f32) (i : Fin 8192) (l : Fin 2048) :
    REF0 Z (ix2 i l) = gelu (Z (ix3 ⟨i / 4096, by omega⟩ ⟨i % 4096, by omega⟩ ⟨l, by omega⟩)) := by
  pointwise [REF0]
  simp only [GELU_at]
  pointwise
  split_ifs
  all_goals (refine congrArg gelu (congrArg (fun c => Z (ix3 _ _ c)) (Fin.ext ?_)); dsimp only <;> omega)

theorem REF1_at (Z : FVec Ideal S2x4096x9216 .f32) (i : Fin 8192) (l : Fin 3072) :
    REF1 Z (ix2 i l) = Z (ix3 ⟨i / 4096, by omega⟩ ⟨i % 4096, by omega⟩ ⟨2048 + l, by omega⟩) := by
  pointwise [REF1]
  split_ifs
  all_goals (refine congrArg (fun c => Z (ix3 _ _ c)) (Fin.ext ?_); dsimp only <;> omega)

theorem REF2_at (Z : FVec Ideal S2x4096x9216 .f32) (i : Fin 8192) (l : Fin 4096) :
    REF2 Z (ix2 i l) = sigm (Z (ix3 ⟨i / 4096, by omega⟩ ⟨i % 4096, by omega⟩ ⟨5120 + l, by omega⟩)) := by
  pointwise [REF2]
  simp only [SIGM_at]
  pointwise
  split_ifs
  all_goals (refine congrArg sigm (congrArg (fun c => Z (ix3 _ _ c)) (Fin.ext ?_)); dsimp only <;> omega)

theorem REF0_of (Z : FVec Ideal S2x4096x9216 .f32) (j : S8192x2048.Idx) (i : Fin 8192) (l : Fin 2048) (h0 : (j 0 : ℕ) = i) (h1 : (j 1 : ℕ) = l) :
    REF0 Z j = gelu (Z (ix3 ⟨i / 4096, by omega⟩ ⟨i % 4096, by omega⟩ ⟨l, by omega⟩)) := by
  idx_vars j
  obtain rfl : j0 = i := Fin.ext h0
  obtain rfl : j1 = l := Fin.ext h1
  exact REF0_at Z _ _

theorem REF1_of (Z : FVec Ideal S2x4096x9216 .f32) (j : S8192x3072.Idx) (i : Fin 8192) (l : Fin 3072) (h0 : (j 0 : ℕ) = i) (h1 : (j 1 : ℕ) = l) :
    REF1 Z j = Z (ix3 ⟨i / 4096, by omega⟩ ⟨i % 4096, by omega⟩ ⟨2048 + l, by omega⟩) := by
  idx_vars j
  obtain rfl : j0 = i := Fin.ext h0
  obtain rfl : j1 = l := Fin.ext h1
  exact REF1_at Z _ _

theorem REF2_of (Z : FVec Ideal S2x4096x9216 .f32) (j : S8192x4096.Idx) (i : Fin 8192) (l : Fin 4096) (h0 : (j 0 : ℕ) = i) (h1 : (j 1 : ℕ) = l) :
    REF2 Z j = sigm (Z (ix3 ⟨i / 4096, by omega⟩ ⟨i % 4096, by omega⟩ ⟨5120 + l, by omega⟩)) := by
  idx_vars j
  obtain rfl : j0 = i := Fin.ext h0
  obtain rfl : j1 = l := Fin.ext h1
  exact REF2_at Z _ _

end Cert.ReferenceIPIdeal.RefValue

end
-- ==== Proof.IPValue.lean ====
/- The input projection: what its three result arrays hold after the run, as the reference's terms of the arguments. -/
module

public import proofs.«01_k».proof.Proof.IPIFrame
public import proofs.«01_k».proof.Proof.IPRef
public import Idealize.ShloMosaic.Lib.Pipeline.ValueKit
public import Idealize.ShloMosaic.Lib.Pipeline.ValueKit.Held
public import Idealize.ShloMosaic.Lib.Pointwise
public import Idealize.ShloMosaic.Lib.ValueLayout

@[expose] public section

set_option maxRecDepth 16384

noncomputable section

open Idealize.ShloMosaic Idealize.ShloMosaic.TcCoe Idealize.SL.Sem
open Idealize.ShloMosaic.Pipeline (Dat)

namespace Cert.KernelIPIdeal.RefValue

open Cert.KernelIPIdeal Cert.KernelIPIdeal.Gen Cert.KernelIPIdeal.Hand
open Cert.ReferenceIPIdeal.RefValue (NZ REF0 REF1 REF2 NZ_at REF0_of REF1_of REF2_of cell gelu sigm gelu_erf sigm_tanh)

variable (m : (ℓ : Loc nD τ sig) → Buf (Elt Ideal) ℓ)

/-- The windows' block indices at a point. -/
theorem idx : ∀ t : Fin cfg0.N, win0_0.index t = ![t.val / 9, 0] ∧ win0_1.index t = ![0, 0] ∧ win0_2.index t = ![0, t.val % 9]
    ∧ win0_3.index t = ![t.val / 9, min (t.val % 9) 1] ∧ win0_4.index t = ![t.val / 9, min (max (t.val % 9) 2) 4 - 2]
    ∧ win0_5.index t = ![t.val / 9, max (t.val % 9) 5 - 5] :=
  (by decide +kernel : ∀ t : Fin grid0.N, _)

/-- A row of the normalised rows times a column of the weights. -/
def dot (A : Vec Ideal S1024x2048 .bf16) (W : Vec Ideal S2048x1024 .f32) (r l : Fin 1024) : EReal :=
  ∑ k : Fin 2048, A (ix2 r k) * W (ix2 k l)

theorem pay2_at (A : Vec Ideal S1024x2048 .bf16) (w : Vec Ideal S2048x512 .f32) (r : Fin 1024) (l : Fin 512) :
    k0_pay2 A w (ix2 r l) = gelu (∑ k : Fin 2048, A (ix2 r k) * w (ix2 k l)) := by
  rw [← gelu_erf]
  pointwise [k0_pay2]
  rfl

theorem pay3_at (A : Vec Ideal S1024x2048 .bf16) (w : Vec Ideal S2048x512 .f32) (r : Fin 1024) (l : Fin 512) :
    k0_pay3 A w (ix2 r l) = gelu (∑ k : Fin 2048, A (ix2 r k) * w (ix2 k l)) := by
  rw [← gelu_erf]
  pointwise [k0_pay3]
  rfl

theorem pay4_at (A : Vec Ideal S1024x2048 .bf16) (w : Vec Ideal S2048x512 .f32) (r : Fin 1024) (l : Fin 512) :
    k0_pay4 A w (ix2 r l) = ∑ k : Fin 2048, A (ix2 r k) * w (ix2 k l) := by
  pointwise [k0_pay4]

theorem pay5_at (A : Vec Ideal S1024x2048 .bf16) (w : Vec Ideal S2048x512 .f32) (r : Fin 1024) (l : Fin 512) :
    k0_pay5 A w (ix2 r l) = ∑ k : Fin 2048, A (ix2 r k) * w (ix2 k l) := by
  pointwise [k0_pay5]

theorem pay6_at (A : Vec Ideal S1024x2048 .bf16) (w : Vec Ideal S2048x512 .f32) (r : Fin 1024) (l : Fin 512) :
    k0_pay6 A w (ix2 r l) = sigm (∑ k : Fin 2048, A (ix2 r k) * w (ix2 k l)) := by
  rw [← sigm_tanh]
  pointwise [k0_pay6]

theorem pay7_at (A : Vec Ideal S1024x2048 .bf16) (w : Vec Ideal S2048x512 .f32) (r : Fin 1024) (l : Fin 512) :
    k0_pay7 A w (ix2 r l) = sigm (∑ k : Fin 2048, A (ix2 r k) * w (ix2 k l)) := by
  rw [← sigm_tanh]
  pointwise [k0_pay7]

/-- A half of a block's columns is the weights' half. -/
theorem half_at (A : Vec Ideal S1024x2048 .bf16) (W : Vec Ideal S2048x1024 .f32) (o : ℕ) (h) (r l : Fin 1024) (l' : Fin 512) (hl : (l : ℕ) = o + l') :
    ∑ k : Fin 2048, A (ix2 r k) * View.ld (Val := Elt Ideal) W (Rect.unit (s := S2048x1024) ![0, o] ![2048, 512] h) (ix2 k l') = dot A W r l := by
  refine Finset.sum_congr rfl fun k _ => congrArg (A (ix2 r k) * ·) ?_
  pointwise
  blk_ext

theorem UP_at (A : Vec Ideal S1024x2048 .bf16) (W : Vec Ideal S2048x1024 .f32) (r l : Fin 1024) :
    UP A W (ix2 r l) = gelu (dot A W r l) := by
  unfold UP
  canon_tiles x h
  all_goals idx_vars x
  all_goals first | rw [pay2_at] | rw [pay3_at]
  all_goals
    obtain rfl : r = x0 := Fin.ext ‹(r : ℕ) = x0›
    exact congrArg gelu (half_at A W _ _ r l _ (by omega))

theorem QK_at (A : Vec Ideal S1024x2048 .bf16) (W : Vec Ideal S2048x1024 .f32) (r l : Fin 1024) :
    QK A W (ix2 r l) = dot A W r l := by
  unfold QK
  canon_tiles x h
  all_goals idx_vars x
  all_goals first | rw [pay4_at] | rw [pay5_at]
  all_goals
    obtain rfl : r = x0 := Fin.ext ‹(r : ℕ) = x0›
    exact half_at A W _ _ r l _ (by omega)

theorem GT_at (A : Vec Ideal S1024x2048 .bf16) (W : Vec Ideal S2048x1024 .f32) (r l : Fin 1024) :
    GT A W (ix2 r l) = sigm (dot A W r l) := by
  unfold GT
  canon_tiles x h
  all_goals idx_vars x
  all_goals first | rw [pay6_at] | rw [pay7_at]
  all_goals
    obtain rfl : r = x0 := Fin.ext ‹(r : ℕ) = x0›
    exact congrArg sigm (half_at A W _ _ r l _ (by omega))

/-- The normalised rows times the weights, element by element. -/
theorem dot_norm (X : Vec Ideal S1024x2048 .f32) (G : Vec Ideal S1x2048 .f32) (W : Vec Ideal S2048x1024 .f32) (r l : Fin 1024) :
    dot (k0_pay1 X G) W r l = cell (fun k => X (ix2 r k)) (fun k => G (ix2 0 k)) (fun k => W (ix2 k l)) := by
  unfold dot
  pointwise [k0_pay1]
  rfl

/-! The host's reshapes of the arguments, and the blocks of a point, element by element. -/

theorem v0_eq (c : Dev nD) : V m c main_v0 = shapeCast S8192x2048 (m ((c : Thread nD τ).loc main_arg0)) shapeCasts_S2x4096x2048_S8192x2048 := by
  unfold V; rw [hostOps0]; after_results; rfl

theorem v2_eq (c : Dev nD) : V m c main_v2 = shapeCast S2048x9216 (m ((c : Thread nD τ).loc main_arg2)) shapeCasts_S1x2048x9216_S2048x9216 := by
  unfold V; rw [hostOps0]; after_results; rfl

theorem v3_eq (c : Dev nD) : V m c main_v3
    = shapeCast S1x2048 (shapeCast S2048 (m ((c : Thread nD τ).loc main_arg1)) shapeCasts_S1x2048_S2048) shapeCasts_S2048_S1x2048 := by
  unfold V; rw [hostOps0]; after_results; rfl

/-- The batches' rows one after the other. -/
theorem rows_at (X : Vec Ideal S2x4096x2048 .f32) (i : Fin 8192) (k : Fin 2048) :
    shapeCast S8192x2048 X shapeCasts_S2x4096x2048_S8192x2048 (ix2 i k) = X (ix3 ⟨i / 4096, by omega⟩ ⟨i % 4096, by omega⟩ k) := by
  refine shapeCast_apply X _ _ _ ?_
  rw [Shape.rowMajor_val_three, Shape.rowMajor_val_two]
  show ((i : ℕ) / 4096 * 4096 + (i : ℕ) % 4096) * 2048 + (k : ℕ) = (i : ℕ) * 2048 + (k : ℕ)
  omega

theorem blk0 (c : Dev nD) (t : Fin cfg0.N) (r : Fin 1024) (k : Fin 2048) (i : Fin 8192) (hi : (i : ℕ) = t.val / 9 * 1024 + r) :
    iblk m c 0 t (ix2 r k) = m ((c : Thread nD τ).loc main_arg0) (ix3 ⟨i / 4096, by omega⟩ ⟨i % 4096, by omega⟩ k) := by
  refine Eq.trans (b := V m c main_v0 (ix2 i k)) (by blk_ext [iblk, idx t]) ?_
  rw [v0_eq]; exact rows_at (m ((c : Thread nD τ).loc main_arg0)) i k

theorem blk1 (c : Dev nD) (t : Fin cfg0.N) (k : Fin 2048) :
    iblk m c 1 t (ix2 0 k) = m ((c : Thread nD τ).loc main_arg1) (ix2 0 k) := by
  refine Eq.trans (b := V m c main_v3 (ix2 0 k)) (by blk_ext [iblk, idx t]) ?_
  rw [v3_eq]; pointwise

theorem blk2 (c : Dev nD) (t : Fin cfg0.N) (k : Fin 2048) (l : Fin 1024) (e : Fin 9216) (he : (e : ℕ) = t.val % 9 * 1024 + l) :
    iblk m c 2 t (ix2 k l) = m ((c : Thread nD τ).loc main_arg2) (ix3 0 k e) := by
  refine Eq.trans (b := V m c main_v2 (ix2 k e)) (by blk_ext [iblk, idx t]) ?_
  rw [v2_eq]; exact ValueIdx.shapeCast_1ab_ab_apply (m ((c : Thread nD τ).loc main_arg2)) _ k e

/-- The reference's product at a point's row of blocks, from the blocks the point reads: `e` is the array's column. -/
theorem dot_point (c : Dev nD) (t s : Fin cfg0.N) (r l : Fin 1024) (i : Fin 8192) (e : Fin 9216) (hi : (i : ℕ) = t.val / 9 * 1024 + r)
    (he : (e : ℕ) = s.val % 9 * 1024 + l) :
    dot (SC m c t) (iblk m c 2 s) r l
    = NZ (m ((c : Thread nD τ).loc main_arg0)) (m ((c : Thread nD τ).loc main_arg1)) (m ((c : Thread nD τ).loc main_arg2))
        (ix3 ⟨i / 4096, by omega⟩ ⟨i % 4096, by omega⟩ e) := by
  have hr : (rowPt t).val / 9 = t.val / 9 := by unfold rowPt; dsimp only; omega
  refine (dot_norm _ _ _ _ _).trans (Eq.trans ?_ (NZ_at _ _ _ _ _ _).symm)
  refine congr (congr (congrArg cell (funext fun k => ?_)) (funext fun k => ?_)) (funext fun k => ?_)
  · exact blk0 m c (rowPt t) r k i (by omega)
  · exact blk1 m c (rowPt t) k
  · exact blk2 m c s k l e he

/-- The array of the spatial mixer's columns after the run is the reference's. -/
theorem final3 (c : Dev nD) : (dats m 0 c).arrAt 3 (cfgs 0).N
    = REF0 (NZ (m ((c : Thread nD τ).loc main_arg0)) (m ((c : Thread nD τ).loc main_arg1)) (m ((c : Thread nD τ).loc main_arg2))) := by
  refine (dats m 0 c).arrAt_eq_of_covers 3 _ (by decide +kernel) fun t _ y => ?_
  blk_simp
  rw [after0_3]
  idx_vars y
  have ht := lt_points t
  rw [UP_at]
  refine Eq.trans ?_ (REF0_of _ _ ⟨t.val / 9 * 1024 + y0, by omega⟩ ⟨min (t.val % 9) 1 * 1024 + y1, by omega⟩ ?_ ?_).symm
  · exact congrArg gelu (dot_point m c t (upPt t) y0 y1 ⟨t.val / 9 * 1024 + y0, by omega⟩ _ rfl (by unfold upPt; dsimp only; omega))
  all_goals (blk_simp [idx t] <;> try omega)

/-- The array of the attention's columns after the run is the reference's. -/
theorem final4 (c : Dev nD) : (dats m 0 c).arrAt 4 (cfgs 0).N
    = REF1 (NZ (m ((c : Thread nD τ).loc main_arg0)) (m ((c : Thread nD τ).loc main_arg1)) (m ((c : Thread nD τ).loc main_arg2))) := by
  refine (dats m 0 c).arrAt_eq_of_covers 4 _ (by decide +kernel) fun t _ y => ?_
  blk_simp
  rw [after0_4]
  idx_vars y
  have ht := lt_points t
  rw [QK_at]
  refine Eq.trans ?_ (REF1_of _ _ ⟨t.val / 9 * 1024 + y0, by omega⟩ ⟨(min (max (t.val % 9) 2) 4 - 2) * 1024 + y1, by omega⟩ ?_ ?_).symm
  · exact (dot_point m c t (qkPt t) y0 y1 ⟨t.val / 9 * 1024 + y0, by omega⟩ _ rfl (by unfold qkPt; dsimp only; omega))
  all_goals (blk_simp [idx t] <;> try omega)

/-- The array of the gates after the run is the reference's. -/
theorem final5 (c : Dev nD) : (dats m 0 c).arrAt 5 (cfgs 0).N
    = REF2 (NZ (m ((c : Thread nD τ).loc main_arg0)) (m ((c : Thread nD τ).loc main_arg1)) (m ((c : Thread nD τ).loc main_arg2))) := by
  refine (dats m 0 c).arrAt_eq_of_covers 5 _ (by decide +kernel) fun t _ y => ?_
  blk_simp
  rw [after0_5]
  idx_vars y
  have ht := lt_points t
  rw [GT_at]
  refine Eq.trans ?_ (REF2_of _ _ ⟨t.val / 9 * 1024 + y0, by omega⟩ ⟨(max (t.val % 9) 5 - 5) * 1024 + y1, by omega⟩ ?_ ?_).symm
  · exact congrArg sigm (dot_point m c t (gtPt t) y0 y1 ⟨t.val / 9 * 1024 + y0, by omega⟩ _ rfl (by unfold gtPt; dsimp only; omega))
  all_goals (blk_simp [idx t] <;> try omega)

end Cert.KernelIPIdeal.RefValue

end
-- ==== Proof.IPClaims.lean ====
/- The input projection: the claims of its programs. -/
module

public import proofs.«01_k».proof.Defs
public import proofs.«01_k».proof.Proof.IPFrame
public import proofs.«01_k».proof.Proof.Gen.ReferenceIPIdeal.Run
public import proofs.«01_k».proof.Proof.IPValue
public import Idealize.ShloMosaic.Lib.Claim

@[expose] public section

set_option maxRecDepth 16384

noncomputable section

namespace Cert.Proof

open Idealize.ShloMosaic Idealize.ShloMosaic.TcCoe Idealize.SL.Sem

theorem frame_KernelIP : Cert.quiescent_KernelIP := fun m ρ _ => Cert.KernelIP.Hand.frame m ρ

theorem frame_KernelIPIdeal : Cert.quiescent_KernelIPIdeal := fun m ρ _ => Cert.KernelIPIdeal.Hand.frame m ρ

theorem frame_ReferenceIPIdeal : Cert.quiescent_ReferenceIPIdeal := fun m ρ _ =>
  (θ_run Cert.ReferenceIPIdeal.defs _ _).mono
    (fun r h => ⟨fun c => (h c).2.2.2, Idealize.ShloMosaic.sem_eq_zero_of_no_sems (by decide) r.2⟩)
    (Cert.ReferenceIPIdeal.Value.run m ρ)

theorem preserves_IP : Cert.preserves_KernelIP_KernelIPIdeal := trivial

theorem algebraic_IP : Cert.algebraic_KernelIPIdeal_ReferenceIPIdeal := by
  intro m g m' g' hpre hagree
  refine ⟨fun c => Cert.ReferenceIPIdeal.RefValue.REF0 (Cert.ReferenceIPIdeal.RefValue.NZ (m ((c.tc : Thread _ _).loc Cert.KernelIPIdeal.main_arg0)) (m ((c.tc : Thread _ _).loc Cert.KernelIPIdeal.main_arg1)) (m ((c.tc : Thread _ _).loc Cert.KernelIPIdeal.main_arg2))),
    fun c => Cert.ReferenceIPIdeal.RefValue.REF1 (Cert.ReferenceIPIdeal.RefValue.NZ (m ((c.tc : Thread _ _).loc Cert.KernelIPIdeal.main_arg0)) (m ((c.tc : Thread _ _).loc Cert.KernelIPIdeal.main_arg1)) (m ((c.tc : Thread _ _).loc Cert.KernelIPIdeal.main_arg2))),
    fun c => Cert.ReferenceIPIdeal.RefValue.REF2 (Cert.ReferenceIPIdeal.RefValue.NZ (m ((c.tc : Thread _ _).loc Cert.KernelIPIdeal.main_arg0)) (m ((c.tc : Thread _ _).loc Cert.KernelIPIdeal.main_arg1)) (m ((c.tc : Thread _ _).loc Cert.KernelIPIdeal.main_arg2))), ?_, ?_⟩
  · refine θ_run_mono (θ_run_and (Cert.KernelIPIdeal.Hand.run_main m g) (Cert.KernelIPIdeal.Hand.unchanged m g)) fun r h c => ?_
    have hw := (h.1 c).1
    exact ⟨(hw 3).trans (Cert.KernelIPIdeal.RefValue.final3 m c), (hw 4).trans (Cert.KernelIPIdeal.RefValue.final4 m c),
      (hw 5).trans (Cert.KernelIPIdeal.RefValue.final5 m c), h.2 c⟩
  · refine θ_run_mono (Cert.ReferenceIPIdeal.RefValue.run m' g') fun r h c => ?_
    obtain ⟨a0, a1, a2⟩ := hagree c
    obtain ⟨h0, h1, h2, hargs⟩ := h c
    exact ⟨h0.trans (by rw [a0, a1, a2]), h1.trans (by rw [a0, a1, a2]), h2.trans (by rw [a0, a1, a2]), hargs⟩

end Cert.Proof

end
-- ==== Proof.SGRef.lean ====
/- The gated merge's reference, element by element. -/
module

public import proofs.«01_k».proof.Proof.Gen.ReferenceSGIdeal.Run
public import Idealize.ShloMosaic.Lib.Pointwise

@[expose] public section

set_option maxRecDepth 16384

noncomputable section

open Idealize.ShloMosaic Idealize.ShloMosaic.TcCoe Idealize.SL.Sem

namespace Cert.ReferenceSGIdeal.RefValue

open Cert.ReferenceSGIdeal Cert.ReferenceSGIdeal.Gen

/-- One of the two halves of the columns, by batches: the one the gate reads. -/
def VS (X : FVec Ideal S8192x2048 .bf16) : FVec Ideal S2x4096x1024 .f32 :=
  extractStridedSlice S2x4096x1024 ![0, 0, 1024] (shapeCast _ (extf .f32 X bitsLt_bf16_f32) shapeCasts_S8192x2048_S2x4096x2048) slices_S2x4096x2048_S2x4096x1024_0_0_1024

/-- A row's sum over the row's length. -/
def MEAN (A : FVec Ideal S2x4096x1024 .f32) : FVec Ideal S2x4096x1 .f32 :=
  Host.divf (broadcastInDim S2x4096x1 ![0, 1] bcast_S2x4096_S2x4096x1_0_1 (Host.reduceAdd A (constant S_ .f32 0x00000000#32) reducesTo_S2x4096x1024_S2x4096_d2 h_S_)) (broadcastInDim S2x4096x1 ![] bcast_S_S2x4096x1 (constant S_ .f32 0x44800000#32))

/-- The rows less their means. -/
def CEN (A : FVec Ideal S2x4096x1024 .f32) : FVec Ideal S2x4096x1024 .f32 :=
  subf A (broadcastInDim S2x4096x1024 ![0, 1, 2] bcast_S2x4096x1_S2x4096x1024_0_1_2 (MEAN A))

/-- … scaled to unit variance, then by the gain and shifted by the bias. -/
def LNR (A : FVec Ideal S2x4096x1024 .f32) (G B : FVec Ideal S1x1024 .f32) : FVec Ideal S2x4096x1024 .f32 :=
  addf (mulf (mulf (CEN A) (broadcastInDim S2x4096x1024 ![0, 1, 2] bcast_S2x4096x1_S2x4096x1024_0_1_2 (Host.rsqrt (addf (MEAN (mulf (CEN A) (CEN A))) (broadcastInDim S2x4096x1 ![] bcast_S_S2x4096x1 (constant S_ .f32 0x358637BD#32)))))) (broadcastInDim S2x4096x1024 ![0, 1, 2] bcast_S1x1x1024_S2x4096x1024_0_1_2 (broadcastInDim S1x1x1024 ![2] bcast_S1024_S1x1x1024_2 (shapeCast _ G shapeCasts_S1x1024_S1024)))) (broadcastInDim S2x4096x1024 ![0, 1, 2] bcast_S1x1x1024_S2x4096x1024_0_1_2 (broadcastInDim S1x1x1024 ![2] bcast_S1024_S1x1x1024_2 (shapeCast _ B shapeCasts_S1x1024_S1024)))

/-- The chunk of each position of a block. -/
def CPOS : IVec S128 32 :=
  select (andi (cmpi .ne (signi (iotaInDim S128 32 0)) (broadcastInDim S128 ![] bcast_S_S128 (signi (id (constantI S_ 32 64#32))))) (cmpi .ne (Host.remsi (iotaInDim S128 32 0) (broadcastInDim S128 ![] bcast_S_S128 (id (constantI S_ 32 64#32)))) (broadcastInDim S128 ![] bcast_S_S128 (constantI S_ 32 0#32)))) (subi (Host.divsi (iotaInDim S128 32 0) (broadcastInDim S128 ![] bcast_S_S128 (id (constantI S_ 32 64#32)))) (broadcastInDim S128 ![] bcast_S_S128 (constantI S_ 32 1#32))) (Host.divsi (iotaInDim S128 32 0) (broadcastInDim S128 ![] bcast_S_S128 (id (constantI S_ 32 64#32))))

/-- The weights where the chunk is no later. -/
def WM (W : FVec Ideal S1x4x128x128 .f32) (P : IVec S128 32) : FVec Ideal S4x128x128 .f32 :=
  mulf (shapeCast _ W shapeCasts_S1x4x128x128_S4x128x128) (broadcastInDim S4x128x128 ![0, 1, 2] bcast_S1x128x128_S4x128x128_0_1_2 (broadcastInDim S1x128x128 ![1, 2] bcast_S128x128_S1x128x128_1_2 (uitofp .f32 (cmpi .sge (broadcastInDim S128x128 ![0, 1] bcast_S128x1_S128x128_0_1 (broadcastInDim S128x1 ![0] bcast_S128_S128x1_0 P)) (broadcastInDim S128x128 ![0, 1] bcast_S1x128_S128x128_0_1 (broadcastInDim S1x128 ![1] bcast_S128_S1x128_1 P))))))

/-- The positions of each block mixed by the weights, and the bias added. -/
def MIX (L : FVec Ideal S2x4096x1024 .f32) (W : FVec Ideal S4x128x128 .f32) (B : FVec Ideal S1x4x128 .f32) : FVec Ideal S2x4096x1024 .f32 :=
  shapeCast _ (addf (transpose S2x32x128x4x256 [1, 2, 4, 0, 3] (Host.dotGeneral dot_S2x32x128x4x256_S4x128x128_S4x2x32x256x128_2_2_014_1_3_0 none (shapeCast _ L shapeCasts_S2x4096x1024_S2x32x128x4x256) W) transposes_S4x2x32x256x128_S2x32x128x4x256_1_2_4_0_3) (broadcastInDim S2x32x128x4x256 ![0, 1, 2, 3, 4] bcast_S1x1x128x4x1_S2x32x128x4x256_0_1_2_3_4 (broadcastInDim S1x1x128x4x1 ![2, 3, 4] bcast_S128x4x1_S1x1x128x4x1_2_3_4 (broadcastInDim S128x4x1 ![0, 1] bcast_S128x4_S128x4x1_0_1 (transpose S128x4 [1, 0] (shapeCast _ B shapeCasts_S1x4x128_S4x128) transposes_S4x128_S128x4_1_0))))) shapeCasts_S2x32x128x4x256_S2x4096x1024

/-- The mixed rows gated by the other half of the columns. -/
def YAR (X : FVec Ideal S8192x2048 .bf16) (M : FVec Ideal S2x4096x1024 .f32) : FVec Ideal S8192x1024 .f32 :=
  shapeCast _ (mulf (extractStridedSlice S2x4096x1024 ![0, 0, 0] (shapeCast _ (extf .f32 X bitsLt_bf16_f32) shapeCasts_S8192x2048_S2x4096x2048) slices_S2x4096x2048_S2x4096x1024_0_0_0) M) shapeCasts_S2x4096x1024_S8192x1024

/-- The two mixers' results, each projected up and gated, added. -/
def MRG (Y : FVec Ideal S8192x1024 .f32) (Z : FVec Ideal S8192x1024 .bf16) (A B : FVec Ideal S1024x2048 .bf16) (G : FVec Ideal S8192x4096 .bf16) : FVec Ideal S8192x2048 .bf16 :=
  truncf .bf16 (addf (mulf (extractStridedSlice S8192x2048 ![0, 0] (extf .f32 G bitsLt_bf16_f32) slices_S8192x4096_S8192x2048_0_0) (Host.dotGeneral dot_S8192x1024_S1024x2048_S8192x2048_1_0_0_1_n_n none Y (extf .f32 A bitsLt_bf16_f32))) (mulf (extractStridedSlice S8192x2048 ![0, 2048] (extf .f32 G bitsLt_bf16_f32) slices_S8192x4096_S8192x2048_0_2048) (Host.dotGeneral dot_S8192x1024_S1024x2048_S8192x2048_1_0_0_1_n_n none (extf .f32 Z bitsLt_bf16_f32) (extf .f32 B bitsLt_bf16_f32)))) bitsLt_bf16_f32

/-- The reference: the spatial gate of the one mixer, merged with the other mixer's result. -/
def REF (X : FVec Ideal S8192x2048 .bf16) (G B : FVec Ideal S1x1024 .f32) (W : FVec Ideal S1x4x128x128 .f32) (C : FVec Ideal S1x4x128 .f32)
    (Z : FVec Ideal S8192x1024 .bf16) (A A' : FVec Ideal S1024x2048 .bf16) (T : FVec Ideal S8192x4096 .bf16) : FVec Ideal S8192x2048 .bf16 :=
  MRG (YAR X (MIX (LNR (VS X) G B) (WM W CPOS) C)) Z A A' T

/-- The reference's result is this function of its arguments. -/
theorem res_eq (m : (ℓ : Loc nD τ sig) → Buf (Elt Ideal) ℓ) (c : Dev nD) :
    Value.res_main_v65 m c = REF (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7))
      (m ((c.tc : Thread nD τ).loc main_arg8)) := rfl

/-- A row's mean. -/
def mean (v : Fin 1024 → EReal) : EReal := Ideal.div (∑ k, v k) (Ideal.ofBits .f32 0x44800000#32)

/-- One element of a row brought to mean zero and unit variance, scaled and shifted. -/
def ln (v g b : Fin 1024 → EReal) (l : Fin 1024) : EReal :=
  (v l - mean v) * Ideal.rsqrt (mean (fun k => (v k - mean v) * (v k - mean v)) + Ideal.ofBits .f32 0x358637BD#32) * g l + b l

/-- A weight where the chunk is no later, else zero. -/
def causal (p j : Fin 128) (w : EReal) : EReal := if (j : ℕ) / 64 ≤ (p : ℕ) / 64 then w else 0

/-- One element of the gated mixer: the gate times the block's mixed positions and the bias. -/
def gated (u : EReal) (p : Fin 128) (w v : Fin 128 → EReal) (b : EReal) : EReal :=
  u * (∑ j, causal p j (w j) * v j + b)

/-- One element of the result. -/
def merged (g g' : EReal) (y a z b : Fin 1024 → EReal) : EReal :=
  g * ∑ k, y k * a k + g' * ∑ k, z k * b k

theorem VS_at (X : FVec Ideal S8192x2048 .bf16) (b : Fin 2) (s : Fin 4096) (l : Fin 1024) :
    VS X (ix3 b s l) = X (ix2 ⟨b * 4096 + s, by omega⟩ ⟨1024 + l, by omega⟩) := by
  pointwise [VS]

theorem MEAN_at (A : FVec Ideal S2x4096x1024 .f32) (b : Fin 2) (s : Fin 4096) :
    MEAN A (ix3 b s 0) = mean (fun k => A (ix3 b s k)) := by
  pointwise [MEAN]
  rfl

theorem CEN_at (A : FVec Ideal S2x4096x1024 .f32) (b : Fin 2) (s : Fin 4096) (l : Fin 1024) :
    CEN A (ix3 b s l) = A (ix3 b s l) - mean (fun k => A (ix3 b s k)) := by
  pointwise [CEN]
  rw [MEAN_at]

theorem LNR_at (A : FVec Ideal S2x4096x1024 .f32) (G B : FVec Ideal S1x1024 .f32) (b : Fin 2) (s : Fin 4096) (l : Fin 1024) :
    LNR A G B (ix3 b s l) = ln (fun k => A (ix3 b s k)) (fun k => G (ix2 0 k)) (fun k => B (ix2 0 k)) l := by
  pointwise [LNR]
  rw [MEAN_at]
  pointwise
  simp only [CEN_at]
  rfl

/-- The chunk's word. -/
theorem CPOS_at : ∀ p : Fin 128, CPOS (ix1 p) = BitVec.ofNat 32 ((p : ℕ) / 64) := by
  decide +kernel

/-- Chunks compared. -/
theorem later : ∀ p j : Fin 128, IntOp.cmpi .sge (BitVec.ofNat 32 ((p : ℕ) / 64)) (BitVec.ofNat 32 ((j : ℕ) / 64))
    = if (j : ℕ) / 64 ≤ (p : ℕ) / 64 then 1#1 else 0#1 := by
  decide +kernel

/-- A flag as a number. -/
theorem flag_one : (FloatOps.uitofp FTy.f32 1#1 : Ideal .f32) = (1 : EReal) := by
  show (((1#1 : BitVec 1).toNat : ℝ) : EReal) = 1
  norm_num

theorem flag_zero : (FloatOps.uitofp FTy.f32 0#1 : Ideal .f32) = (0 : EReal) := by
  show (((0#1 : BitVec 1).toNat : ℝ) : EReal) = 0
  norm_num

theorem WM_at (W : FVec Ideal S1x4x128x128 .f32) (g : Fin 4) (p j : Fin 128) :
    WM W CPOS (ix3 g p j) = causal p j (W (ix4 0 g p j)) := by
  pointwise [WM]
  rw [CPOS_at, CPOS_at, later]
  unfold causal
  split
  · exact (congrArg (W (ix4 0 g p j) * ·) flag_one).trans (mul_one _)
  · exact (congrArg (W (ix4 0 g p j) * ·) flag_zero).trans (mul_zero _)

theorem MIX_at (L : FVec Ideal S2x4096x1024 .f32) (W : FVec Ideal S4x128x128 .f32) (B : FVec Ideal S1x4x128 .f32) (b : Fin 2) (s : Fin 4096) (l : Fin 1024) :
    MIX L W B (ix3 b s l) = ∑ j : Fin 128, L (ix3 b ⟨s / 128 * 128 + j, by omega⟩ l) * W (ix3 ⟨l / 256, by omega⟩ ⟨s % 128, by omega⟩ j)
      + B (ix3 0 ⟨l / 256, by omega⟩ ⟨s % 128, by omega⟩) := by
  pointwise [MIX]

theorem YAR_at (X : FVec Ideal S8192x2048 .bf16) (M : FVec Ideal S2x4096x1024 .f32) (r : Fin 8192) (l : Fin 1024) :
    YAR X M (ix2 r l) = X (ix2 r ⟨l, by omega⟩) * M (ix3 ⟨r / 4096, by omega⟩ ⟨r % 4096, by omega⟩ l) := by
  pointwise [YAR]

theorem MRG_at (Y : FVec Ideal S8192x1024 .f32) (Z : FVec Ideal S8192x1024 .bf16) (A B : FVec Ideal S1024x2048 .bf16) (G : FVec Ideal S8192x4096 .bf16)
    (r : Fin 8192) (l : Fin 2048) :
    MRG Y Z A B G (ix2 r l) = merged (G (ix2 r ⟨l, by omega⟩)) (G (ix2 r ⟨2048 + l, by omega⟩)) (fun k => Y (ix2 r k)) (fun k => A (ix2 k l))
      (fun k => Z (ix2 r k)) (fun k => B (ix2 k l)) := by
  pointwise [MRG]
  rfl

end Cert.ReferenceSGIdeal.RefValue

end
-- ==== Proof.SGTile.lean ====
/- The gated merge: what a point's payloads hold, element by element. -/
module

public import proofs.«01_k».proof.Proof.Gen.KernelSGIdeal.Value
public import proofs.«01_k».proof.Proof.SGRef
public import Idealize.ShloMosaic.Lib.Pipeline.ValueKit

@[expose] public section

set_option maxRecDepth 16384

noncomputable section

open Idealize.ShloMosaic Idealize.ShloMosaic.TcCoe Idealize.SL.Sem

open Idealize.ShloMosaic.Pipeline (Dat)

namespace Cert.KernelSGIdeal.RefValue

open Cert.KernelSGIdeal Cert.KernelSGIdeal.Gen
open Cert.ReferenceSGIdeal.RefValue (mean ln causal gated merged)

variable (m : (ℓ : Loc nD τ sig) → Buf (Elt Ideal) ℓ)

/-- A group's weights, zero where the chunk is later. -/
def MASK (w : Vec Ideal S1x128x128 .f32) : FVec Ideal S128x128 .bf16 :=
  k0_pay13 (k0_pay5 (iota Kind.tc S128x128 32 [0] iota_S128x128_d0_w32) 64#32 k0_pay3 k0_pay4 1#1) k0_pay6 w

/-- A tile of gated positions. -/
def TILE (w : FVec Ideal S128x128 .bf16) (b : Vec Ideal S128x1 .f32) (v u : Vec Ideal S128x256 .bf16) : FVec Ideal S128x256 .bf16 :=
  k0_pay9 w b v u

/-- The chunk's word, by rows … -/
theorem chunk_row : ∀ p j : Fin 128, (k0_pay5 (iota Kind.tc S128x128 32 [0] iota_S128x128_d0_w32) 64#32 k0_pay3 k0_pay4 1#1) (ix2 p j)
    = BitVec.ofNat 32 ((p : ℕ) / 64) := by
  decide +kernel

/-- … and by columns. -/
theorem chunk_col : ∀ p j : Fin 128, k0_pay6 (ix2 p j) = BitVec.ofNat 32 ((j : ℕ) / 64) := by
  decide +kernel

theorem MASK_at (w : Vec Ideal S1x128x128 .f32) (p j : Fin 128) : MASK w (ix2 p j) = causal p j (w (ix3 0 p j)) := by
  pointwise [MASK, k0_pay13]
  rw [chunk_row, chunk_col, Cert.ReferenceSGIdeal.RefValue.later]
  unfold causal
  by_cases hc : (j : ℕ) / 64 ≤ (p : ℕ) / 64
  · rw [if_pos hc, if_pos hc]; rfl
  · rw [if_neg hc, if_neg hc]; rfl

theorem TILE_at (w : FVec Ideal S128x128 .bf16) (b : Vec Ideal S128x1 .f32) (v u : Vec Ideal S128x256 .bf16) (p : Fin 128) (q : Fin 256) :
    TILE w b v u (ix2 p q) = u (ix2 p q) * (∑ j, w (ix2 p j) * v (ix2 j q) + b (ix2 p 0)) := by
  pointwise [TILE, k0_pay9, k0_pay8]

/-- The gated positions of a point, from its normalised rows `P`. -/
def YA (x0 P : Vec Ideal S512x1024 .bf16) (x4 : Vec Ideal S4x128x128 .f32) (x5 : Vec Ideal S128x4 .f32) : Vec Ideal S512x1024 .bf16 :=
  View.canon
    [ ⟨Rect.unit ![384, 768] ![128, 256] inb_S512x1024_S128x256_384_768,
        TILE (MASK (View.ld x4 (Rect.unit ![3, 0, 0] ![1, 128, 128] inb_S4x128x128_S1x128x128_3_0_0))) (View.ld x5 (Rect.unit ![0, 3] ![128, 1] inb_S128x4_S128x1_0_3)) (View.ld P (Rect.unit ![384, 768] ![128, 256] inb_S512x1024_S128x256_384_768)) (View.ld x0 (Rect.unit ![384, 768] ![128, 256] inb_S512x1024_S128x256_384_768))⟩,
      ⟨Rect.unit ![256, 768] ![128, 256] inb_S512x1024_S128x256_256_768,
        TILE (MASK (View.ld x4 (Rect.unit ![3, 0, 0] ![1, 128, 128] inb_S4x128x128_S1x128x128_3_0_0))) (View.ld x5 (Rect.unit ![0, 3] ![128, 1] inb_S128x4_S128x1_0_3)) (View.ld P (Rect.unit ![256, 768] ![128, 256] inb_S512x1024_S128x256_256_768)) (View.ld x0 (Rect.unit ![256, 768] ![128, 256] inb_S512x1024_S128x256_256_768))⟩,
      ⟨Rect.unit ![128, 768] ![128, 256] inb_S512x1024_S128x256_128_768,
        TILE (MASK (View.ld x4 (Rect.unit ![3, 0, 0] ![1, 128, 128] inb_S4x128x128_S1x128x128_3_0_0))) (View.ld x5 (Rect.unit ![0, 3] ![128, 1] inb_S128x4_S128x1_0_3)) (View.ld P (Rect.unit ![128, 768] ![128, 256] inb_S512x1024_S128x256_128_768)) (View.ld x0 (Rect.unit ![128, 768] ![128, 256] inb_S512x1024_S128x256_128_768))⟩,
      ⟨Rect.unit ![0, 768] ![128, 256] inb_S512x1024_S128x256_0_768,
        TILE (MASK (View.ld x4 (Rect.unit ![3, 0, 0] ![1, 128, 128] inb_S4x128x128_S1x128x128_3_0_0))) (View.ld x5 (Rect.unit ![0, 3] ![128, 1] inb_S128x4_S128x1_0_3)) (View.ld P (Rect.unit ![0, 768] ![128, 256] inb_S512x1024_S128x256_0_768)) (View.ld x0 (Rect.unit ![0, 768] ![128, 256] inb_S512x1024_S128x256_0_768))⟩,
      ⟨Rect.unit ![384, 512] ![128, 256] inb_S512x1024_S128x256_384_512,
        TILE (MASK (View.ld x4 (Rect.unit ![2, 0, 0] ![1, 128, 128] inb_S4x128x128_S1x128x128_2_0_0))) (View.ld x5 (Rect.unit ![0, 2] ![128, 1] inb_S128x4_S128x1_0_2)) (View.ld P (Rect.unit ![384, 512] ![128, 256] inb_S512x1024_S128x256_384_512)) (View.ld x0 (Rect.unit ![384, 512] ![128, 256] inb_S512x1024_S128x256_384_512))⟩,
      ⟨Rect.unit ![256, 512] ![128, 256] inb_S512x1024_S128x256_256_512,
        TILE (MASK (View.ld x4 (Rect.unit ![2, 0, 0] ![1, 128, 128] inb_S4x128x128_S1x128x128_2_0_0))) (View.ld x5 (Rect.unit ![0, 2] ![128, 1] inb_S128x4_S128x1_0_2)) (View.ld P (Rect.unit ![256, 512] ![128, 256] inb_S512x1024_S128x256_256_512)) (View.ld x0 (Rect.unit ![256, 512] ![128, 256] inb_S512x1024_S128x256_256_512))⟩,
      ⟨Rect.unit ![128, 512] ![128, 256] inb_S512x1024_S128x256_128_512,
        TILE (MASK (View.ld x4 (Rect.unit ![2, 0, 0] ![1, 128, 128] inb_S4x128x128_S1x128x128_2_0_0))) (View.ld x5 (Rect.unit ![0, 2] ![128, 1] inb_S128x4_S128x1_0_2)) (View.ld P (Rect.unit ![128, 512] ![128, 256] inb_S512x1024_S128x256_128_512)) (View.ld x0 (Rect.unit ![128, 512] ![128, 256] inb_S512x1024_S128x256_128_512))⟩,
      ⟨Rect.unit ![0, 512] ![128, 256] inb_S512x1024_S128x256_0_512,
        TILE (MASK (View.ld x4 (Rect.unit ![2, 0, 0] ![1, 128, 128] inb_S4x128x128_S1x128x128_2_0_0))) (View.ld x5 (Rect.unit ![0, 2] ![128, 1] inb_S128x4_S128x1_0_2)) (View.ld P (Rect.unit ![0, 512] ![128, 256] inb_S512x1024_S128x256_0_512)) (View.ld x0 (Rect.unit ![0, 512] ![128, 256] inb_S512x1024_S128x256_0_512))⟩,
      ⟨Rect.unit ![384, 256] ![128, 256] inb_S512x1024_S128x256_384_256,
        TILE (MASK (View.ld x4 (Rect.unit ![1, 0, 0] ![1, 128, 128] inb_S4x128x128_S1x128x128_1_0_0))) (View.ld x5 (Rect.unit ![0, 1] ![128, 1] inb_S128x4_S128x1_0_1)) (View.ld P (Rect.unit ![384, 256] ![128, 256] inb_S512x1024_S128x256_384_256)) (View.ld x0 (Rect.unit ![384, 256] ![128, 256] inb_S512x1024_S128x256_384_256))⟩,
      ⟨Rect.unit ![256, 256] ![128, 256] inb_S512x1024_S128x256_256_256,
        TILE (MASK (View.ld x4 (Rect.unit ![1, 0, 0] ![1, 128, 128] inb_S4x128x128_S1x128x128_1_0_0))) (View.ld x5 (Rect.unit ![0, 1] ![128, 1] inb_S128x4_S128x1_0_1)) (View.ld P (Rect.unit ![256, 256] ![128, 256] inb_S512x1024_S128x256_256_256)) (View.ld x0 (Rect.unit ![256, 256] ![128, 256] inb_S512x1024_S128x256_256_256))⟩,
      ⟨Rect.unit ![128, 256] ![128, 256] inb_S512x1024_S128x256_128_256,
        TILE (MASK (View.ld x4 (Rect.unit ![1, 0, 0] ![1, 128, 128] inb_S4x128x128_S1x128x128_1_0_0))) (View.ld x5 (Rect.unit ![0, 1] ![128, 1] inb_S128x4_S128x1_0_1)) (View.ld P (Rect.unit ![128, 256] ![128, 256] inb_S512x1024_S128x256_128_256)) (View.ld x0 (Rect.unit ![128, 256] ![128, 256] inb_S512x1024_S128x256_128_256))⟩,
      ⟨Rect.unit ![0, 256] ![128, 256] inb_S512x1024_S128x256_0_256,
        TILE (MASK (View.ld x4 (Rect.unit ![1, 0, 0] ![1, 128, 128] inb_S4x128x128_S1x128x128_1_0_0))) (View.ld x5 (Rect.unit ![0, 1] ![128, 1] inb_S128x4_S128x1_0_1)) (View.ld P (Rect.unit ![0, 256] ![128, 256] inb_S512x1024_S128x256_0_256)) (View.ld x0 (Rect.unit ![0, 256] ![128, 256] inb_S512x1024_S128x256_0_256))⟩,
      ⟨Rect.unit ![384, 0] ![128, 256] inb_S512x1024_S128x256_384_0,
        TILE (MASK (View.ld x4 (Rect.unit ![0, 0, 0] ![1, 128, 128] inb_S4x128x128_S1x128x128_0_0_0))) (View.ld x5 (Rect.unit ![0, 0] ![128, 1] inb_S128x4_S128x1_0_0)) (View.ld P (Rect.unit ![384, 0] ![128, 256] inb_S512x1024_S128x256_384_0)) (View.ld x0 (Rect.unit ![384, 0] ![128, 256] inb_S512x1024_S128x256_384_0))⟩,
      ⟨Rect.unit ![256, 0] ![128, 256] inb_S512x1024_S128x256_256_0,
        TILE (MASK (View.ld x4 (Rect.unit ![0, 0, 0] ![1, 128, 128] inb_S4x128x128_S1x128x128_0_0_0))) (View.ld x5 (Rect.unit ![0, 0] ![128, 1] inb_S128x4_S128x1_0_0)) (View.ld P (Rect.unit ![256, 0] ![128, 256] inb_S512x1024_S128x256_256_0)) (View.ld x0 (Rect.unit ![256, 0] ![128, 256] inb_S512x1024_S128x256_256_0))⟩,
      ⟨Rect.unit ![128, 0] ![128, 256] inb_S512x1024_S128x256_128_0,
        TILE (MASK (View.ld x4 (Rect.unit ![0, 0, 0] ![1, 128, 128] inb_S4x128x128_S1x128x128_0_0_0))) (View.ld x5 (Rect.unit ![0, 0] ![128, 1] inb_S128x4_S128x1_0_0)) (View.ld P (Rect.unit ![128, 0] ![128, 256] inb_S512x1024_S128x256_128_0)) (View.ld x0 (Rect.unit ![128, 0] ![128, 256] inb_S512x1024_S128x256_128_0))⟩,
      ⟨Rect.unit ![0, 0] ![128, 256] inb_S512x1024_S128x256_0_0,
        TILE (MASK (View.ld x4 (Rect.unit ![0, 0, 0] ![1, 128, 128] inb_S4x128x128_S1x128x128_0_0_0))) (View.ld x5 (Rect.unit ![0, 0] ![128, 1] inb_S128x4_S128x1_0_0)) (View.ld P (Rect.unit ![0, 0] ![128, 256] inb_S512x1024_S128x256_0_0)) (View.ld x0 (Rect.unit ![0, 0] ![128, 256] inb_S512x1024_S128x256_0_0))⟩ ]

/-- A tile of 128 rows and 256 columns, read. -/
theorem ld_tile (x : Vec Ideal S512x1024 .bf16) (o o' : ℕ) (hi) (p : Fin 128) (q : Fin 256) (r : Fin 512) (l : Fin 1024)
    (hr : (r : ℕ) = o + p) (hl : (l : ℕ) = o' + q) :
    View.ld x (Rect.unit (s := S512x1024) ![o, o'] ![128, 256] hi) (ix2 p q) = x (ix2 r l) := by
  pointwise
  blk_ext

/-- A group's weights, read. -/
theorem ld_w (x : Vec Ideal S4x128x128 .f32) (g : ℕ) (hi) (p j : Fin 128) (g' : Fin 4) (hg : (g' : ℕ) = g) :
    View.ld x (Rect.unit (s := S4x128x128) ![g, 0, 0] ![1, 128, 128] hi) (ix3 0 p j) = x (ix3 g' p j) := by
  pointwise
  blk_ext

/-- A group's biases, read. -/
theorem ld_b (x : Vec Ideal S128x4 .f32) (g : ℕ) (hi) (p : Fin 128) (g' : Fin 4) (hg : (g' : ℕ) = g) :
    View.ld x (Rect.unit (s := S128x4) ![0, g] ![128, 1] hi) (ix2 p 0) = x (ix2 p g') := by
  pointwise
  blk_ext

/-- One element of a tile at any rows and columns. -/
theorem tile_at (x0 P : Vec Ideal S512x1024 .bf16) (x4 : Vec Ideal S4x128x128 .f32) (x5 : Vec Ideal S128x4 .f32) (r : Fin 512) (l : Fin 1024)
    (o o' g : ℕ) (h4) (h5) (hi) (p : Fin 128) (q : Fin 256) (hr : (r : ℕ) = o + p) (hl : (l : ℕ) = o' + q) (hg : (l : ℕ) / 256 = g)
    (ho : o = (r : ℕ) / 128 * 128) :
    TILE (MASK (View.ld x4 (Rect.unit (s := S4x128x128) ![g, 0, 0] ![1, 128, 128] h4))) (View.ld x5 (Rect.unit (s := S128x4) ![0, g] ![128, 1] h5))
      (View.ld P (Rect.unit (s := S512x1024) ![o, o'] ![128, 256] hi)) (View.ld x0 (Rect.unit (s := S512x1024) ![o, o'] ![128, 256] hi)) (ix2 p q)
    = gated (x0 (ix2 r l)) ⟨r % 128, by omega⟩ (fun j => x4 (ix3 ⟨l / 256, by omega⟩ ⟨r % 128, by omega⟩ j))
        (fun j => P (ix2 ⟨r / 128 * 128 + j, by omega⟩ l)) (x5 (ix2 ⟨r % 128, by omega⟩ ⟨l / 256, by omega⟩)) := by
  have hp : (⟨r % 128, by omega⟩ : Fin 128) = p := Fin.ext (by dsimp only; omega)
  rw [hp, TILE_at, ld_tile x0 o o' hi p q r l hr hl, ld_b x5 g h5 p ⟨l / 256, by omega⟩ hg]
  unfold gated
  refine congrArg (fun s => x0 (ix2 r l) * (s + _)) (Finset.sum_congr rfl fun j _ => ?_)
  rw [MASK_at, ld_w x4 g h4 p j ⟨l / 256, by omega⟩ hg, ld_tile P o o' hi j q ⟨r / 128 * 128 + j, by omega⟩ l (by dsimp only; omega) hl]

/-- One element of the gated positions. -/
theorem YA_at (x0 P : Vec Ideal S512x1024 .bf16) (x4 : Vec Ideal S4x128x128 .f32) (x5 : Vec Ideal S128x4 .f32) (r : Fin 512) (l : Fin 1024) :
    YA x0 P x4 x5 (ix2 r l) = gated (x0 (ix2 r l)) ⟨r % 128, by omega⟩ (fun j => x4 (ix3 ⟨l / 256, by omega⟩ ⟨r % 128, by omega⟩ j))
        (fun j => P (ix2 ⟨r / 128 * 128 + j, by omega⟩ l)) (x5 (ix2 ⟨r % 128, by omega⟩ ⟨l / 256, by omega⟩)) := by
  unfold YA
  canon_tiles x h
  all_goals idx_vars x
  all_goals (refine tile_at _ P x4 x5 r l _ _ _ _ _ _ _ _ ?_ ?_ ?_ ?_ <;> omega)

/-- The normalised rows, element by element. -/
theorem norm_at (v : Vec Ideal S512x1024 .bf16) (g b : Vec Ideal S1x1024 .f32) (r : Fin 512) (l : Fin 1024) :
    k0_pay2 v g b (ix2 r l) = ln (fun k => v (ix2 r k)) (fun k => g (ix2 0 k)) (fun k => b (ix2 0 k)) l := by
  pointwise [k0_pay2]
  rfl

/-- The merge of a block, element by element. -/
theorem merge_at (y z : Vec Ideal S512x1024 .bf16) (a b : Vec Ideal S1024x2048 .bf16) (g g' : Vec Ideal S512x2048 .bf16) (r : Fin 512) (l : Fin 2048) :
    k0_pay1 (k0_pay33 y a) z b g g' (ix2 r l)
    = merged (g (ix2 r l)) (g' (ix2 r l)) (fun k => y (ix2 r k)) (fun k => a (ix2 k l)) (fun k => z (ix2 r k)) (fun k => b (ix2 k l)) := by
  pointwise [k0_pay1, k0_pay33]
  rfl

/-! The payloads the point stores are these masks and tiles. -/

theorem mask_7 (w : Vec Ideal S1x128x128 .f32) : k0_pay7 (iota Kind.tc S128x128 32 [0] iota_S128x128_d0_w32) 64#32 k0_pay3 k0_pay4 1#1 w = MASK w := rfl

theorem mask_13 (w : Vec Ideal S1x128x128 .f32) : k0_pay13 (k0_pay5 (iota Kind.tc S128x128 32 [0] iota_S128x128_d0_w32) 64#32 k0_pay3 k0_pay4 1#1) k0_pay6 w = MASK w := rfl

theorem mask_20 (w : Vec Ideal S1x128x128 .f32) : k0_pay20 (k0_pay5 (iota Kind.tc S128x128 32 [0] iota_S128x128_d0_w32) 64#32 k0_pay3 k0_pay4 1#1) k0_pay6 w = MASK w := rfl

theorem mask_26 (w : Vec Ideal S1x128x128 .f32) : k0_pay26 (k0_pay5 (iota Kind.tc S128x128 32 [0] iota_S128x128_d0_w32) 64#32 k0_pay3 k0_pay4 1#1) k0_pay6 w = MASK w := rfl

theorem tile_9 (w : FVec Ideal S128x128 .bf16) (b : Vec Ideal S128x1 .f32) (v u : Vec Ideal S128x256 .bf16) : k0_pay9 w b v u = TILE w b v u := rfl

theorem tile_10 (w : FVec Ideal S128x128 .bf16) (b : Vec Ideal S128x1 .f32) (v u : Vec Ideal S128x256 .bf16) : k0_pay10 w b v u = TILE w b v u := rfl

theorem tile_11 (w : FVec Ideal S128x128 .bf16) (b : Vec Ideal S128x1 .f32) (v u : Vec Ideal S128x256 .bf16) : k0_pay11 w b v u = TILE w b v u := rfl

theorem tile_12 (w : FVec Ideal S128x128 .bf16) (b : Vec Ideal S128x1 .f32) (v u : Vec Ideal S128x256 .bf16) : k0_pay12 w (k0_pay8 b) v u = TILE w b v u := rfl

theorem tile_18 (w : FVec Ideal S128x128 .bf16) (b : Vec Ideal S128x1 .f32) (v u : Vec Ideal S128x256 .bf16) : k0_pay18 w (k0_pay14 b) v u = TILE w b v u := rfl

theorem tile_19 (w : FVec Ideal S128x128 .bf16) (b : Vec Ideal S128x1 .f32) (v u : Vec Ideal S128x256 .bf16) : k0_pay19 w (k0_pay14 b) v u = TILE w b v u := rfl

theorem tile_22 (w : FVec Ideal S128x128 .bf16) (b : Vec Ideal S128x1 .f32) (v u : Vec Ideal S128x256 .bf16) : k0_pay22 w b v u = TILE w b v u := rfl

theorem tile_23 (w : FVec Ideal S128x128 .bf16) (b : Vec Ideal S128x1 .f32) (v u : Vec Ideal S128x256 .bf16) : k0_pay23 w b v u = TILE w b v u := rfl

theorem tile_24 (w : FVec Ideal S128x128 .bf16) (b : Vec Ideal S128x1 .f32) (v u : Vec Ideal S128x256 .bf16) : k0_pay24 w b v u = TILE w b v u := rfl

theorem tile_25 (w : FVec Ideal S128x128 .bf16) (b : Vec Ideal S128x1 .f32) (v u : Vec Ideal S128x256 .bf16) : k0_pay25 w (k0_pay21 b) v u = TILE w b v u := rfl

theorem tile_31 (w : FVec Ideal S128x128 .bf16) (b : Vec Ideal S128x1 .f32) (v u : Vec Ideal S128x256 .bf16) : k0_pay31 w (k0_pay27 b) v u = TILE w b v u := rfl

theorem tile_32 (w : FVec Ideal S128x128 .bf16) (b : Vec Ideal S128x1 .f32) (v u : Vec Ideal S128x256 .bf16) : k0_pay32 w (k0_pay27 b) v u = TILE w b v u := rfl

theorem tile_15 (w : Vec Ideal S1x128x128 .f32) (b : Vec Ideal S128x1 .f32) (v u : Vec Ideal S128x256 .bf16) : k0_pay15 (k0_pay5 (iota Kind.tc S128x128 32 [0] iota_S128x128_d0_w32) 64#32 k0_pay3 k0_pay4 1#1) k0_pay6 w b v u = TILE (MASK w) b v u := rfl

theorem tile_28 (w : Vec Ideal S1x128x128 .f32) (b : Vec Ideal S128x1 .f32) (v u : Vec Ideal S128x256 .bf16) : k0_pay28 (k0_pay5 (iota Kind.tc S128x128 32 [0] iota_S128x128_d0_w32) 64#32 k0_pay3 k0_pay4 1#1) k0_pay6 w b v u = TILE (MASK w) b v u := rfl

theorem tile_17 (w : Vec Ideal S1x128x128 .f32) (b : Vec Ideal S128x1 .f32) (v u : Vec Ideal S128x256 .bf16) : k0_pay17 (k0_pay16 (k0_pay5 (iota Kind.tc S128x128 32 [0] iota_S128x128_d0_w32) 64#32 k0_pay3 k0_pay4 1#1) k0_pay6 w b v) u = TILE (MASK w) b v u := rfl

theorem tile_30 (w : Vec Ideal S1x128x128 .f32) (b : Vec Ideal S128x1 .f32) (v u : Vec Ideal S128x256 .bf16) : k0_pay30 (k0_pay29 (k0_pay5 (iota Kind.tc S128x128 32 [0] iota_S128x128_d0_w32) 64#32 k0_pay3 k0_pay4 1#1) k0_pay6 w b v) u = TILE (MASK w) b v u := rfl

end Cert.KernelSGIdeal.RefValue

end
-- ==== Proof.SGCell.lean ====
/- The gated merge's reference as one function of a row and a column. -/
module

public import proofs.«01_k».proof.Proof.SGRef
public import Idealize.ShloMosaic.Lib.Pointwise

@[expose] public section

set_option maxRecDepth 16384

noncomputable section

open Idealize.ShloMosaic Idealize.ShloMosaic.TcCoe Idealize.SL.Sem

namespace Cert.ReferenceSGIdeal.RefValue

open Cert.ReferenceSGIdeal Cert.ReferenceSGIdeal.Gen

/-- The reference, element by element. -/
theorem REF_cell (X : FVec Ideal S8192x2048 .bf16) (G B : FVec Ideal S1x1024 .f32) (W : FVec Ideal S1x4x128x128 .f32) (C : FVec Ideal S1x4x128 .f32)
    (Z : FVec Ideal S8192x1024 .bf16) (A A' : FVec Ideal S1024x2048 .bf16) (T : FVec Ideal S8192x4096 .bf16)
    (r : Fin 8192) (l : Fin 2048) :
    REF X G B W C Z A A' T (ix2 r l) = merged (T (ix2 r ⟨l, by omega⟩)) (T (ix2 r ⟨2048 + l, by omega⟩))
      (fun k => gated (X (ix2 r ⟨k, by omega⟩)) ⟨r % 128, by omega⟩ (fun j => W (ix4 0 ⟨k / 256, by omega⟩ ⟨r % 128, by omega⟩ j))
        (fun j => ln (fun n => X (ix2 ⟨r / 128 * 128 + j, by omega⟩ ⟨1024 + n, by omega⟩)) (fun n => G (ix2 0 n)) (fun n => B (ix2 0 n)) k)
        (C (ix3 0 ⟨k / 256, by omega⟩ ⟨r % 128, by omega⟩)))
      (fun k => A (ix2 k l)) (fun k => Z (ix2 r k)) (fun k => A' (ix2 k l)) := by
  have hp : (⟨r % 4096 % 128, by omega⟩ : Fin 128) = ⟨r % 128, by omega⟩ := Fin.ext (by dsimp only; omega)
  unfold REF
  rw [MRG_at]
  refine congrArg (fun y => merged _ _ y _ _ _) (funext fun k => ?_)
  rw [YAR_at, MIX_at]
  dsimp only
  rw [hp]
  unfold gated
  refine congrArg (fun s => X (ix2 r _) * (s + _)) (Finset.sum_congr rfl fun j _ => ?_)
  rw [LNR_at, WM_at, mul_comm]
  refine congrArg (fun v => _ * ln v _ _ k) (funext fun n => ?_)
  rw [VS_at]
  exact congrArg X (by idx_ext <;> dsimp only <;> omega)

/-- The same at an index whose coordinates are known. -/
theorem REF_at (X : FVec Ideal S8192x2048 .bf16) (G B : FVec Ideal S1x1024 .f32) (W : FVec Ideal S1x4x128x128 .f32) (C : FVec Ideal S1x4x128 .f32)
    (Z : FVec Ideal S8192x1024 .bf16) (A A' : FVec Ideal S1024x2048 .bf16) (T : FVec Ideal S8192x4096 .bf16) (i : S8192x2048.Idx)
    (r : Fin 8192) (l : Fin 2048) (hr : (i 0 : ℕ) = r) (hl : (i 1 : ℕ) = l) :
    REF X G B W C Z A A' T i = REF X G B W C Z A A' T (ix2 r l) :=
  congrArg _ (by idx_ext <;> assumption)

end Cert.ReferenceSGIdeal.RefValue

end
-- ==== Proof.SGValue.lean ====
/- The gated merge: what the result array holds after the run, as the reference's function of the arguments. -/
module

public import proofs.«01_k».proof.Proof.SGTile
public import proofs.«01_k».proof.Proof.SGCell
public import Idealize.ShloMosaic.Lib.ValueLayout

@[expose] public section

set_option maxRecDepth 16384

noncomputable section

open Idealize.ShloMosaic Idealize.ShloMosaic.TcCoe Idealize.SL.Sem

open Idealize.ShloMosaic.Pipeline (Dat)

namespace Cert.KernelSGIdeal.RefValue

open Cert.KernelSGIdeal Cert.KernelSGIdeal.Gen
open Cert.ReferenceSGIdeal.RefValue (mean ln causal gated merged REF REF_at REF_cell)

variable (m : (ℓ : Loc nD τ sig) → Buf (Elt Ideal) ℓ)

/-- A buffer written whole reads as what was written. -/
theorem whole (X : Vec Ideal S512x1024 .bf16) (x : S512x1024.Idx) :
    View.canon (Val := Elt Ideal) [(⟨Rect.unit ![0, 0] ![512, 1024] inb_S512x1024_S512x1024_0_0, X⟩ : View.Piece (Elt Ideal) S512x1024 .bf16)] x = X x := by
  rw [View.canon_cons_unit_lit]
  intro a
  fin_cases a <;> rfl

/-- What a point stores. -/
theorem stored (c : Dev nD) (t : Fin cfg0.N) : outsAt0 m c t
    = k0_pay1 (k0_pay33 (YA (iblk m c 0 t) (k0_pay2 (iblk m c 1 t) (iblk m c 2 t) (iblk m c 3 t)) (iblk m c 4 t) (iblk m c 5 t)) (iblk m c 7 t))
        (iblk m c 6 t) (iblk m c 8 t) (iblk m c 9 t) (iblk m c 10 t) := by
  unfold outsAt0
  frame_out
  simp only [View.readCov_eq_canon']
  simp only [whole]
  refine congrArg (fun v => k0_pay1 (k0_pay33 v _) _ _ _ _) ?_
  refine (View.ld_unit_lit (S := S512x1024) (off := ![0, 0]) inb_S512x1024_S512x1024_0_0 (View.canon _) (by decide)).trans ?_
  refine congrArg View.canon ?_
  iterate 16 refine congrArg₂ List.cons (congrArg (Sigma.mk _) (by rfl)) ?_
  rfl

/-! The buffers the program makes before the run. -/

theorem v2_eq (c : Dev nD) : V m c main_v2 = shapeCast S4x128x128 (m ((c : Thread nD τ).loc main_arg3)) shapeCasts_S1x4x128x128_S4x128x128 := by
  unfold V; rw [hostOps0]; after_results; rfl

theorem v4_eq (c : Dev nD) : V m c main_v4
    = shapeCast S1x1024 (shapeCast S1024 (m ((c : Thread nD τ).loc main_arg1)) shapeCasts_S1x1024_S1024) shapeCasts_S1024_S1x1024 := by
  unfold V; rw [hostOps0]; after_results; rfl

theorem v5_eq (c : Dev nD) : V m c main_v5
    = shapeCast S1x1024 (shapeCast S1024 (m ((c : Thread nD τ).loc main_arg2)) shapeCasts_S1x1024_S1024) shapeCasts_S1024_S1x1024 := by
  unfold V; rw [hostOps0]; after_results; rfl

theorem v6_eq (c : Dev nD) : V m c main_v6
    = transpose S128x4 [1, 0] (shapeCast S4x128 (m ((c : Thread nD τ).loc main_arg4)) shapeCasts_S1x4x128_S4x128) transposes_S4x128_S128x4_1_0 := by
  unfold V; rw [hostOps0]; after_results; rfl

theorem idx : ∀ t : Fin cfg0.N, win0_0.index t = ![t.val, 0] ∧ win0_1.index t = ![t.val, 1] ∧ win0_2.index t = ![0, 0]
    ∧ win0_3.index t = ![0, 0] ∧ win0_4.index t = ![0, 0, 0] ∧ win0_5.index t = ![0, 0] ∧ win0_6.index t = ![t.val, 0]
    ∧ win0_7.index t = ![0, 0] ∧ win0_8.index t = ![0, 0] ∧ win0_9.index t = ![t.val, 0] ∧ win0_10.index t = ![t.val, 1]
    ∧ win0_11.index t = ![t.val, 0] :=
  (by decide +kernel : ∀ t : Fin grid0.N, _)

/-! The blocks of a point, element by element. -/

theorem lt_points (t : Fin cfg0.N) : t.val < 16 := lt_of_lt_of_eq t.isLt (by decide)

theorem blk0 (c : Dev nD) (t : Fin cfg0.N) (r : Fin 512) (k : Fin 1024) :
    iblk m c 0 t (ix2 r k) = m ((c : Thread nD τ).loc main_arg0) (ix2 ⟨t.val * 512 + r, by have := lt_points t; omega⟩ ⟨k, by omega⟩) := by
  blk_ext [iblk, V, idx t]

theorem blk1 (c : Dev nD) (t : Fin cfg0.N) (r : Fin 512) (k : Fin 1024) :
    iblk m c 1 t (ix2 r k) = m ((c : Thread nD τ).loc main_arg0) (ix2 ⟨t.val * 512 + r, by have := lt_points t; omega⟩ ⟨1024 + k, by omega⟩) := by
  blk_ext [iblk, V, idx t]

theorem blk2 (c : Dev nD) (t : Fin cfg0.N) (k : Fin 1024) :
    iblk m c 2 t (ix2 0 k) = m ((c : Thread nD τ).loc main_arg1) (ix2 0 k) := by
  refine Eq.trans (b := V m c main_v4 (ix2 0 k)) (by blk_ext [iblk, idx t]) ?_
  rw [v4_eq]; pointwise

theorem blk3 (c : Dev nD) (t : Fin cfg0.N) (k : Fin 1024) :
    iblk m c 3 t (ix2 0 k) = m ((c : Thread nD τ).loc main_arg2) (ix2 0 k) := by
  refine Eq.trans (b := V m c main_v5 (ix2 0 k)) (by blk_ext [iblk, idx t]) ?_
  rw [v5_eq]; pointwise

theorem blk4 (c : Dev nD) (t : Fin cfg0.N) (g : Fin 4) (p j : Fin 128) :
    iblk m c 4 t (ix3 g p j) = m ((c : Thread nD τ).loc main_arg3) (ix4 0 g p j) := by
  refine Eq.trans (b := V m c main_v2 (ix3 g p j)) (by blk_ext [iblk, idx t]) ?_
  rw [v2_eq]; exact ValueIdx.shapeCast_1abc_abc_apply (m ((c : Thread nD τ).loc main_arg3)) _ g p j

theorem blk5 (c : Dev nD) (t : Fin cfg0.N) (p : Fin 128) (g : Fin 4) :
    iblk m c 5 t (ix2 p g) = m ((c : Thread nD τ).loc main_arg4) (ix3 0 g p) := by
  refine Eq.trans (b := V m c main_v6 (ix2 p g)) (by blk_ext [iblk, idx t]) ?_
  rw [v6_eq]
  refine (ValueIdx.transpose_ix2_apply (shapeCast S4x128 (m ((c : Thread nD τ).loc main_arg4)) shapeCasts_S1x4x128_S4x128) transposes_S4x128_S128x4_1_0 p g).trans ?_
  exact ValueIdx.shapeCast_1ab_ab_apply (m ((c : Thread nD τ).loc main_arg4)) _ g p

theorem blk6 (c : Dev nD) (t : Fin cfg0.N) (r : Fin 512) (k : Fin 1024) :
    iblk m c 6 t (ix2 r k) = m ((c : Thread nD τ).loc main_arg5) (ix2 ⟨t.val * 512 + r, by have := lt_points t; omega⟩ k) := by
  blk_ext [iblk, V, idx t]

theorem blk7 (c : Dev nD) (t : Fin cfg0.N) (k : Fin 1024) (l : Fin 2048) :
    iblk m c 7 t (ix2 k l) = m ((c : Thread nD τ).loc main_arg6) (ix2 k l) := by
  blk_ext [iblk, V, idx t]

theorem blk8 (c : Dev nD) (t : Fin cfg0.N) (k : Fin 1024) (l : Fin 2048) :
    iblk m c 8 t (ix2 k l) = m ((c : Thread nD τ).loc main_arg7) (ix2 k l) := by
  blk_ext [iblk, V, idx t]

theorem blk9 (c : Dev nD) (t : Fin cfg0.N) (r : Fin 512) (l : Fin 2048) :
    iblk m c 9 t (ix2 r l) = m ((c : Thread nD τ).loc main_arg8) (ix2 ⟨t.val * 512 + r, by have := lt_points t; omega⟩ ⟨l, by omega⟩) := by
  blk_ext [iblk, V, idx t]

theorem blk10 (c : Dev nD) (t : Fin cfg0.N) (r : Fin 512) (l : Fin 2048) :
    iblk m c 10 t (ix2 r l) = m ((c : Thread nD τ).loc main_arg8) (ix2 ⟨t.val * 512 + r, by have := lt_points t; omega⟩ ⟨2048 + l, by omega⟩) := by
  blk_ext [iblk, V, idx t]

/-- What a point stores is the reference's at the rows of its block. -/
theorem point11 (c : Dev nD) (t : Fin cfg0.N) (y) :
    k0_pay1 (k0_pay33 (YA (iblk m c 0 t) (k0_pay2 (iblk m c 1 t) (iblk m c 2 t) (iblk m c 3 t)) (iblk m c 4 t) (iblk m c 5 t)) (iblk m c 7 t))
        (iblk m c 6 t) (iblk m c 8 t) (iblk m c 9 t) (iblk m c 10 t) y
    = REF (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (((cfg0.win 11).blk t).view.emb y) := by
  idx_vars y
  have ht := lt_points t
  refine (merge_at _ _ _ _ _ _ _ _).trans (Eq.trans ?_ ((REF_at _ _ _ _ _ _ _ _ _ _ ⟨t.val * 512 + y0, by omega⟩ y1 ?_ ?_).trans (REF_cell _ _ _ _ _ _ _ _ _ _ _)).symm)
  · have hp : (⟨(t.val * 512 + y0) % 128, by omega⟩ : Fin 128) = ⟨y0 % 128, by omega⟩ := Fin.ext (by dsimp only; omega)
    simp only [blk9, blk10, blk7, blk8, blk6, YA_at, blk0, norm_at, blk1, blk2, blk3, blk4, blk5]
    refine congrArg (fun y => merged _ _ y _ _ _) (funext fun k => ?_)
    rw [hp]
    refine congrArg (fun v => gated _ _ _ v _) (funext fun j => ?_)
    refine congrArg (fun v => ln v _ _ k) (funext fun n => ?_)
    exact congrArg (m ((c : Thread nD τ).loc main_arg0)) (by idx_ext <;> dsimp only <;> omega)
  all_goals (blk_simp [idx t] <;> try omega)

/-- The array after the run is the reference's. -/
theorem final11 (c : Dev nD) : (dats m 0 c).arrAt 11 (cfgs 0).N
    = REF (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8)) := by
  refine (dats m 0 c).arrAt_eq_of_covers 11 _ (by decide +kernel) fun t _ y => ?_
  blk_simp; rw [after0_11, stored]; exact point11 m c t y

end Cert.KernelSGIdeal.RefValue

end
-- ==== Proof.SGClaims.lean ====
/- The gated merge: the claims of its programs. -/
module

public import proofs.«01_k».proof.Defs
public import proofs.«01_k».proof.Proof.Gen.KernelSG.Frame
public import proofs.«01_k».proof.Proof.Gen.ReferenceSGIdeal.Run
public import proofs.«01_k».proof.Proof.SGValue
public import Idealize.ShloMosaic.Lib.Claim

@[expose] public section

set_option maxRecDepth 16384

noncomputable section

namespace Cert.Proof

open Idealize.ShloMosaic Idealize.ShloMosaic.TcCoe Idealize.SL.Sem

theorem frame_KernelSG : Cert.quiescent_KernelSG := fun m ρ _ => Cert.KernelSG.Gen.frame m ρ

theorem frame_KernelSGIdeal : Cert.quiescent_KernelSGIdeal := fun m ρ _ => Cert.KernelSGIdeal.Gen.frame m ρ

theorem frame_ReferenceSGIdeal : Cert.quiescent_ReferenceSGIdeal := fun m ρ _ =>
  (θ_run Cert.ReferenceSGIdeal.defs _ _).mono
    (fun r h => ⟨fun c => (h c).2, Idealize.ShloMosaic.sem_eq_zero_of_no_sems (by decide) r.2⟩)
    (Cert.ReferenceSGIdeal.Value.run m ρ)

theorem preserves_SG : Cert.preserves_KernelSG_KernelSGIdeal := trivial

theorem algebraic_SG : Cert.algebraic_KernelSGIdeal_ReferenceSGIdeal := by
  intro m g m' g' hpre hagree
  refine ⟨fun c => Cert.ReferenceSGIdeal.RefValue.REF (m ((c.tc : Thread _ _).loc Cert.KernelSGIdeal.main_arg0)) (m ((c.tc : Thread _ _).loc Cert.KernelSGIdeal.main_arg1)) (m ((c.tc : Thread _ _).loc Cert.KernelSGIdeal.main_arg2)) (m ((c.tc : Thread _ _).loc Cert.KernelSGIdeal.main_arg3)) (m ((c.tc : Thread _ _).loc Cert.KernelSGIdeal.main_arg4)) (m ((c.tc : Thread _ _).loc Cert.KernelSGIdeal.main_arg5)) (m ((c.tc : Thread _ _).loc Cert.KernelSGIdeal.main_arg6)) (m ((c.tc : Thread _ _).loc Cert.KernelSGIdeal.main_arg7)) (m ((c.tc : Thread _ _).loc Cert.KernelSGIdeal.main_arg8)), ?_, ?_⟩
  · refine θ_run_mono (θ_run_and (Cert.KernelSGIdeal.Gen.run_main m g) (Cert.KernelSGIdeal.Gen.unchanged m g)) fun r h c => ?_
    exact ⟨((h.1 c).1 11).trans (Cert.KernelSGIdeal.RefValue.final11 m c), h.2 c⟩
  · refine θ_run_mono (Cert.ReferenceSGIdeal.Value.run m' g') fun r h c => ?_
    obtain ⟨a0, a1, a2, a3, a4, a5, a6, a7, a8⟩ := hagree c
    obtain ⟨h0, hargs⟩ := h c
    exact ⟨h0.trans ((Cert.ReferenceSGIdeal.RefValue.res_eq m' c).trans (by rw [a0, a1, a2, a3, a4, a5, a6, a7, a8])), hargs⟩

end Cert.Proof

end
-- ==== Proof.Finite.lean ====
/- What a precondition `|x| < ∞` says of an element. -/
module

public import Idealize.ShloMosaic.Lib.Pointwise

@[expose] public section

namespace Cert.Finite

open Idealize.ShloMosaic

/-- The constant the precondition compares with is the top. -/
theorem ofBits_top : Ideal.ofBits .f32 0x7F800000#32 = (⊤ : EReal) := by simp [Ideal.ofBits, Ideal.ieee]

/-- What the precondition says of an element: it is neither infinity. -/
theorem of_lt (x : EReal)
    (h : BitVec.ofBool (decide (FloatOps.absf (F := Ideal) (φ := .f32) x < Ideal.ofBits FTy.f32 2139095040#32)) = 1#1) :
    x ≠ (⊤ : EReal) ∧ x ≠ (⊥ : EReal) := by
  have h' : FloatOps.absf (F := Ideal) (φ := .f32) x < (⊤ : EReal) := by
    by_contra hn
    rw [ofBits_top, decide_eq_false hn] at h
    exact absurd h (by decide)
  have h2 : max x (-x) < (⊤ : EReal) := h'
  constructor
  · rintro rfl; simp at h2
  · rintro rfl; simp at h2

end Cert.Finite

end
-- ==== Proof.Softmax.lean ====
/-
A row of attention over the extended reals: the product with the values divided once at the end, as the kernels do it,
is the product with the normalized weights, as the reference does it; and columns whose score is `⊥` drop out.
-/
module

public import Idealize.ShloMosaic.PureOps.Ideal

@[expose] public section

noncomputable section

open Idealize.ShloMosaic

namespace Cert.Softmax

/-- Multiplication by a nonnegative real distributes over a finite sum. -/
theorem sum_mul_coe {ι : Type} (S : Finset ι) (f : ι → EReal) (r : ℝ) (hr : 0 ≤ r) :
    (∑ k ∈ S, f k) * (r : EReal) = ∑ k ∈ S, f k * (r : EReal) := by
  classical
  induction S using Finset.induction_on with
  | empty => simp
  | insert a S ha ih =>
    rw [Finset.sum_insert ha, Finset.sum_insert ha,
      EReal.right_distrib_of_nonneg_of_ne_top (by exact_mod_cast hr) (EReal.coe_ne_top r), ih]

/-- A finite sum of nonnegative reals is a real. -/
theorem exists_sum_coe {ι : Type} [Fintype ι] (f : ι → ℝ) :
    (∑ k, (f k : EReal)) = ((∑ k, f k : ℝ) : EReal) := by
  classical
  have : ∀ S : Finset ι, (∑ k ∈ S, (f k : EReal)) = ((∑ k ∈ S, f k : ℝ) : EReal) := by
    intro S
    induction S using Finset.induction_on with
    | empty => simp
    | insert a S ha ih => rw [Finset.sum_insert ha, Finset.sum_insert ha, ih, EReal.coe_add]
  exact this _

/-- The greatest of finitely many numbers other than `⊤`, one of them not `⊥`, is a real. -/
theorem max_real {ι : Type} [Fintype ι] (s : ι → EReal) (ht : ∀ k, s k ≠ ⊤) (k0 : ι) (hb : s k0 ≠ ⊥) :
    ∃ r : ℝ, Finset.univ.fold max ⊥ s = (r : EReal) := by
  have h1 : Finset.univ.fold max ⊥ s < ⊤ :=
    (Finset.fold_max_lt _).2 ⟨bot_lt_top, fun k _ => lt_top_iff_ne_top.2 (ht k)⟩
  have h2 : ⊥ < Finset.univ.fold max ⊥ s :=
    (Finset.lt_fold_max _).2 (.inr ⟨k0, Finset.mem_univ _, bot_lt_iff_ne_bot.2 hb⟩)
  exact ⟨_, (EReal.coe_toReal h1.ne h2.ne').symm⟩

/-- The weight of a score under a real shift is a nonnegative real, and zero for the score `⊥`. -/
theorem weight_real (x : EReal) (r : ℝ) (ht : x ≠ ⊤) : ∃ p : ℝ, 0 ≤ p ∧ Ideal.exp (x - (r : EReal)) = (p : EReal) := by
  induction x with
  | bot => exact ⟨0, le_refl _, by rw [EReal.bot_sub]; rfl⟩
  | coe x => exact ⟨Real.exp (x - r), (Real.exp_pos _).le, by rw [← EReal.coe_sub]; rfl⟩
  | top => exact absurd rfl ht

/-- The sum of the weights is a positive real. -/
theorem total_real {ι : Type} [Fintype ι] (s : ι → EReal) (ht : ∀ k, s k ≠ ⊤) (k0 : ι) (hb : s k0 ≠ ⊥) (r : ℝ) :
    ∃ l : ℝ, 0 < l ∧ (∑ k, Ideal.exp (s k - (r : EReal))) = (l : EReal) := by
  choose p hp he using fun k => weight_real (s k) r (ht k)
  refine ⟨∑ k, p k, ?_, by rw [← exists_sum_coe]; exact Finset.sum_congr rfl fun k _ => he k⟩
  refine Finset.sum_pos' (fun k _ => hp k) ⟨k0, Finset.mem_univ _, ?_⟩
  have h := he k0
  generalize hx : s k0 = x at h hb
  induction x with
  | bot => exact absurd rfl hb
  | coe x =>
    rw [← EReal.coe_sub] at h
    have h' : ((Real.exp (x - r) : ℝ) : EReal) = (p k0 : EReal) := h
    have : Real.exp (x - r) = p k0 := by exact_mod_cast h'
    rw [← this]
    exact Real.exp_pos _
  | top => exact absurd hx (ht k0)

/-- One row: dividing the product by the total is the product with the divided weights. -/
theorem row {ι : Type} [Fintype ι] (s v : ι → EReal) (ht : ∀ k, s k ≠ ⊤) (k0 : ι) (hb : s k0 ≠ ⊥) :
    Ideal.div (∑ k, Ideal.exp (s k - Finset.univ.fold max ⊥ s) * v k)
        (∑ k, Ideal.exp (s k - Finset.univ.fold max ⊥ s))
      = ∑ k, Ideal.div (Ideal.exp (s k - Finset.univ.fold max ⊥ s))
          (∑ k, Ideal.exp (s k - Finset.univ.fold max ⊥ s)) * v k := by
  obtain ⟨r, hr⟩ := max_real s ht k0 hb
  rw [hr]
  obtain ⟨l, hl, he⟩ := total_real s ht k0 hb r
  rw [he, Ideal.div_coe hl.ne', sum_mul_coe _ _ _ (one_div_nonneg.2 hl.le)]
  refine Finset.sum_congr rfl fun k _ => ?_
  rw [Ideal.div_coe hl.ne', mul_right_comm]

/-- A sum over a larger index set whose terms vanish outside the image of an injection. -/
theorem sum_image {ι κ : Type} [Fintype ι] [Fintype κ] (e : ι → κ) (he : Function.Injective e) (f : κ → EReal)
    (h0 : ∀ c, (∀ k, e k ≠ c) → f c = 0) : ∑ c, f c = ∑ k, f (e k) := by
  classical
  rw [← Finset.sum_image (s := Finset.univ) (g := e) (f := f) fun a _ b _ h => he h]
  refine (Finset.sum_subset (Finset.subset_univ _) fun c _ hc => h0 c fun k hk => hc ?_).symm
  exact Finset.mem_image.2 ⟨k, Finset.mem_univ _, hk⟩

/-- The greatest over a larger index set whose further terms are `⊥`. -/
theorem max_image {ι κ : Type} [Fintype ι] [Fintype κ] (e : ι → κ) (s : κ → EReal)
    (h0 : ∀ c, (∀ k, e k ≠ c) → s c = ⊥) :
    Finset.univ.fold max ⊥ s = Finset.univ.fold max ⊥ fun k => s (e k) := by
  refine le_antisymm ((Finset.fold_max_le _).2 ⟨bot_le, fun c _ => ?_⟩)
    ((Finset.fold_max_le _).2 ⟨bot_le, fun k _ => (Finset.le_fold_max _).2 (.inr ⟨e k, Finset.mem_univ _, le_rfl⟩)⟩)
  by_cases h : ∀ k, e k ≠ c
  · rw [h0 c h]; exact bot_le
  · simp only [not_forall, not_not] at h
    obtain ⟨k, rfl⟩ := h
    exact (Finset.le_fold_max _).2 (.inr ⟨k, Finset.mem_univ _, le_rfl⟩)

/-- One row of a band: the kernel's row over all the columns it loads, the reference's over the band alone. -/
theorem band {ι κ : Type} [Fintype ι] [Fintype κ] (e : ι → κ) (he : Function.Injective e) (s v : κ → EReal)
    (ht : ∀ c, s c ≠ ⊤) (h0 : ∀ c, (∀ k, e k ≠ c) → s c = ⊥) (k0 : ι) (hb : s (e k0) ≠ ⊥) :
    Ideal.div (∑ c, Ideal.exp (s c - Finset.univ.fold max ⊥ s) * v c)
        (∑ c, Ideal.exp (s c - Finset.univ.fold max ⊥ s))
      = ∑ k, Ideal.div (Ideal.exp (s (e k) - Finset.univ.fold max ⊥ fun k => s (e k)))
          (∑ k, Ideal.exp (s (e k) - Finset.univ.fold max ⊥ fun k => s (e k))) * v (e k) := by
  rw [← row (fun k => s (e k)) (fun k => v (e k)) (fun k => ht _) k0 hb, ← max_image e s h0]
  obtain ⟨r, hr⟩ := max_real s ht (e k0) hb
  rw [hr]
  have hz : ∀ c, (∀ k, e k ≠ c) → Ideal.exp (s c - (r : EReal)) = 0 := fun c hc => by
    rw [h0 c hc, EReal.bot_sub]; rfl
  rw [sum_image e he (fun c => Ideal.exp (s c - (r : EReal))) hz,
    sum_image e he (fun c => Ideal.exp (s c - (r : EReal)) * v c) fun c hc => by rw [hz c hc, zero_mul]]

/-- The product of two numbers that are neither `⊤` nor `⊥` is neither. -/
theorem mul_real {x y : EReal} (hx : x ≠ ⊤ ∧ x ≠ ⊥) (hy : y ≠ ⊤ ∧ y ≠ ⊥) : x * y ≠ ⊤ ∧ x * y ≠ ⊥ := by
  lift x to ℝ using hx
  lift y to ℝ using hy
  rw [← EReal.coe_mul]
  exact ⟨EReal.coe_ne_top _, EReal.coe_ne_bot _⟩

/-- The sum of two numbers that are neither `⊤` nor `⊥` is neither. -/
theorem add_real {x y : EReal} (hx : x ≠ ⊤ ∧ x ≠ ⊥) (hy : y ≠ ⊤ ∧ y ≠ ⊥) : x + y ≠ ⊤ ∧ x + y ≠ ⊥ := by
  lift x to ℝ using hx
  lift y to ℝ using hy
  rw [← EReal.coe_add]
  exact ⟨EReal.coe_ne_top _, EReal.coe_ne_bot _⟩

/-- A finite sum of numbers that are neither `⊤` nor `⊥` is neither. -/
theorem sum_real {ι : Type} [Fintype ι] (f : ι → EReal) (hf : ∀ k, f k ≠ ⊤ ∧ f k ≠ ⊥) : (∑ k, f k) ≠ ⊤ ∧ (∑ k, f k) ≠ ⊥ := by
  choose g hg using fun k => (⟨(f k).toReal, (EReal.coe_toReal (hf k).1 (hf k).2).symm⟩ : ∃ r : ℝ, f k = (r : EReal))
  have : (∑ k, f k) = ((∑ k, g k : ℝ) : EReal) := by
    rw [← exists_sum_coe]; exact Finset.sum_congr rfl fun k _ => hg k
  rw [this]
  exact ⟨EReal.coe_ne_top _, EReal.coe_ne_bot _⟩

/-- Dividing by the square root of a positive number is multiplying by its inverse. -/
theorem div_root (n : ℝ) (hn : 0 < n) (x : EReal) :
    Ideal.div x (Ideal.sqrt (n : EReal)) = x * (((Real.sqrt n)⁻¹ : ℝ) : EReal) := by
  have h : Ideal.sqrt (n : EReal) = (Real.sqrt n : EReal) := if_neg (not_lt.2 hn.le)
  rw [h, Ideal.div_coe (Real.sqrt_pos.2 hn).ne', one_div]

end Cert.Softmax
-- ==== Proof.CAValue.lean ====
/- The attention to the memory: what the result array holds after the run, as the reference's term of the arguments. -/
module

public import proofs.«01_k».proof.Proof.Gen.KernelCAIdeal.Value
public import proofs.«01_k».proof.Proof.Gen.ReferenceCAIdeal.Run
public import Idealize.ShloMosaic.Lib.Pipeline.ValueKit
public import Idealize.ShloMosaic.Lib.Pointwise
public import proofs.«01_k».proof.Proof.Softmax

@[expose] public section

set_option maxRecDepth 16384

noncomputable section

open Idealize.ShloMosaic Idealize.ShloMosaic.TcCoe Idealize.SL.Sem
open Idealize.ShloMosaic.Pipeline (Dat)

namespace Cert.KernelCAIdeal.RefValue

open Cert.KernelCAIdeal Cert.KernelCAIdeal.Gen

variable (m : (ℓ : Loc nD τ sig) → Buf (Elt Ideal) ℓ)

/-- The reference's scores: queries times keys, head by head, over the root of the head's width. -/
def SC (Q : FVec Ideal Cert.ReferenceCAIdeal.S8192x2048 .bf16) (KV : FVec Ideal Cert.ReferenceCAIdeal.S512x4096 .bf16) :
    FVec Ideal Cert.ReferenceCAIdeal.S2x4x4096x256 .f32 :=
  Host.divf (Host.dotGeneral Cert.ReferenceCAIdeal.dot_S2x4096x4x512_S2x256x4x512_S2x4x4096x256_3_3_1_1_02_02 none (shapeCast _ (extf .f32 Q Cert.ReferenceCAIdeal.Gen.bitsLt_bf16_f32) Cert.ReferenceCAIdeal.Gen.shapeCasts_S8192x2048_S2x4096x4x512) (shapeCast _ (extractStridedSlice Cert.ReferenceCAIdeal.S2x256x2048 ![0, 0, 0] (shapeCast _ (extf .f32 KV Cert.ReferenceCAIdeal.Gen.bitsLt_bf16_f32) Cert.ReferenceCAIdeal.Gen.shapeCasts_S512x4096_S2x256x4096) Cert.ReferenceCAIdeal.Gen.slices_S2x256x4096_S2x256x2048_0_0_0) Cert.ReferenceCAIdeal.Gen.shapeCasts_S2x256x2048_S2x256x4x512)) (broadcastInDim Cert.ReferenceCAIdeal.S2x4x4096x256 ![] Cert.ReferenceCAIdeal.Gen.bcast_S_S2x4x4096x256 (Host.sqrt (constant Cert.ReferenceCAIdeal.S_ .f32 0x44000000#32)))

/-- … the greatest of each row. -/
def MX (S : FVec Ideal Cert.ReferenceCAIdeal.S2x4x4096x256 .f32) : FVec Ideal Cert.ReferenceCAIdeal.S2x4x4096 .f32 :=
  Host.reduce FloatOps.maximumf S (constant Cert.ReferenceCAIdeal.S_ .f32 0xFF800000#32) Cert.ReferenceCAIdeal.Gen.reducesTo_S2x4x4096x256_S2x4x4096_d3 Cert.ReferenceCAIdeal.Gen.h_S_

/-- … the exponentials under it. -/
def EX (S : FVec Ideal Cert.ReferenceCAIdeal.S2x4x4096x256 .f32) (M : FVec Ideal Cert.ReferenceCAIdeal.S2x4x4096 .f32) : FVec Ideal Cert.ReferenceCAIdeal.S2x4x4096x256 .f32 :=
  Host.exp (subf S (broadcastInDim Cert.ReferenceCAIdeal.S2x4x4096x256 ![0, 1, 2, 3] Cert.ReferenceCAIdeal.Gen.bcast_S2x4x4096x1_S2x4x4096x256_0_1_2_3
    (broadcastInDim Cert.ReferenceCAIdeal.S2x4x4096x1 ![0, 1, 2] Cert.ReferenceCAIdeal.Gen.bcast_S2x4x4096_S2x4x4096x1_0_1_2
      (maximumf (broadcastInDim Cert.ReferenceCAIdeal.S2x4x4096 ![] Cert.ReferenceCAIdeal.Gen.bcast_S_S2x4x4096 (constant Cert.ReferenceCAIdeal.S_ .f32 0xFF800000#32)) M))))

/-- … of the scores themselves. -/
def PE (S : FVec Ideal Cert.ReferenceCAIdeal.S2x4x4096x256 .f32) : FVec Ideal Cert.ReferenceCAIdeal.S2x4x4096x256 .f32 :=
  EX S (MX S)

/-- … and the values weighted by the normalised exponentials. -/
def OUT (P : FVec Ideal Cert.ReferenceCAIdeal.S2x4x4096x256 .f32) (KV : FVec Ideal Cert.ReferenceCAIdeal.S512x4096 .bf16) :
    FVec Ideal Cert.ReferenceCAIdeal.S8192x2048 .bf16 :=
  truncf .bf16 (shapeCast _ (shapeCast _ (transpose Cert.ReferenceCAIdeal.S2x4096x4x512 [0, 3, 1, 2] (Host.dotGeneral Cert.ReferenceCAIdeal.dot_S2x256x4x512_S2x4x4096x256_S2x4x512x4096_1_3_3_2_02_01 none (shapeCast _ (extractStridedSlice Cert.ReferenceCAIdeal.S2x256x2048 ![0, 0, 2048] (shapeCast _ (extf .f32 KV Cert.ReferenceCAIdeal.Gen.bitsLt_bf16_f32) Cert.ReferenceCAIdeal.Gen.shapeCasts_S512x4096_S2x256x4096) Cert.ReferenceCAIdeal.Gen.slices_S2x256x4096_S2x256x2048_0_0_2048) Cert.ReferenceCAIdeal.Gen.shapeCasts_S2x256x2048_S2x256x4x512) (Host.divf P (broadcastInDim Cert.ReferenceCAIdeal.S2x4x4096x256 ![0, 1, 2, 3] Cert.ReferenceCAIdeal.Gen.bcast_S2x4x4096x1_S2x4x4096x256_0_1_2_3 (broadcastInDim Cert.ReferenceCAIdeal.S2x4x4096x1 ![0, 1, 2] Cert.ReferenceCAIdeal.Gen.bcast_S2x4x4096_S2x4x4096x1_0_1_2 (Host.reduceAdd P (constant Cert.ReferenceCAIdeal.S_ .f32 0x00000000#32) Cert.ReferenceCAIdeal.Gen.reducesTo_S2x4x4096x256_S2x4x4096_d3 Cert.ReferenceCAIdeal.Gen.h_S_))))) Cert.ReferenceCAIdeal.Gen.transposes_S2x4x512x4096_S2x4096x4x512_0_3_1_2) Cert.ReferenceCAIdeal.Gen.shapeCasts_S2x4096x4x512_S2x4096x2048) Cert.ReferenceCAIdeal.Gen.shapeCasts_S2x4096x2048_S8192x2048) Cert.ReferenceCAIdeal.Gen.bitsLt_bf16_f32

/-- The reference: the attention of the queries to the memory's keys and values. -/
abbrev REF (Q : FVec Ideal Cert.ReferenceCAIdeal.S8192x2048 .bf16) (KV : FVec Ideal Cert.ReferenceCAIdeal.S512x4096 .bf16) :
    FVec Ideal Cert.ReferenceCAIdeal.S8192x2048 .bf16 :=
  OUT (PE (SC Q KV)) KV

/-- A score: the products of a query and a key added up, times the inverse root of the head's width. -/
def score (q : Fin 512 → EReal) (k : Fin 512 → EReal) : EReal :=
  (∑ e, q e * k e) * (((Real.sqrt 512)⁻¹ : ℝ) : EReal)

/-- One element as the kernel computes it: the weighted values divided by the weights' total. -/
def cell (q : Fin 512 → EReal) (k : Fin 256 → Fin 512 → EReal) (v : Fin 256 → EReal) : EReal :=
  Ideal.div (∑ j, Ideal.exp (score q (k j) - Finset.univ.fold max ⊥ fun j => score q (k j)) * v j)
    (∑ j, Ideal.exp (score q (k j) - Finset.univ.fold max ⊥ fun j => score q (k j)))

/-- … and as the reference computes it: the normalised weights times the values. -/
def cellR (q : Fin 512 → EReal) (k : Fin 256 → Fin 512 → EReal) (v : Fin 256 → EReal) : EReal :=
  ∑ j, Ideal.div (Ideal.exp (score q (k j) - Finset.univ.fold max ⊥ fun j => score q (k j)))
    (∑ j, Ideal.exp (score q (k j) - Finset.univ.fold max ⊥ fun j => score q (k j))) * v j

/-- The two are one where queries and keys are finite. -/
theorem cell_eq (q : Fin 512 → EReal) (k : Fin 256 → Fin 512 → EReal) (v : Fin 256 → EReal)
    (hq : ∀ e, q e ≠ ⊤ ∧ q e ≠ ⊥) (hk : ∀ j e, k j e ≠ ⊤ ∧ k j e ≠ ⊥) : cell q k v = cellR q k v := by
  have hs : ∀ j, score q (k j) ≠ ⊤ ∧ score q (k j) ≠ ⊥ := fun j =>
    Softmax.mul_real (Softmax.sum_real _ fun e => Softmax.mul_real (hq e) (hk j e)) ⟨EReal.coe_ne_top _, EReal.coe_ne_bot _⟩
  exact Softmax.row (fun j => score q (k j)) v (fun j => (hs j).1) 0 (hs 0).2

/-- The named factor at the ideal instance. -/
theorem named : Named.named (F := Ideal) (φ := .f32) κ "scale512" 0x3D3504F3#32 = (((Real.sqrt 512)⁻¹ : ℝ) : EReal) :=
  IdealRules.named_const.ideal_named_scalar _ _ _ _ rfl

/-- The word of −∞. -/
theorem ofBits_ninf : Ideal.ofBits .f32 0xFF800000#32 = ⊥ := by simp [Ideal.ofBits, Ideal.ieee]

/-- The word of 512. -/
theorem ofBits_512 : Ideal.ofBits .f32 0x44000000#32 = ((512 : ℝ) : EReal) := by
  simp [Ideal.ofBits, Ideal.ieee, -EReal.coe_mul]; norm_num

/-- The first head's payload, element by element. -/
theorem pay_0 (q : Vec Ideal S512x512 .bf16) (k v : Vec Ideal S256x512 .bf16) (r l : Fin 512) :
    k0_pay2 q k v (ix2 r l) = cell (fun e => q (ix2 r e)) (fun j e => k (ix2 j e)) (fun j => v (ix2 j l)) := by
  pointwise [k0_pay2, named, ofBits_ninf]
  rfl

/-- The second head's. -/
theorem pay_1 (q : Vec Ideal S512x512 .bf16) (k v : Vec Ideal S256x512 .bf16) (r l : Fin 512) :
    k0_pay6 (k0_pay4 q k) (k0_pay5 q k) v (constant (F := Ideal) S512x512 .f32 0x00000000#32) (ix2 r l)
    = cell (fun e => q (ix2 r e)) (fun j e => k (ix2 j e)) (fun j => v (ix2 j l)) := by
  pointwise [k0_pay6, k0_pay4, k0_pay5, k0_pay3, named, ofBits_ninf]
  rfl

/-- The third head's. -/
theorem pay_2 (q : Vec Ideal S512x512 .bf16) (k v : Vec Ideal S256x512 .bf16) (r l : Fin 512) :
    k0_pay7 q k v (ix2 r l) = cell (fun e => q (ix2 r e)) (fun j e => k (ix2 j e)) (fun j => v (ix2 j l)) := by
  pointwise [k0_pay7, named, ofBits_ninf]
  rfl

/-- The fourth head's. -/
theorem pay_3 (q : Vec Ideal S512x512 .bf16) (k v : Vec Ideal S256x512 .bf16) (r l : Fin 512) :
    k0_pay1 (k0_pay8 q k) (k0_pay9 q k) v (ix2 r l)
    = cell (fun e => q (ix2 r e)) (fun j e => k (ix2 j e)) (fun j => v (ix2 j l)) := by
  pointwise [k0_pay1, k0_pay8, k0_pay9, named, ofBits_ninf]
  rfl

/-- The scaling of a product of queries and keys. -/
theorem scaled (A : FVec Ideal Cert.ReferenceCAIdeal.S2x4x4096x256 .f32) (b : Fin 2) (h : Fin 4) (i : Fin 4096) (j : Fin 256) :
    (Host.divf A (broadcastInDim Cert.ReferenceCAIdeal.S2x4x4096x256 ![] Cert.ReferenceCAIdeal.Gen.bcast_S_S2x4x4096x256
      (Host.sqrt (constant Cert.ReferenceCAIdeal.S_ .f32 0x44000000#32)))) (ix4 b h i j) = A (ix4 b h i j) * (((Real.sqrt 512)⁻¹ : ℝ) : EReal) := by
  pointwise [ofBits_512]
  rw [Softmax.div_root 512 (by norm_num)]

/-- A product of queries and keys. -/
theorem product (A : FVec Ideal Cert.ReferenceCAIdeal.S2x4096x4x512 .f32) (B : FVec Ideal Cert.ReferenceCAIdeal.S2x256x4x512 .f32)
    (b : Fin 2) (h : Fin 4) (i : Fin 4096) (j : Fin 256) :
    (Host.dotGeneral Cert.ReferenceCAIdeal.dot_S2x4096x4x512_S2x256x4x512_S2x4x4096x256_3_3_1_1_02_02 none A B :
      FVec Ideal Cert.ReferenceCAIdeal.S2x4x4096x256 .f32) (ix4 b h i j) = ∑ e, A (ix4 b i h e) * B (ix4 b j h e) := by
  pointwise

/-- The queries by heads. -/
theorem queries (Q : FVec Ideal Cert.ReferenceCAIdeal.S8192x2048 .bf16) (b : Fin 2) (i : Fin 4096) (h : Fin 4) (e : Fin 512) :
    (shapeCast Cert.ReferenceCAIdeal.S2x4096x4x512 (extf .f32 Q Cert.ReferenceCAIdeal.Gen.bitsLt_bf16_f32) Cert.ReferenceCAIdeal.Gen.shapeCasts_S8192x2048_S2x4096x4x512) (ix4 b i h e)
    = Q (ix2 ⟨b * 4096 + i, by omega⟩ ⟨h * 512 + e, by omega⟩) := by
  pointwise

/-- The keys by heads. -/
theorem keys (KV : FVec Ideal Cert.ReferenceCAIdeal.S512x4096 .bf16) (b : Fin 2) (j : Fin 256) (h : Fin 4) (e : Fin 512) :
    (shapeCast Cert.ReferenceCAIdeal.S2x256x4x512 (extractStridedSlice Cert.ReferenceCAIdeal.S2x256x2048 ![0, 0, 0]
      (shapeCast Cert.ReferenceCAIdeal.S2x256x4096 (extf .f32 KV Cert.ReferenceCAIdeal.Gen.bitsLt_bf16_f32) Cert.ReferenceCAIdeal.Gen.shapeCasts_S512x4096_S2x256x4096)
      Cert.ReferenceCAIdeal.Gen.slices_S2x256x4096_S2x256x2048_0_0_0) Cert.ReferenceCAIdeal.Gen.shapeCasts_S2x256x2048_S2x256x4x512) (ix4 b j h e)
    = KV (ix2 ⟨b * 256 + j, by omega⟩ ⟨h * 512 + e, by omega⟩) := by
  pointwise

/-- A score of the reference. -/
theorem SC_at (Q : FVec Ideal Cert.ReferenceCAIdeal.S8192x2048 .bf16) (KV : FVec Ideal Cert.ReferenceCAIdeal.S512x4096 .bf16)
    (b : Fin 2) (h : Fin 4) (i : Fin 4096) (j : Fin 256) :
    SC Q KV (ix4 b h i j) = score (fun e => Q (ix2 ⟨b * 4096 + i, by omega⟩ ⟨h * 512 + e, by omega⟩))
      (fun e => KV (ix2 ⟨b * 256 + j, by omega⟩ ⟨h * 512 + e, by omega⟩)) := by
  unfold SC score
  rw [scaled, product]
  simp only [queries, keys]

/-- A row's greatest score of the reference. -/
theorem MX_at (S : FVec Ideal Cert.ReferenceCAIdeal.S2x4x4096x256 .f32) (b : Fin 2) (h : Fin 4) (i : Fin 4096) :
    MX S (ix3 b h i) = Finset.univ.fold max ⊥ fun j => S (ix4 b h i j) := by
  pointwise [MX, ofBits_ninf]

/-- An exponential of the reference under a given maximum. -/
theorem EX_at (S : FVec Ideal Cert.ReferenceCAIdeal.S2x4x4096x256 .f32) (M : FVec Ideal Cert.ReferenceCAIdeal.S2x4x4096 .f32) (b : Fin 2) (h : Fin 4) (i : Fin 4096)
    (j : Fin 256) : EX S M (ix4 b h i j) = Ideal.exp (S (ix4 b h i j) - M (ix3 b h i)) := by
  pointwise [EX, ofBits_ninf]
  rw [max_eq_right bot_le]

/-- An exponential of the reference. -/
theorem PE_at (S : FVec Ideal Cert.ReferenceCAIdeal.S2x4x4096x256 .f32) (b : Fin 2) (h : Fin 4) (i : Fin 4096) (j : Fin 256) :
    PE S (ix4 b h i j) = Ideal.exp (S (ix4 b h i j) - Finset.univ.fold max ⊥ fun j => S (ix4 b h i j)) := by
  unfold PE
  rw [EX_at, MX_at]

/-- A result of the reference from its exponentials. -/
theorem OUT_at (P : FVec Ideal Cert.ReferenceCAIdeal.S2x4x4096x256 .f32) (KV : FVec Ideal Cert.ReferenceCAIdeal.S512x4096 .bf16)
    (r : Fin 8192) (l : Fin 2048) :
    OUT P KV (ix2 r l) = ∑ j, Ideal.div (P (ix4 ⟨r / 4096, by omega⟩ ⟨l / 512, by omega⟩ ⟨r % 4096, by omega⟩ j))
        (∑ j, P (ix4 ⟨r / 4096, by omega⟩ ⟨l / 512, by omega⟩ ⟨r % 4096, by omega⟩ j))
      * KV (ix2 ⟨r / 4096 * 256 + j, by omega⟩ ⟨2048 + l, by omega⟩) := by
  pointwise [OUT]
  exact Finset.sum_congr rfl fun j _ => mul_comm _ _

/-- What the reference computes, element by element. -/
theorem cell_reference (Q : FVec Ideal Cert.ReferenceCAIdeal.S8192x2048 .bf16) (KV : FVec Ideal Cert.ReferenceCAIdeal.S512x4096 .bf16)
    (r : Fin 8192) (l : Fin 2048) :
    REF Q KV (ix2 r l) = cellR (fun e => Q (ix2 r ⟨l / 512 * 512 + e, by omega⟩))
      (fun j e => KV (ix2 ⟨r / 4096 * 256 + j, by omega⟩ ⟨l / 512 * 512 + e, by omega⟩))
      (fun j => KV (ix2 ⟨r / 4096 * 256 + j, by omega⟩ ⟨2048 + l, by omega⟩)) := by
  have hr : (⟨r / 4096 * 4096 + r % 4096, by omega⟩ : Fin 8192) = r := Fin.ext (by dsimp only; omega)
  unfold REF cellR
  rw [OUT_at]
  simp only [PE_at, SC_at, hr]

/-- What the reference computes at an index of the result. -/
theorem cell_reference_at (Q : FVec Ideal Cert.ReferenceCAIdeal.S8192x2048 .bf16) (KV : FVec Ideal Cert.ReferenceCAIdeal.S512x4096 .bf16)
    (j : Cert.ReferenceCAIdeal.S8192x2048.Idx) (r : Fin 8192) (l : Fin 2048) (hr : (j 0 : ℕ) = r) (hl : (j 1 : ℕ) = l) :
    REF Q KV j = cellR (fun e => Q (ix2 r ⟨l / 512 * 512 + e, by omega⟩))
      (fun j e => KV (ix2 ⟨r / 4096 * 256 + j, by omega⟩ ⟨l / 512 * 512 + e, by omega⟩))
      (fun j => KV (ix2 ⟨r / 4096 * 256 + j, by omega⟩ ⟨2048 + l, by omega⟩)) := by
  have : j = ix2 r l := by idx_ext <;> assumption
  exact (congrArg (REF Q KV) this).trans (cell_reference Q KV r l)

/-- The windows' block indices at a point. -/
theorem idx : ∀ t : Fin cfg0.N, win0_0.index t = ![t.val, 0] ∧ win0_1.index t = ![t.val / 8, 0] ∧ win0_2.index t = ![t.val / 8, 1]
    ∧ win0_3.index t = ![t.val, 0] :=
  (by decide +kernel : ∀ t : Fin grid0.N, _)

/-- The block a point writes back, element by element. -/
theorem block (x0 : Vec Ideal S512x2048 .bf16) (x1 x2 : Vec Ideal S256x2048 .bf16) (r : Fin 512) (l : Fin 2048) :
    out0_3 x0 x1 x2 (ix2 r l) = cell (fun e => x0 (ix2 r ⟨l / 512 * 512 + e, by omega⟩))
      (fun j e => x1 (ix2 j ⟨l / 512 * 512 + e, by omega⟩)) (fun j => x2 (ix2 j l)) := by
  unfold out0_3
  canon_tiles x h
  all_goals (idx_vars x; rename_i x0 x1; first | rw [pay_0] | rw [pay_1] | rw [pay_2] | rw [pay_3])
  all_goals
    refine congr (congr (congrArg cell (funext fun e => ?_)) (funext fun j => funext fun e => ?_)) (funext fun j => ?_)
    · pointwise; blk_ext
    · pointwise; blk_ext
    · pointwise; blk_ext

/-- … which is the reference's at the rows of the block. -/
theorem point3 (c : Dev nD)
    (hq : ∀ i, m ((c : Thread nD τ).loc main_arg0) i ≠ (⊤ : EReal) ∧ m ((c : Thread nD τ).loc main_arg0) i ≠ (⊥ : EReal))
    (hk : ∀ (i : Fin 512) (l : Fin 4096), (l : ℕ) < 2048 → m ((c : Thread nD τ).loc main_arg1) (ix2 i l) ≠ (⊤ : EReal)
      ∧ m ((c : Thread nD τ).loc main_arg1) (ix2 i l) ≠ (⊥ : EReal)) (t : Fin cfg0.N) (y) :
    out0_3 (iblk m c 0 t) (iblk m c 1 t) (iblk m c 2 t) y
    = REF (m ((c : Thread nD τ).loc main_arg0)) (m ((c : Thread nD τ).loc main_arg1)) (((cfg0.win 3).blk t).view.emb y) := by
  idx_vars y
  have ht : t.val < 16 := lt_of_lt_of_eq t.isLt (by decide)
  refine (block _ _ _ _ _).trans (Eq.trans ?_
    (cell_reference_at _ _ _ ⟨t.val * 512 + y0, by omega⟩ y1 ?_ ?_).symm)
  · refine Eq.trans ?_ (cell_eq _ _ _ (fun e => hq _) (fun j e => hk _ _ (by dsimp only; omega)))
    refine congr (congr (congrArg cell (funext fun e => ?_)) (funext fun j => funext fun e => ?_)) (funext fun j => ?_)
    · blk_ext [iblk, V, idx t]
    · blk_ext [iblk, V, idx t]
    · blk_ext [iblk, V, idx t]
  all_goals (blk_simp [idx t] <;> try omega)

/-- The attention's array after the run is the reference's. -/
theorem final3 (c : Dev nD)
    (hq : ∀ i, m ((c : Thread nD τ).loc main_arg0) i ≠ (⊤ : EReal) ∧ m ((c : Thread nD τ).loc main_arg0) i ≠ (⊥ : EReal))
    (hk : ∀ (i : Fin 512) (l : Fin 4096), (l : ℕ) < 2048 → m ((c : Thread nD τ).loc main_arg1) (ix2 i l) ≠ (⊤ : EReal)
      ∧ m ((c : Thread nD τ).loc main_arg1) (ix2 i l) ≠ (⊥ : EReal)) : (dats m 0 c).arrAt 3 (cfgs 0).N
    = REF (m ((c : Thread nD τ).loc main_arg0)) (m ((c : Thread nD τ).loc main_arg1)) := by
  refine (dats m 0 c).arrAt_eq_of_covers 3 _ (by decide +kernel) fun t _ y => ?_
  blk_simp
  rw [after0_3]
  exact point3 m c hq hk t y

end Cert.KernelCAIdeal.RefValue

end
-- ==== Proof.CAClaims.lean ====
/- The attention to the memory: the claims of its programs. -/
module

public import proofs.«01_k».proof.Defs
public import proofs.«01_k».proof.Proof.Gen.KernelCA.Frame
public import proofs.«01_k».proof.Proof.Gen.ReferenceCAIdeal.Run
public import proofs.«01_k».proof.Proof.Finite
public import proofs.«01_k».proof.Proof.Gen.Pre_finite_memory
public import proofs.«01_k».proof.Proof.CAValue
public import Idealize.ShloMosaic.Lib.Claim

@[expose] public section

set_option maxRecDepth 16384

noncomputable section

namespace Cert.Proof

open Idealize.ShloMosaic Idealize.ShloMosaic.TcCoe Idealize.SL.Sem

theorem frame_KernelCA : Cert.quiescent_KernelCA := fun m ρ _ => Cert.KernelCA.Gen.frame m ρ

theorem frame_KernelCAIdeal : Cert.quiescent_KernelCAIdeal := fun m ρ _ => Cert.KernelCAIdeal.Gen.frame m ρ

theorem frame_ReferenceCAIdeal : Cert.quiescent_ReferenceCAIdeal := fun m ρ _ =>
  (θ_run Cert.ReferenceCAIdeal.defs _ _).mono
    (fun r h => ⟨fun c => (h c).2, Idealize.ShloMosaic.sem_eq_zero_of_no_sems (by decide) r.2⟩)
    (Cert.ReferenceCAIdeal.Value.run m ρ)

theorem frame_KernelCAIdeal_pre : Cert.quiescent_KernelCAIdeal_pre_finite_memory := fun m ρ _ => frame_KernelCAIdeal m ρ trivial

theorem frame_ReferenceCAIdeal_pre : Cert.quiescent_ReferenceCAIdeal_pre_finite_memory := fun m ρ _ => frame_ReferenceCAIdeal m ρ trivial

theorem preserves_CA : Cert.preserves_KernelCA_KernelCAIdeal :=
  IdealRules.named_const.statement Cert.KernelCAIdeal.κ "scale512" .f32 0x3D3504F3#32 _ rfl

theorem algebraic_CA : Cert.algebraic_KernelCAIdeal_ReferenceCAIdeal_pre_finite_memory := by
  pair_intro
  · run_from Cert.KernelCAIdeal.Gen.run_main m g
  · run_from Cert.ReferenceCAIdeal.Value.run m' g'
    refine (Cert.KernelCAIdeal.RefValue.final3 m c (fun i => ?_) (fun i l hl => ?_)).symm
    · have h := congrFun (hpre c).1 i
      pointwise [Cert.Pre_finite_memory.fn] at h
      exact Cert.Finite.of_lt _ h
    · have h := congrFun (hpre c).2 (ix2 i ⟨l, hl⟩)
      pointwise [Cert.Pre_finite_memory.fn] at h
      exact Cert.Finite.of_lt _ h

end Cert.Proof

end
-- ==== Proof.RMValue.lean ====
/- The memory's keys and values: what the result array holds after the run, as the reference's term of the arguments. -/
module

public import proofs.«01_k».proof.Proof.Gen.KernelRMIdeal.Value
public import proofs.«01_k».proof.Proof.Gen.ReferenceRMIdeal.Run
public import Idealize.ShloMosaic.Lib.Pipeline.ValueKit
public import Idealize.ShloMosaic.Lib.Pipeline.ValueKit.Held
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelRMIdeal.RefValue

open Cert.KernelRMIdeal Cert.KernelRMIdeal.Gen

variable (m : (ℓ : Loc nD τ sig) → Buf (Elt Ideal) ℓ)

open Cert.ReferenceRMIdeal Cert.ReferenceRMIdeal.Gen in
/-- The reference: the memory normalised by rows, scaled by the gain, times the weights. -/
abbrev REF (X : FVec Ideal Cert.ReferenceRMIdeal.S2x256x2048 .f32) (G : FVec Ideal Cert.ReferenceRMIdeal.S1x2048 .f32)
    (W : FVec Ideal Cert.ReferenceRMIdeal.S1x2048x4096 .f32) : FVec Ideal Cert.ReferenceRMIdeal.S512x4096 .bf16 :=
  truncf .bf16 (shapeCast _ (Host.dotGeneral Cert.ReferenceRMIdeal.dot_S2x256x2048_S2048x4096_S2x256x4096_2_0_01_1_n_n none
    (mulf (mulf X (broadcastInDim Cert.ReferenceRMIdeal.S2x256x2048 ![0, 1, 2] bcast_S2x256x1_S2x256x2048_0_1_2
      (Host.rsqrt (addf (Host.divf (broadcastInDim Cert.ReferenceRMIdeal.S2x256x1 ![0, 1] bcast_S2x256_S2x256x1_0_1
        (Host.reduceAdd (mulf X X) (constant Cert.ReferenceRMIdeal.S_ .f32 0x00000000#32) reducesTo_S2x256x2048_S2x256_d2 h_S_))
        (broadcastInDim Cert.ReferenceRMIdeal.S2x256x1 ![] bcast_S_S2x256x1 (constant Cert.ReferenceRMIdeal.S_ .f32 0x45000000#32)))
        (broadcastInDim Cert.ReferenceRMIdeal.S2x256x1 ![] bcast_S_S2x256x1 (constant Cert.ReferenceRMIdeal.S_ .f32 0x358637BD#32))))))
      (broadcastInDim Cert.ReferenceRMIdeal.S2x256x2048 ![0, 1, 2] bcast_S1x1x2048_S2x256x2048_0_1_2
        (broadcastInDim Cert.ReferenceRMIdeal.S1x1x2048 ![2] bcast_S2048_S1x1x2048_2 (shapeCast _ G Cert.ReferenceRMIdeal.Gen.shapeCasts_S1x2048_S2048))))
    (shapeCast _ W Cert.ReferenceRMIdeal.Gen.shapeCasts_S1x2048x4096_S2048x4096)) Cert.ReferenceRMIdeal.Gen.shapeCasts_S2x256x4096_S512x4096)
    Cert.ReferenceRMIdeal.Gen.bitsLt_bf16_f32

/-- The windows' block indices at a point: the weights and the result by columns, the memory and the gain whole. -/
theorem idx : ∀ t : Fin cfg0.N, win0_0.index t = ![0, 0] ∧ win0_1.index t = ![0, 0] ∧ win0_2.index t = ![0, t.val]
    ∧ win0_3.index t = ![0, t.val] :=
  (by decide +kernel : ∀ t : Fin grid0.N, _)

/-- The normalised memory held in scratch after a point: written at the first point, kept at the others. -/
theorem held (c : Dev nD) (t : Fin cfg0.N) :
    (outsAt0 m c t.val t.isLt).2
    = k0_pay1 (iblk m c 0 ⟨8 * (t.val / 8), Pipeline.run_start_lt t⟩) (iblk m c 1 ⟨8 * (t.val / 8), Pipeline.run_start_lt t⟩) :=
  Pipeline.eq_of_write_hold (fun n h => (outsAt0 m c n h).2) 8 (fun t => k0_pay1 (iblk m c 0 t) (iblk m c 1 t))
    (fun t h => by rw [outsAt0_A m c t h]; frame_out) (fun t h => by rw [outsAt0_B m c t h]; rfl) t

/-- The scratch read whole holds what it was left with. -/
theorem scratch_read (v : Vec Ideal S512x2048 .bf16) :
    View.read (Elt Ideal) (View.whole cc0_scratch0) ((Memref.isWhole_whole cc0_scratch0).unread v) = v := by
  exact Memref.IsWhole.read_unread _ _

/-- What a point stores is the normalised memory times its columns of the weights. -/
theorem stored (c : Dev nD) (t : Fin cfg0.N) :
    (outsAt0 m c t.val t.isLt).1
    = k0_pay2 (k0_pay1 (iblk m c 0 ⟨8 * (t.val / 8), Pipeline.run_start_lt t⟩) (iblk m c 1 ⟨8 * (t.val / 8), Pipeline.run_start_lt t⟩))
        (iblk m c 2 t) := by
  rw [← held m c t]
  by_cases h : t.val % 8 = 0
  · rw [outsAt0_A m c t h]; frame_out
  · rw [outsAt0_B m c t h]; frame_out; rw [scratch_read]; rfl

/-- One element of the result: a row of the memory, normalised and scaled by the gain, times a column of weights. -/
def cell (x g w : Fin 2048 → EReal) : EReal :=
  ∑ k, x k * Ideal.rsqrt (Ideal.div (∑ k, x k * x k) (Ideal.ofBits .f32 0x45000000#32) + Ideal.ofBits .f32 0x358637BD#32) * g k * w k

/-- What the kernel computes from its blocks, element by element. -/
theorem cell_kernel (X : Vec Ideal S512x2048 .f32) (G : Vec Ideal S1x2048 .f32) (W : Vec Ideal S2048x512 .f32) (r l : Fin 512) :
    k0_pay2 (k0_pay1 X G) W (ix2 r l) = cell (fun k => X (ix2 r k)) (fun k => G (ix2 0 k)) (fun k => W (ix2 k l)) := by
  pointwise [k0_pay2, k0_pay1]
  rfl

/-- What the reference computes, element by element. -/
theorem cell_reference (X : FVec Ideal Cert.ReferenceRMIdeal.S2x256x2048 .f32) (G : FVec Ideal Cert.ReferenceRMIdeal.S1x2048 .f32)
    (W : FVec Ideal Cert.ReferenceRMIdeal.S1x2048x4096 .f32) (j : Cert.ReferenceRMIdeal.S512x4096.Idx) :
    REF X G W j = cell (fun k => X (ix3 ⟨(j 0 : ℕ) / 256, (Nat.div_lt_iff_lt_mul (by omega)).2 (j 0).isLt⟩ ⟨(j 0 : ℕ) % 256, Nat.mod_lt _ (by omega)⟩ k)) (fun k => G (ix2 0 k))
      (fun k => W (ix3 0 k (j 1))) := by
  idx_vars j
  pointwise [REF]
  rfl

/-- … which is the reference's at the columns of its block. -/
theorem point3 (c : Dev nD) (s t : Fin cfg0.N) (y) :
    k0_pay2 (k0_pay1 (iblk m c 0 s) (iblk m c 1 s)) (iblk m c 2 t) y
    = REF (m ((c : Thread nD τ).loc main_arg0)) (m ((c : Thread nD τ).loc main_arg1)) (m ((c : Thread nD τ).loc main_arg2))
        (((cfg0.win 3).blk t).view.emb y) := by
  idx_vars y
  refine (cell_kernel _ _ _ _ _).trans (Eq.trans ?_ (cell_reference _ _ _ _).symm)
  refine congr (congr (congrArg cell (funext fun k => ?_)) (funext fun k => ?_)) (funext fun k => ?_)
  · blk_point [iblk, V, idx s, idx t]
  · blk_point [iblk, V, idx s, idx t]
  · blk_point [iblk, V, idx s, idx t]

/-- The array of the memory's keys and values after the run is the reference's. -/
theorem final3 (c : Dev nD) : (dats m 0 c).arrAt 3 (cfgs 0).N
    = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3, stored]
  exact point3 m c _ t y

end Cert.KernelRMIdeal.RefValue

end
-- ==== Proof.RMClaims.lean ====
/- The memory's keys and values: the claims of its programs. -/
module

public import proofs.«01_k».proof.Defs
public import proofs.«01_k».proof.Proof.Gen.KernelRM.Frame
public import proofs.«01_k».proof.Proof.Gen.ReferenceRMIdeal.Run
public import proofs.«01_k».proof.Proof.RMValue
public import Idealize.ShloMosaic.Lib.Claim

@[expose] public section

set_option maxRecDepth 16384

noncomputable section

namespace Cert.Proof

open Idealize.ShloMosaic Idealize.ShloMosaic.TcCoe Idealize.SL.Sem

theorem frame_KernelRM : Cert.quiescent_KernelRM := fun m ρ _ => Cert.KernelRM.Gen.frame m ρ

theorem frame_KernelRMIdeal : Cert.quiescent_KernelRMIdeal := fun m ρ _ => Cert.KernelRMIdeal.Gen.frame m ρ

theorem frame_ReferenceRMIdeal : Cert.quiescent_ReferenceRMIdeal := fun m ρ _ =>
  (θ_run Cert.ReferenceRMIdeal.defs _ _).mono
    (fun r h => ⟨fun c => (h c).2, Idealize.ShloMosaic.sem_eq_zero_of_no_sems (by decide) r.2⟩)
    (Cert.ReferenceRMIdeal.Value.run m ρ)

theorem preserves_RM : Cert.preserves_KernelRM_KernelRMIdeal := trivial

theorem algebraic_RM : Cert.algebraic_KernelRMIdeal_ReferenceRMIdeal := by
  pair_intro
  · run_from Cert.KernelRMIdeal.Gen.run_main m g
  · run_from Cert.ReferenceRMIdeal.Value.run m' g'
    exact (Cert.KernelRMIdeal.RefValue.final3 m c).symm

end Cert.Proof

end
-- ==== Proof.ATBody.lean ====
/- The band attention's kernel body, element by element. -/
module

public import proofs.«01_k».proof.Proof.Gen.KernelATIdeal.Skeleton
public import Idealize.ShloMosaic.Lib.Pointwise
public import proofs.«01_k».proof.Proof.Softmax

@[expose] public section

set_option maxRecDepth 16384

noncomputable section

open Idealize.ShloMosaic Idealize.ShloMosaic.TcCoe Idealize.SL.Sem

namespace Cert.KernelATIdeal.RefValue

open Cert.KernelATIdeal Cert.KernelATIdeal.Gen

/-- The mask at the ideal instance. -/
theorem named_mask : Named.named (F := Ideal) (φ := .f32) κ "mask" 0xF149F2CA#32 = (⊥ : EReal) :=
  IdealRules.named_const.ideal_named_scalar _ _ _ _ rfl

/-- The scale at the ideal instance. -/
theorem named_scale : Named.named (F := Ideal) (φ := .f32) κ "scale" 0x3DB504F3#32 = (((Real.sqrt 128)⁻¹ : ℝ) : EReal) :=
  IdealRules.named_const.ideal_named_scalar _ _ _ _ rfl

/-- The word of −∞. -/
theorem ofBits_ninf : Ideal.ofBits .f32 0xFF800000#32 = ⊥ := by simp [Ideal.ofBits, Ideal.ieee]

/-- The scores of a block of queries over three blocks of keys. -/
def SCK (m : FVec Ideal S1x768 .f32) (K : FVec Ideal S768x128 .bf16) (q : FVec Ideal S256x128 .bf16) (B : FVec Ideal S1x256x768 .f32) : FVec Ideal S256x768 .f32 :=
  addf (addf (mulf (matmul dot_S256x128_S768x128_S256x768_1_1_0_0_n_n none q K (constant S256x768 .f32 0x00000000#32))
    (broadcast S256x768 (Named.named (F := Ideal) (φ := .f32) κ "scale" 0x3DB504F3#32))) (shapeCast S256x768 B shapeCasts_S1x256x768_S256x768))
    (broadcastTo S256x768 m broadcasts_S1x768_S256x768)

/-- The greatest of each row. -/
def MXK (S : FVec Ideal S256x768 .f32) : FVec Ideal S256 .f32 :=
  multiReduction .maximumf [1] S256 S 0xFF800000#32 reduces_S256x768_S256 (.inl rfl) rfl

/-- The exponentials under it. -/
def EXK (S : FVec Ideal S256x768 .f32) (M : FVec Ideal S256 .f32) : FVec Ideal S256x768 .f32 :=
  exp (subf S (broadcastTo S256x768 (shapeCast S256x1 M shapeCasts_S256_S256x1) broadcasts_S256x1_S256x768))

/-- The weighted values over the weights' total. -/
def OUTK (P : FVec Ideal S256x768 .f32) (V : FVec Ideal S768x128 .bf16) : FVec Ideal S256x128 .bf16 :=
  truncf .bf16 (divf (matmul dot_S256x768_S768x128_S256x128_1_0_0_1_n_n none (truncf .bf16 P bitsLt_bf16_f32) V (constant S256x128 .f32 0x00000000#32))
    (broadcastTo S256x128 (shapeCast S256x1 (multiReduction .add [1] S256 P 0x00000000#32 reduces_S256x768_S256 (.inl rfl) rfl) shapeCasts_S256_S256x1)
      broadcasts_S256x1_S256x128)) bitsLt_bf16_f32

/-- A head's result: three blocks of keys and values under a block of queries. -/
def ATT (m : FVec Ideal S1x768 .f32) (k0 k1 k2 v0 v1 v2 q : Vec Ideal S256x128 .bf16) (B : Vec Ideal S1x256x768 .f32) : FVec Ideal S256x128 .bf16 :=
  OUTK (EXK (SCK m (k0_pay19 k0 k1 k2) q B) (MXK (SCK m (k0_pay19 k0 k1 k2) q B))) (k0_pay19 v0 v1 v2)

section heads
variable (m : FVec Ideal S1x768 .f32) (k0 k1 k2 v0 v1 v2 q : Vec Ideal S256x128 .bf16) (B : Vec Ideal S1x256x768 .f32)

theorem head_0 : k0_pay21 m (k0_pay19 v0 v1 v2) (k0_pay20 k0 k1 k2 q) B = ATT m k0 k1 k2 v0 v1 v2 q B := rfl
theorem head_1 : k0_pay24 (k0_pay22 v0 v1 v2) (k0_pay23 m k0 k1 k2 q B) = ATT m k0 k1 k2 v0 v1 v2 q B := rfl
theorem head_2 : k0_pay27 (k0_pay25 v0 v1 v2) (k0_pay26 m k0 k1 k2 q B) = ATT m k0 k1 k2 v0 v1 v2 q B := rfl
theorem head_3 : k0_pay32 (k0_pay28 v0 v1 v2) (k0_pay30 m k0 k1 k2 q B) (k0_pay31 m k0 k1 k2 q B) (constant S256x128 .f32 0x00000000#32)
    = ATT m k0 k1 k2 v0 v1 v2 q B := rfl
theorem head_4 : k0_pay33 m k0 k1 k2 v0 v1 v2 q B = ATT m k0 k1 k2 v0 v1 v2 q B := rfl
theorem head_5 : k0_pay34 m k0 k1 k2 v0 v1 v2 q B = ATT m k0 k1 k2 v0 v1 v2 q B := rfl
theorem head_6 : k0_pay35 m k0 k1 k2 v0 v1 v2 q B = ATT m k0 k1 k2 v0 v1 v2 q B := rfl
theorem head_7 : k0_pay1 m k0 k1 k2 v0 v1 v2 q B = ATT m k0 k1 k2 v0 v1 v2 q B := rfl

end heads

/-- A score. -/
theorem SCK_at (m : FVec Ideal S1x768 .f32) (K : FVec Ideal S768x128 .bf16) (q : FVec Ideal S256x128 .bf16) (B : FVec Ideal S1x256x768 .f32)
    (r : Fin 256) (j : Fin 768) :
    SCK m K q B (ix2 r j) = (∑ e, q (ix2 r e) * K (ix2 j e)) * (((Real.sqrt 128)⁻¹ : ℝ) : EReal) + B (ix3 0 r j) + m (ix2 0 j) := by
  pointwise [SCK, named_scale]

/-- A row's greatest score. -/
theorem MXK_at (S : FVec Ideal S256x768 .f32) (r : Fin 256) : MXK S (ix1 r) = Finset.univ.fold max ⊥ fun j => S (ix2 r j) := by
  pointwise [MXK, ofBits_ninf]

/-- An exponential. -/
theorem EXK_at (S : FVec Ideal S256x768 .f32) (M : FVec Ideal S256 .f32) (r : Fin 256) (j : Fin 768) :
    EXK S M (ix2 r j) = Ideal.exp (S (ix2 r j) - M (ix1 r)) := by
  pointwise [EXK]

/-- A result from its weights. -/
theorem OUTK_at (P : FVec Ideal S256x768 .f32) (V : FVec Ideal S768x128 .bf16) (r : Fin 256) (l : Fin 128) :
    OUTK P V (ix2 r l) = Ideal.div (∑ j, P (ix2 r j) * V (ix2 j l)) (∑ j, P (ix2 r j)) := by
  pointwise [OUTK]

/-- Three blocks of rows, one under the other. -/
theorem CAT_at (a b c : Vec Ideal S256x128 .bf16) (j : Fin 768) (e : Fin 128) :
    k0_pay19 a b c (ix2 j e) = if h : (j : ℕ) < 256 then a (ix2 ⟨j, h⟩ e) else if h' : (j : ℕ) < 512 then b (ix2 ⟨j - 256, by omega⟩ e) else c (ix2 ⟨j - 512, by omega⟩ e) := by
  pointwise [k0_pay19]
  refine dite_congr rfl (fun _ => rfl) fun h => ?_
  have hlt : ((j : ℕ) - 256 < 256) = ((j : ℕ) < 512) := propext (by omega)
  refine dite_congr hlt (fun _ => rfl) fun h' => ?_
  exact congrArg (fun p => c (ix2 p e)) (Fin.ext (by dsimp only; omega))

theorem edge_words : ∀ j : Fin 768, IntOp.cmpi .slt (BitVec.ofNat 32 j) 256#32 = if (j : ℕ) < 256 then 1#1 else 0#1 := by decide +kernel
theorem edge_words' : ∀ j : Fin 768, IntOp.cmpi .slt (BitVec.ofNat 32 j) 512#32 = if (j : ℕ) < 512 then 1#1 else 0#1 := by decide +kernel
theorem edge_words2 : ∀ n : Fin 16, Scalar.cmpi .sge (BitVec.ofNat 32 n) 2#32 = if 2 ≤ (n : ℕ) then 1#1 else 0#1 := by decide +kernel
theorem edge_words1 : ∀ n : Fin 16, Scalar.cmpi .sge (BitVec.ofNat 32 n) 1#32 = if 1 ≤ (n : ℕ) then 1#1 else 0#1 := by decide +kernel

/-- The sequence's start, as the kernel masks it. -/
theorem EDGE_at (w : BitVec 32) (n : Fin 16) (hw : w = BitVec.ofNat 32 n) (j : Fin 768) :
    k0_pay18 (F := Ideal) w (ix2 0 j) = if 512 ≤ 256 * (n : ℕ) + j then (0 : EReal) else ⊥ := by
  subst hw
  pointwise [k0_pay18, named_mask]
  rw [edge_words j, edge_words' j, edge_words2 n, edge_words1 n]
  have hn := n.isLt
  have hj := j.isLt
  by_cases h1 : (j : ℕ) < 256 <;> by_cases h2 : (j : ℕ) < 512 <;> by_cases h3 : 2 ≤ (n : ℕ) <;> by_cases h4 : 1 ≤ (n : ℕ) <;>
    by_cases h : 512 ≤ 256 * (n : ℕ) + j <;> first | (exfalso; omega) | (simp only [Scalar.select, h1, h2, h3, h4, h, if_true, if_false]; rfl)

/-- The chunk of a row, as a word. -/
theorem chunk_word : ∀ r : Fin 256, (Scalar.select (IntOp.andi (IntOp.cmpi CmpIPredicate.ne (IntOp.subi (BitVec.setWidth 32 (IntOp.cmpi CmpIPredicate.sgt (BitVec.ofNat 32 (r : ℕ)) 0#32)) (BitVec.setWidth 32 (IntOp.cmpi CmpIPredicate.slt (BitVec.ofNat 32 (r : ℕ)) 0#32))) (Scalar.subi (Scalar.extui (Scalar.cmpi CmpIPredicate.sgt 64#32 0#32)) (Scalar.extui (Scalar.cmpi CmpIPredicate.slt 64#32 0#32)))) (IntOp.cmpi CmpIPredicate.ne (IntOp.remsi ArithUnit.vector (BitVec.ofNat 32 (r : ℕ)) 64#32) 0#32)) (IntOp.subi (IntOp.divsi ArithUnit.vector (BitVec.ofNat 32 (r : ℕ)) 64#32) 1#32) (IntOp.divsi ArithUnit.vector (BitVec.ofNat 32 (r : ℕ)) 64#32))
    = BitVec.ofNat 32 ((r : ℕ) / 64) := by
  decide +kernel

/-- A column is in the band of a chunk, as a word. -/
theorem band_word : ∀ (n : Fin 4) (j : Fin 768), IntOp.andi (IntOp.cmpi .sge (IntOp.subi (BitVec.ofNat 32 j) (IntOp.muli (BitVec.ofNat 32 n) 64#32)) 0#32)
    (IntOp.cmpi .slt (IntOp.subi (BitVec.ofNat 32 j) (IntOp.muli (BitVec.ofNat 32 n) 64#32)) 576#32)
    = if 64 * (n : ℕ) ≤ j ∧ (j : ℕ) < 64 * n + 576 then 1#1 else 0#1 := by
  decide +kernel

/-- The words of the band's columns. -/
theorem BAND_at (r : Fin 256) (j : Fin 768) : k0_pay2 (ix2 r j) = if 64 * ((r : ℕ) / 64) ≤ j ∧ (j : ℕ) < 64 * ((r : ℕ) / 64) + 576 then 1#1 else 0#1 := by
  pointwise [k0_pay2]
  rw [chunk_word]
  exact band_word ⟨r / 64, by omega⟩ j

/-- The bias over the band, as the kernel builds it. -/
theorem BM_at (v : Vec Ideal S1x1024 .f32) (r : Fin 256) (j : Fin 768) :
    k0_pay5 k0_pay2 v (ix3 0 r j) = if 64 * ((r : ℕ) / 64) ≤ j ∧ (j : ℕ) < 64 * ((r : ℕ) / 64) + 576 then v (ix2 0 ⟨j + 255 - r, by omega⟩) else ⊥ := by
  pointwise [k0_pay5, named_mask]
  rw [BAND_at]
  unfold Scalar.select
  split_ifs with h h1
  · exact congrArg (fun p => v (ix2 0 p)) (Fin.ext (by dsimp only; omega))
  all_goals first | rfl | contradiction | simp_all

theorem bias_0 (v : Vec Ideal S1x1024 .f32) : k0_pay4 (k0_pay3 v) = k0_pay5 k0_pay2 v := rfl
theorem bias_2 (v : Vec Ideal S1x1024 .f32) : k0_pay6 k0_pay2 v = k0_pay5 k0_pay2 v := rfl
theorem bias_3 (v : Vec Ideal S1x1024 .f32) : k0_pay7 k0_pay2 v = k0_pay5 k0_pay2 v := rfl
theorem bias_4 (v : Vec Ideal S1x1024 .f32) : k0_pay8 k0_pay2 v = k0_pay5 k0_pay2 v := rfl
theorem bias_5 (v : Vec Ideal S1x1024 .f32) : k0_pay9 k0_pay2 v = k0_pay5 k0_pay2 v := rfl
theorem bias_6 (v : Vec Ideal S1x1024 .f32) : k0_pay10 k0_pay2 v = k0_pay5 k0_pay2 v := rfl
theorem bias_7 (v : Vec Ideal S1x1024 .f32) : k0_pay17 k0_pay2 v = k0_pay5 k0_pay2 v := rfl

end Cert.KernelATIdeal.RefValue

end
-- ==== Proof.ATTile.lean ====
/- The banded attention's blocks: the biases held in scratch and the block a point stores, element by element. -/
module

public import proofs.«01_k».proof.Proof.ATBody
public import proofs.«01_k».proof.Proof.Softmax
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelATIdeal.RefValue

open Cert.KernelATIdeal Cert.KernelATIdeal.Gen

/-- The biases of the eight heads, as the first point of a batch leaves them in scratch. -/
def BM (x7 : Vec Ideal S8x1024 .f32) : Vec Ideal S8x256x768 .f32 :=
  View.canon
    [ ⟨Rect.unit ![7, 0, 0] ![1, 256, 768] inb_S8x256x768_S1x256x768_7_0_0,
        k0_pay17 k0_pay2 (View.ld x7 (Rect.unit ![7, 0] ![1, 1024] inb_S8x1024_S1x1024_7_0))⟩,
      ⟨Rect.unit ![6, 0, 0] ![1, 256, 768] inb_S8x256x768_S1x256x768_6_0_0,
        k0_pay10 k0_pay2 (View.ld x7 (Rect.unit ![6, 0] ![1, 1024] inb_S8x1024_S1x1024_6_0))⟩,
      ⟨Rect.unit ![5, 0, 0] ![1, 256, 768] inb_S8x256x768_S1x256x768_5_0_0,
        k0_pay9 k0_pay2 (View.ld x7 (Rect.unit ![5, 0] ![1, 1024] inb_S8x1024_S1x1024_5_0))⟩,
      ⟨Rect.unit ![4, 0, 0] ![1, 256, 768] inb_S8x256x768_S1x256x768_4_0_0,
        k0_pay8 k0_pay2 (View.ld x7 (Rect.unit ![4, 0] ![1, 1024] inb_S8x1024_S1x1024_4_0))⟩,
      ⟨Rect.unit ![3, 0, 0] ![1, 256, 768] inb_S8x256x768_S1x256x768_3_0_0,
        k0_pay7 k0_pay2 (View.ld x7 (Rect.unit ![3, 0] ![1, 1024] inb_S8x1024_S1x1024_3_0))⟩,
      ⟨Rect.unit ![2, 0, 0] ![1, 256, 768] inb_S8x256x768_S1x256x768_2_0_0,
        k0_pay6 k0_pay2 (View.ld x7 (Rect.unit ![2, 0] ![1, 1024] inb_S8x1024_S1x1024_2_0))⟩,
      ⟨Rect.unit ![1, 0, 0] ![1, 256, 768] inb_S8x256x768_S1x256x768_1_0_0,
        k0_pay5 k0_pay2 (View.ld x7 (Rect.unit ![1, 0] ![1, 1024] inb_S8x1024_S1x1024_1_0))⟩,
      ⟨Rect.unit ![0, 0, 0] ![1, 256, 768] inb_S8x256x768_S1x256x768_0_0_0,
        k0_pay4 (k0_pay3 (View.ld x7 (Rect.unit ![0, 0] ![1, 1024] inb_S8x1024_S1x1024_0_0)))⟩ ]

/-- One of them: the table's entry at the distance where the row's band has the column, else the mask. -/
theorem BM_head (x7 : Vec Ideal S8x1024 .f32) (h : Fin 8) (r : Fin 256) (j : Fin 768) :
    BM x7 (ix3 h r j) = if 64 * ((r : ℕ) / 64) ≤ j ∧ (j : ℕ) < 64 * ((r : ℕ) / 64) + 576 then x7 (ix2 h ⟨j + 255 - r, by omega⟩) else ⊥ := by
  unfold BM
  canon_tiles x hx
  all_goals (idx_vars x; obtain rfl : x0 = 0 := Subsingleton.elim _ _)
  all_goals first | rw [bias_0] | rw [bias_2] | rw [bias_3] | rw [bias_4] | rw [bias_5] | rw [bias_6] | rw [bias_7] | skip
  all_goals
    rw [BM_at]
    obtain rfl : r = x1 := Fin.ext ‹(r : ℕ) = x1›
    obtain rfl : j = x2 := Fin.ext ‹(j : ℕ) = x2›
    refine if_congr Iff.rfl ?_ rfl
    pointwise
    blk_ext

/-- The block of results a point stores, from its blocks of queries, keys and values, the biases and the point's word. -/
def OUT14 (x0 x1 x2 x3 x4 x5 x6 : Vec Ideal S256x1024 .bf16) (B : Vec Ideal S8x256x768 .f32) (w : BitVec 32) : Vec Ideal S256x1024 .bf16 :=
  View.canon
    [ ⟨Rect.unit ![0, 896] ![256, 128] inb_S256x1024_S256x128_0_896,
        k0_pay1 (k0_pay18 w) (View.ld x1 (Rect.unit ![0, 896] ![256, 128] inb_S256x1024_S256x128_0_896)) (View.ld x2 (Rect.unit ![0, 896] ![256, 128] inb_S256x1024_S256x128_0_896)) (View.ld x3 (Rect.unit ![0, 896] ![256, 128] inb_S256x1024_S256x128_0_896)) (View.ld x4 (Rect.unit ![0, 896] ![256, 128] inb_S256x1024_S256x128_0_896)) (View.ld x5 (Rect.unit ![0, 896] ![256, 128] inb_S256x1024_S256x128_0_896)) (View.ld x6 (Rect.unit ![0, 896] ![256, 128] inb_S256x1024_S256x128_0_896)) (View.ld x0 (Rect.unit ![0, 896] ![256, 128] inb_S256x1024_S256x128_0_896)) (View.ld B (Rect.unit ![7, 0, 0] ![1, 256, 768] inb_S8x256x768_S1x256x768_7_0_0))⟩,
      ⟨Rect.unit ![0, 768] ![256, 128] inb_S256x1024_S256x128_0_768,
        k0_pay35 (k0_pay18 w) (View.ld x1 (Rect.unit ![0, 768] ![256, 128] inb_S256x1024_S256x128_0_768)) (View.ld x2 (Rect.unit ![0, 768] ![256, 128] inb_S256x1024_S256x128_0_768)) (View.ld x3 (Rect.unit ![0, 768] ![256, 128] inb_S256x1024_S256x128_0_768)) (View.ld x4 (Rect.unit ![0, 768] ![256, 128] inb_S256x1024_S256x128_0_768)) (View.ld x5 (Rect.unit ![0, 768] ![256, 128] inb_S256x1024_S256x128_0_768)) (View.ld x6 (Rect.unit ![0, 768] ![256, 128] inb_S256x1024_S256x128_0_768)) (View.ld x0 (Rect.unit ![0, 768] ![256, 128] inb_S256x1024_S256x128_0_768)) (View.ld B (Rect.unit ![6, 0, 0] ![1, 256, 768] inb_S8x256x768_S1x256x768_6_0_0))⟩,
      ⟨Rect.unit ![0, 640] ![256, 128] inb_S256x1024_S256x128_0_640,
        k0_pay34 (k0_pay18 w) (View.ld x1 (Rect.unit ![0, 640] ![256, 128] inb_S256x1024_S256x128_0_640)) (View.ld x2 (Rect.unit ![0, 640] ![256, 128] inb_S256x1024_S256x128_0_640)) (View.ld x3 (Rect.unit ![0, 640] ![256, 128] inb_S256x1024_S256x128_0_640)) (View.ld x4 (Rect.unit ![0, 640] ![256, 128] inb_S256x1024_S256x128_0_640)) (View.ld x5 (Rect.unit ![0, 640] ![256, 128] inb_S256x1024_S256x128_0_640)) (View.ld x6 (Rect.unit ![0, 640] ![256, 128] inb_S256x1024_S256x128_0_640)) (View.ld x0 (Rect.unit ![0, 640] ![256, 128] inb_S256x1024_S256x128_0_640)) (View.ld B (Rect.unit ![5, 0, 0] ![1, 256, 768] inb_S8x256x768_S1x256x768_5_0_0))⟩,
      ⟨Rect.unit ![0, 512] ![256, 128] inb_S256x1024_S256x128_0_512,
        k0_pay33 (k0_pay18 w) (View.ld x1 (Rect.unit ![0, 512] ![256, 128] inb_S256x1024_S256x128_0_512)) (View.ld x2 (Rect.unit ![0, 512] ![256, 128] inb_S256x1024_S256x128_0_512)) (View.ld x3 (Rect.unit ![0, 512] ![256, 128] inb_S256x1024_S256x128_0_512)) (View.ld x4 (Rect.unit ![0, 512] ![256, 128] inb_S256x1024_S256x128_0_512)) (View.ld x5 (Rect.unit ![0, 512] ![256, 128] inb_S256x1024_S256x128_0_512)) (View.ld x6 (Rect.unit ![0, 512] ![256, 128] inb_S256x1024_S256x128_0_512)) (View.ld x0 (Rect.unit ![0, 512] ![256, 128] inb_S256x1024_S256x128_0_512)) (View.ld B (Rect.unit ![4, 0, 0] ![1, 256, 768] inb_S8x256x768_S1x256x768_4_0_0))⟩,
      ⟨Rect.unit ![0, 384] ![256, 128] inb_S256x1024_S256x128_0_384,
        k0_pay32 (k0_pay28 (View.ld x4 (Rect.unit ![0, 384] ![256, 128] inb_S256x1024_S256x128_0_384)) (View.ld x5 (Rect.unit ![0, 384] ![256, 128] inb_S256x1024_S256x128_0_384)) (View.ld x6 (Rect.unit ![0, 384] ![256, 128] inb_S256x1024_S256x128_0_384))) (k0_pay30 (k0_pay18 w) (View.ld x1 (Rect.unit ![0, 384] ![256, 128] inb_S256x1024_S256x128_0_384)) (View.ld x2 (Rect.unit ![0, 384] ![256, 128] inb_S256x1024_S256x128_0_384)) (View.ld x3 (Rect.unit ![0, 384] ![256, 128] inb_S256x1024_S256x128_0_384)) (View.ld x0 (Rect.unit ![0, 384] ![256, 128] inb_S256x1024_S256x128_0_384)) (View.ld B (Rect.unit ![3, 0, 0] ![1, 256, 768] inb_S8x256x768_S1x256x768_3_0_0))) (k0_pay31 (k0_pay18 w) (View.ld x1 (Rect.unit ![0, 384] ![256, 128] inb_S256x1024_S256x128_0_384)) (View.ld x2 (Rect.unit ![0, 384] ![256, 128] inb_S256x1024_S256x128_0_384)) (View.ld x3 (Rect.unit ![0, 384] ![256, 128] inb_S256x1024_S256x128_0_384)) (View.ld x0 (Rect.unit ![0, 384] ![256, 128] inb_S256x1024_S256x128_0_384)) (View.ld B (Rect.unit ![3, 0, 0] ![1, 256, 768] inb_S8x256x768_S1x256x768_3_0_0))) (constant S256x128 .f32 0x00000000#32)⟩,
      ⟨Rect.unit ![0, 256] ![256, 128] inb_S256x1024_S256x128_0_256,
        k0_pay27 (k0_pay25 (View.ld x4 (Rect.unit ![0, 256] ![256, 128] inb_S256x1024_S256x128_0_256)) (View.ld x5 (Rect.unit ![0, 256] ![256, 128] inb_S256x1024_S256x128_0_256)) (View.ld x6 (Rect.unit ![0, 256] ![256, 128] inb_S256x1024_S256x128_0_256))) (k0_pay26 (k0_pay18 w) (View.ld x1 (Rect.unit ![0, 256] ![256, 128] inb_S256x1024_S256x128_0_256)) (View.ld x2 (Rect.unit ![0, 256] ![256, 128] inb_S256x1024_S256x128_0_256)) (View.ld x3 (Rect.unit ![0, 256] ![256, 128] inb_S256x1024_S256x128_0_256)) (View.ld x0 (Rect.unit ![0, 256] ![256, 128] inb_S256x1024_S256x128_0_256)) (View.ld B (Rect.unit ![2, 0, 0] ![1, 256, 768] inb_S8x256x768_S1x256x768_2_0_0)))⟩,
      ⟨Rect.unit ![0, 128] ![256, 128] inb_S256x1024_S256x128_0_128,
        k0_pay24 (k0_pay22 (View.ld x4 (Rect.unit ![0, 128] ![256, 128] inb_S256x1024_S256x128_0_128)) (View.ld x5 (Rect.unit ![0, 128] ![256, 128] inb_S256x1024_S256x128_0_128)) (View.ld x6 (Rect.unit ![0, 128] ![256, 128] inb_S256x1024_S256x128_0_128))) (k0_pay23 (k0_pay18 w) (View.ld x1 (Rect.unit ![0, 128] ![256, 128] inb_S256x1024_S256x128_0_128)) (View.ld x2 (Rect.unit ![0, 128] ![256, 128] inb_S256x1024_S256x128_0_128)) (View.ld x3 (Rect.unit ![0, 128] ![256, 128] inb_S256x1024_S256x128_0_128)) (View.ld x0 (Rect.unit ![0, 128] ![256, 128] inb_S256x1024_S256x128_0_128)) (View.ld B (Rect.unit ![1, 0, 0] ![1, 256, 768] inb_S8x256x768_S1x256x768_1_0_0)))⟩,
      ⟨Rect.unit ![0, 0] ![256, 128] inb_S256x1024_S256x128_0_0,
        k0_pay21 (k0_pay18 w) (k0_pay19 (View.ld x4 (Rect.unit ![0, 0] ![256, 128] inb_S256x1024_S256x128_0_0)) (View.ld x5 (Rect.unit ![0, 0] ![256, 128] inb_S256x1024_S256x128_0_0)) (View.ld x6 (Rect.unit ![0, 0] ![256, 128] inb_S256x1024_S256x128_0_0))) (k0_pay20 (View.ld x1 (Rect.unit ![0, 0] ![256, 128] inb_S256x1024_S256x128_0_0)) (View.ld x2 (Rect.unit ![0, 0] ![256, 128] inb_S256x1024_S256x128_0_0)) (View.ld x3 (Rect.unit ![0, 0] ![256, 128] inb_S256x1024_S256x128_0_0)) (View.ld x0 (Rect.unit ![0, 0] ![256, 128] inb_S256x1024_S256x128_0_0))) (View.ld B (Rect.unit ![0, 0, 0] ![1, 256, 768] inb_S8x256x768_S1x256x768_0_0_0))⟩ ]

/-- One element of the kernel's result: the divided weighted sum over the columns a point sees. -/
def cellK (q : Fin 128 → EReal) (K : Fin 768 → Fin 128 → EReal) (b m v : Fin 768 → EReal) : EReal :=
  Ideal.div
    (∑ c, Ideal.exp ((∑ e, q e * K c e) * (((Real.sqrt 128)⁻¹ : ℝ) : EReal) + b c + m c
      - Finset.univ.fold max ⊥ fun c => (∑ e, q e * K c e) * (((Real.sqrt 128)⁻¹ : ℝ) : EReal) + b c + m c) * v c)
    (∑ c, Ideal.exp ((∑ e, q e * K c e) * (((Real.sqrt 128)⁻¹ : ℝ) : EReal) + b c + m c
      - Finset.univ.fold max ⊥ fun c => (∑ e, q e * K c e) * (((Real.sqrt 128)⁻¹ : ℝ) : EReal) + b c + m c))

/-- Row `c` of three blocks of rows, one under the other. -/
def rows {n : ℕ} (a b c : Vec Ideal ⟨2, ![256, n]⟩ .bf16) (j : Fin 768) (e : Fin n) : EReal :=
  if h : (j : ℕ) < 256 then a (ix2 ⟨j, h⟩ e) else if h' : (j : ℕ) < 512 then b (ix2 ⟨j - 256, by omega⟩ e) else c (ix2 ⟨j - 512, by omega⟩ e)

/-- A head's result, element by element. -/
theorem ATT_at (m : FVec Ideal S1x768 .f32) (k0 k1 k2 v0 v1 v2 q : Vec Ideal S256x128 .bf16) (B : Vec Ideal S1x256x768 .f32)
    (r : Fin 256) (l : Fin 128) :
    ATT m k0 k1 k2 v0 v1 v2 q B (ix2 r l)
    = cellK (fun e => q (ix2 r e)) (rows k0 k1 k2) (fun c => B (ix3 0 r c)) (fun c => m (ix2 0 c)) (fun c => rows v0 v1 v2 c l) := by
  have hs : ∀ c, SCK m (k0_pay19 k0 k1 k2) q B (ix2 r c)
      = (∑ e, q (ix2 r e) * rows k0 k1 k2 c e) * (((Real.sqrt 128)⁻¹ : ℝ) : EReal) + B (ix3 0 r c) + m (ix2 0 c) := fun c => by
    rw [SCK_at]
    simp only [CAT_at]
    rfl
  have hv : ∀ c, k0_pay19 v0 v1 v2 (ix2 c l) = rows v0 v1 v2 c l := fun c => CAT_at v0 v1 v2 c l
  unfold ATT cellK
  rw [OUTK_at]
  simp only [EXK_at, MXK_at, hs, hv]

/-- A head's columns of a block. -/
theorem ld_at (x : Vec Ideal S256x1024 .bf16) (o : ℕ) (ho : o + 128 ≤ 1024) (hi) (r : Fin 256) (e : Fin 128) :
    View.ld x (Rect.unit (s := S256x1024) ![0, o] ![256, 128] hi) (ix2 r e) = x (ix2 r ⟨o + e, by omega⟩) := by
  pointwise
  blk_ext

/-- A head's columns of three blocks. -/
theorem rows_ld (x y z : Vec Ideal S256x1024 .bf16) (o : ℕ) (ho : o + 128 ≤ 1024) (hi) (c : Fin 768) (e : Fin 128) :
    rows (n := 128) (View.ld x (Rect.unit (s := S256x1024) ![0, o] ![256, 128] hi)) (View.ld y (Rect.unit (s := S256x1024) ![0, o] ![256, 128] hi))
      (View.ld z (Rect.unit (s := S256x1024) ![0, o] ![256, 128] hi)) c e = rows x y z c ⟨o + e, by omega⟩ := by
  unfold rows
  exact dite_congr rfl (fun _ => ld_at x o ho hi _ _) fun _ => dite_congr rfl (fun _ => ld_at y o ho hi _ _) fun _ => ld_at z o ho hi _ _

/-- A head's biases. -/
theorem bias_ld (B : Vec Ideal S8x256x768 .f32) (h : ℕ) (hh : h < 8) (hi) (r : Fin 256) (c : Fin 768) :
    View.ld B (Rect.unit (s := S8x256x768) ![h, 0, 0] ![1, 256, 768] hi) (ix3 0 r c) = B (ix3 ⟨h, hh⟩ r c) := by
  pointwise
  blk_ext

/-- One head of the block a point stores. -/
theorem head_at (x0 x1 x2 x3 x4 x5 x6 : Vec Ideal S256x1024 .bf16) (B : Vec Ideal S8x256x768 .f32) (m : FVec Ideal S1x768 .f32)
    (o h : ℕ) (ho : o = 128 * h) (hh : h < 8) (hi hb) (r : Fin 256) (l : Fin 1024) (y : Fin 128) (hl : (l : ℕ) = o + y) :
    ATT m (View.ld x1 (Rect.unit (s := S256x1024) ![0, o] ![256, 128] hi)) (View.ld x2 (Rect.unit (s := S256x1024) ![0, o] ![256, 128] hi))
      (View.ld x3 (Rect.unit (s := S256x1024) ![0, o] ![256, 128] hi)) (View.ld x4 (Rect.unit (s := S256x1024) ![0, o] ![256, 128] hi))
      (View.ld x5 (Rect.unit (s := S256x1024) ![0, o] ![256, 128] hi)) (View.ld x6 (Rect.unit (s := S256x1024) ![0, o] ![256, 128] hi))
      (View.ld x0 (Rect.unit (s := S256x1024) ![0, o] ![256, 128] hi)) (View.ld B (Rect.unit (s := S8x256x768) ![h, 0, 0] ![1, 256, 768] hb)) (ix2 r y)
    = cellK (fun e => x0 (ix2 r ⟨l / 128 * 128 + e, by omega⟩)) (fun c e => rows x1 x2 x3 c ⟨l / 128 * 128 + e, by omega⟩)
        (fun c => B (ix3 ⟨l / 128, by omega⟩ r c)) (fun c => m (ix2 0 c)) (fun c => rows x4 x5 x6 c l) := by
  rw [ATT_at]
  have h1 : ∀ e : Fin 128, (⟨o + e, by omega⟩ : Fin 1024) = ⟨l / 128 * 128 + e, by omega⟩ := fun e => Fin.ext (by dsimp only; omega)
  refine congr (congr (congr (congr (congrArg cellK (funext fun e => ?_)) (funext fun c => funext fun e => ?_)) (funext fun c => ?_)) rfl) (funext fun c => ?_)
  · exact (ld_at x0 o (by omega) hi r e).trans (congrArg (fun p => x0 (ix2 r p)) (h1 e))
  · exact (rows_ld x1 x2 x3 o (by omega) hi c e).trans (congrArg (fun p => rows x1 x2 x3 c p) (h1 e))
  · exact (bias_ld B h hh hb r c).trans (congrArg (fun p => B (ix3 p r c)) (Fin.ext (by dsimp only; omega)))
  · exact (rows_ld x4 x5 x6 o (by omega) hi c y).trans (congrArg (fun p => rows x4 x5 x6 c p) (Fin.ext (by dsimp only; omega)))

/-- The block a point stores, element by element. -/
theorem block (x0 x1 x2 x3 x4 x5 x6 : Vec Ideal S256x1024 .bf16) (B : Vec Ideal S8x256x768 .f32) (w : BitVec 32) (r : Fin 256) (l : Fin 1024) :
    OUT14 x0 x1 x2 x3 x4 x5 x6 B w (ix2 r l)
    = cellK (fun e => x0 (ix2 r ⟨l / 128 * 128 + e, by omega⟩)) (fun c e => rows x1 x2 x3 c ⟨l / 128 * 128 + e, by omega⟩)
        (fun c => B (ix3 ⟨l / 128, by omega⟩ r c)) (fun c => k0_pay18 (F := Ideal) w (ix2 0 c)) (fun c => rows x4 x5 x6 c l) := by
  unfold OUT14
  canon_tiles x h
  all_goals idx_vars x
  all_goals first | rw [head_0] | rw [head_1] | rw [head_2] | rw [head_3] | rw [head_4] | rw [head_5] | rw [head_6] | rw [head_7]
  all_goals
    obtain rfl : r = x0 := Fin.ext ‹(r : ℕ) = x0›
    refine head_at _ _ _ _ _ _ _ _ _ _ _ ?_ ?_ _ _ _ _ _ ?_ <;> omega

end Cert.KernelATIdeal.RefValue

end
-- ==== Proof.ATHeld.lean ====
/- The banded attention's outputs at a point: the biases held in scratch, the results and the weights' casts. -/
module

public import proofs.«01_k».proof.Proof.Gen.KernelATIdeal.Frame
public import proofs.«01_k».proof.Proof.ATTile
public import Idealize.ShloMosaic.Lib.Pipeline.ValueKit.Held

@[expose] public section

set_option maxRecDepth 16384

noncomputable section

open Idealize.ShloMosaic Idealize.ShloMosaic.TcCoe Idealize.SL.Sem
open Idealize.ShloMosaic.Pipeline (Dat)

namespace Cert.KernelATIdeal.RefValue

open Cert.KernelATIdeal Cert.KernelATIdeal.Gen

variable (m : (ℓ : Loc nD τ sig) → Buf (Elt Ideal) ℓ)

/-- The biases held in scratch after a point: written at the first point of a batch, kept at the others. -/
theorem held (c : Dev nD) (t : Fin cfg0.N) :
    (outsAt0 m c t.val t.isLt).2.2.2.2.2.2.2 = BM (iblk m c 7 ⟨32 * (t.val / 32), Pipeline.run_start_lt t⟩) :=
  Pipeline.eq_of_write_hold (fun n h => (outsAt0 m c n h).2.2.2.2.2.2.2) 32 (fun t => BM (iblk m c 7 t))
    (fun t h => by rw [outsAt0_A m c t h]; frame_out) (fun t h => by rw [outsAt0_B m c t h]; rfl) t

/-- The scratch read whole holds what it was left with. -/
theorem scratch_read (v : Vec Ideal S8x256x768 .f32) :
    View.read (Elt Ideal) (View.whole cc0_scratch0) ((Memref.isWhole_whole cc0_scratch0).unread v) = v := by
  exact Memref.IsWhole.read_unread _ _

/-- The biases held before a point that keeps them are those held after it. -/
theorem held_before (c : Dev nD) (t : Fin cfg0.N) (h : ¬ t.val % 32 = 0) :
    (outsAt0 m c (t.val - 1) (lt_of_le_of_lt (Nat.sub_le _ _) t.isLt)).2.2.2.2.2.2.2
    = BM (iblk m c 7 ⟨32 * (t.val / 32), Pipeline.run_start_lt t⟩) := by
  have e := held m c ⟨t.val - 1, lt_of_le_of_lt (Nat.sub_le _ _) t.isLt⟩
  have i : (⟨32 * ((t.val - 1) / 32), Pipeline.run_start_lt ⟨t.val - 1, lt_of_le_of_lt (Nat.sub_le _ _) t.isLt⟩⟩ : Fin cfg0.N)
      = ⟨32 * (t.val / 32), Pipeline.run_start_lt t⟩ := Fin.ext (by dsimp only; omega)
  exact e.trans (congrArg (fun s => BM (iblk m c 7 s)) i)

/-- What a point stores. -/
theorem stored14 (c : Dev nD) (t : Fin cfg0.N) :
    (outsAt0 m c t.val t.isLt).1
    = OUT14 (iblk m c 0 t) (iblk m c 1 t) (iblk m c 2 t) (iblk m c 3 t) (iblk m c 4 t) (iblk m c 5 t) (iblk m c 6 t)
        (BM (iblk m c 7 ⟨32 * (t.val / 32), Pipeline.run_start_lt t⟩)) (BitVec.ofNat 32 ↑(grid0.coords t 1)) := by
  by_cases h : t.val % 32 = 0
  · have ht : (⟨32 * (t.val / 32), Pipeline.run_start_lt t⟩ : Fin cfg0.N) = t := Fin.ext (by dsimp only; omega)
    rw [ht, outsAt0_A m c t h]; frame_out
    simp only [View.readCov_eq_canon']
  · rw [← held_before m c t h, outsAt0_B m c t h]
    generalize (outsAt0 m c (t.val - 1) (lt_of_le_of_lt (Nat.sub_le _ _) t.isLt)).2.2.2.2.2.2.2 = B
    frame_out
    simp only [scratch_read]

/-- A cast of weights a point stores. -/
theorem stored15 (c : Dev nD) (t : Fin cfg0.N) : (outsAt0 m c t.val t.isLt).2.1 = k0_pay11 (iblk m c 8 t) := by
  by_cases h : t.val % 32 = 0
  · rw [outsAt0_A m c t h]; unfold out0_A_15; frame_out
  · rw [outsAt0_B m c t h]; frame_out

/-- A cast of weights a point stores. -/
theorem stored16 (c : Dev nD) (t : Fin cfg0.N) : (outsAt0 m c t.val t.isLt).2.2.1 = k0_pay12 (iblk m c 9 t) := by
  by_cases h : t.val % 32 = 0
  · rw [outsAt0_A m c t h]; unfold out0_A_16; frame_out
  · rw [outsAt0_B m c t h]; frame_out

/-- A cast of weights a point stores. -/
theorem stored17 (c : Dev nD) (t : Fin cfg0.N) : (outsAt0 m c t.val t.isLt).2.2.2.1 = k0_pay13 (iblk m c 10 t) := by
  by_cases h : t.val % 32 = 0
  · rw [outsAt0_A m c t h]; unfold out0_A_17; frame_out
  · rw [outsAt0_B m c t h]; frame_out

/-- A cast of weights a point stores. -/
theorem stored18 (c : Dev nD) (t : Fin cfg0.N) : (outsAt0 m c t.val t.isLt).2.2.2.2.1 = k0_pay14 (iblk m c 11 t) := by
  by_cases h : t.val % 32 = 0
  · rw [outsAt0_A m c t h]; unfold out0_A_18; frame_out
  · rw [outsAt0_B m c t h]; frame_out

/-- A cast of weights a point stores. -/
theorem stored19 (c : Dev nD) (t : Fin cfg0.N) : (outsAt0 m c t.val t.isLt).2.2.2.2.2.1 = k0_pay15 (iblk m c 12 t) := by
  by_cases h : t.val % 32 = 0
  · rw [outsAt0_A m c t h]; unfold out0_A_19; frame_out
  · rw [outsAt0_B m c t h]; frame_out

/-- A cast of weights a point stores. -/
theorem stored20 (c : Dev nD) (t : Fin cfg0.N) : (outsAt0 m c t.val t.isLt).2.2.2.2.2.2.1 = k0_pay16 (iblk m c 13 t) := by
  by_cases h : t.val % 32 = 0
  · rw [outsAt0_A m c t h]; unfold out0_A_20; frame_out
  · rw [outsAt0_B m c t h]; frame_out

end Cert.KernelATIdeal.RefValue

end
-- ==== Proof.ATRef.lean ====
/- The band attention's reference, element by element. -/
module

public import proofs.«01_k».proof.Proof.Gen.ReferenceATIdeal.Run
public import Idealize.ShloMosaic.Lib.Pointwise
public import proofs.«01_k».proof.Proof.Softmax

@[expose] public section

set_option maxRecDepth 16384

noncomputable section

open Idealize.ShloMosaic Idealize.ShloMosaic.TcCoe Idealize.SL.Sem

namespace Cert.ReferenceATIdeal.RefValue

open Cert.ReferenceATIdeal Cert.ReferenceATIdeal.Gen

/-- The position each chunk's band slot stands for; it is below zero before the sequence. -/
def BAND : IVec S64x576 32 :=
  subi (addi (broadcastInDim S64x576 ![0, 1] bcast_S64x1_S64x576_0_1 (broadcastInDim S64x1 ![0] bcast_S64_S64x1_0 (muli (broadcastInDim S64 ![] bcast_S_S64 (constantI S_ 32 64#32)) (iotaInDim S64 32 0)))) (broadcastInDim S64x576 ![0, 1] bcast_S1x576_S64x576_0_1 (broadcastInDim S1x576 ![1] bcast_S576_S1x576_1 (iotaInDim S576 32 0)))) (broadcastInDim S64x576 ![] bcast_S_S64x576 (constantI S_ 32 512#32))

/-- The row of the padded keys it is found at. -/
def GIX : IVec S64x576x1 32 :=
  broadcastInDim S64x576x1 ![0, 1] bcast_S64x576_S64x576x1_0_1 (select (cmpi .slt (addi BAND (broadcastInDim S64x576 ![] bcast_S_S64x576 (constantI S_ 32 512#32))) (broadcastInDim S64x576 ![] bcast_S_S64x576 (constantI S_ 32 0#32))) (addi (addi BAND (broadcastInDim S64x576 ![] bcast_S_S64x576 (constantI S_ 32 512#32))) (broadcastInDim S64x576 ![] bcast_S_S64x576 (constantI S_ 32 4608#32))) (addi BAND (broadcastInDim S64x576 ![] bcast_S_S64x576 (constantI S_ 32 512#32))))

/-- How far a query of a chunk is from a band slot, held between −128 and 128. -/
def CLIP : IVec S64x576 32 :=
  minsi (broadcastInDim S64x576 ![] bcast_S_S64x576 (id (constantI S_ 32 128#32))) (maxsi (broadcastInDim S64x576 ![] bcast_S_S64x576 (id (constantI S_ 32 4294967168#32))) (subi (broadcastInDim S64x576 ![0, 1] bcast_S64x1_S64x576_0_1 (broadcastInDim S64x1 ![0] bcast_S64_S64x1_0 (addi (broadcastInDim S64 ![] bcast_S_S64 (constantI S_ 32 512#32)) (iotaInDim S64 32 0)))) (broadcastInDim S64x576 ![0, 1] bcast_S1x576_S64x576_0_1 (broadcastInDim S1x576 ![1] bcast_S576_S1x576_1 (iotaInDim S576 32 0)))))

/-- The column of the bias table for it. -/
def BIX : IVec S64x576x1 32 :=
  broadcastInDim S64x576x1 ![0, 1] bcast_S64x576_S64x576x1_0_1 (select (cmpi .slt (addi CLIP (broadcastInDim S64x576 ![] bcast_S_S64x576 (constantI S_ 32 128#32))) (broadcastInDim S64x576 ![] bcast_S_S64x576 (constantI S_ 32 0#32))) (addi (addi CLIP (broadcastInDim S64x576 ![] bcast_S_S64x576 (constantI S_ 32 128#32))) (broadcastInDim S64x576 ![] bcast_S_S64x576 (constantI S_ 32 257#32))) (addi CLIP (broadcastInDim S64x576 ![] bcast_S_S64x576 (constantI S_ 32 128#32))))

/-- The keys with 512 rows of zeroes before them. -/
def PADK (X : FVec Ideal S8192x3072 .bf16) : FVec Ideal S2x4608x8x128 .f32 :=
  pad S2x4608x8x128 ![0, 512, 0, 0] ![0, 0, 0, 0] ![0, 0, 0, 0] (shapeCast _ (extractStridedSlice S2x4096x1024 ![0, 0, 1024] (shapeCast _ (extf .f32 X bitsLt_bf16_f32) shapeCasts_S8192x3072_S2x4096x3072) slices_S2x4096x3072_S2x4096x1024_0_0_1024) shapeCasts_S2x4096x1024_S2x4096x8x128) (sitofp .f32 (constantI S_ 32 0#32)) pads_S2x4096x8x128_S2x4608x8x128_000_51200_000_000 h_S_

/-- The values with 512 rows of zeroes before them. -/
def PADV (X : FVec Ideal S8192x3072 .bf16) : FVec Ideal S2x4608x8x128 .f32 :=
  pad S2x4608x8x128 ![0, 512, 0, 0] ![0, 0, 0, 0] ![0, 0, 0, 0] (shapeCast _ (extractStridedSlice S2x4096x1024 ![0, 0, 2048] (shapeCast _ (extf .f32 X bitsLt_bf16_f32) shapeCasts_S8192x3072_S2x4096x3072) slices_S2x4096x3072_S2x4096x1024_0_0_2048) shapeCasts_S2x4096x1024_S2x4096x8x128) (sitofp .f32 (constantI S_ 32 0#32)) pads_S2x4096x8x128_S2x4608x8x128_000_51200_000_000 h_S_

/-- Each chunk's band of rows. -/
def BANDS (A : FVec Ideal S2x4608x8x128 .f32) (I : IVec S64x576x1 32) : FVec Ideal S2x64x576x8x128 .f32 :=
  Host.gather gather_S2x4608x8x128_S64x576x1_S2x64x576x8x128_034_1_n_n_1_2_218128 A I

/-- The queries by chunks and heads. -/
def QS (X : FVec Ideal S8192x3072 .bf16) : FVec Ideal S2x64x64x8x128 .f32 :=
  shapeCast _ (extractStridedSlice S2x4096x1024 ![0, 0, 0] (shapeCast _ (extf .f32 X bitsLt_bf16_f32) shapeCasts_S8192x3072_S2x4096x3072) slices_S2x4096x3072_S2x4096x1024_0_0_0) shapeCasts_S2x4096x1024_S2x64x64x8x128

/-- The products of queries and keys. -/
def DOT (Q : FVec Ideal S2x64x64x8x128 .f32) (K : FVec Ideal S2x64x576x8x128 .f32) : FVec Ideal S2x8x64x64x576 .f32 :=
  Host.dotGeneral dot_S2x64x64x8x128_S2x64x576x8x128_S2x8x64x64x576_4_4_2_2_031_031 none Q K

/-- The bias of each head by query and band slot. -/
def BIAS (R : FVec Ideal S1x8x257 .f32) (I : IVec S64x576x1 32) : FVec Ideal S8x64x576 .f32 :=
  Host.gather gather_S8x257_S64x576x1_S8x64x576_0_1_n_n_1_2_81 (shapeCast _ R shapeCasts_S1x8x257_S8x257) I

/-- The scores: products over the root of the width, plus the bias, −∞ before the sequence. -/
def MASK (A : FVec Ideal S2x8x64x64x576 .f32) (B : FVec Ideal S8x64x576 .f32) : FVec Ideal S2x8x64x64x576 .f32 :=
  select (broadcastInDim S2x8x64x64x576 ![0, 1, 2, 3, 4] bcast_S1x1x64x1x576_S2x8x64x64x576_0_1_2_3_4 (broadcastInDim S1x1x64x1x576 ![2, 4] bcast_S64x576_S1x1x64x1x576_2_4 (cmpi .sge BAND (broadcastInDim S64x576 ![] bcast_S_S64x576 (constantI S_ 32 0#32))))) (addf (Host.divf A (broadcastInDim S2x8x64x64x576 ![] bcast_S_S2x8x64x64x576 (Host.sqrt (constant S_ .f32 0x43000000#32)))) (broadcastInDim S2x8x64x64x576 ![0, 1, 2, 3, 4] bcast_S1x8x1x64x576_S2x8x64x64x576_0_1_2_3_4 (broadcastInDim S1x8x1x64x576 ![1, 3, 4] bcast_S8x64x576_S1x8x1x64x576_1_3_4 B))) (broadcastInDim S2x8x64x64x576 ![] bcast_S_S2x8x64x64x576 (id (constant S_ .f32 0xFF800000#32)))

/-- … of the arguments. -/
def SC (X : FVec Ideal S8192x3072 .bf16) (R : FVec Ideal S1x8x257 .f32) : FVec Ideal S2x8x64x64x576 .f32 :=
  MASK (DOT (QS X) (BANDS (PADK X) GIX)) (BIAS R BIX)

/-- The greatest of each row. -/
def MX (S : FVec Ideal S2x8x64x64x576 .f32) : FVec Ideal S2x8x64x64 .f32 :=
  Host.reduce FloatOps.maximumf S (constant S_ .f32 0xFF800000#32) reducesTo_S2x8x64x64x576_S2x8x64x64_d4 h_S_

/-- The exponentials under it. -/
def EX (S : FVec Ideal S2x8x64x64x576 .f32) (M : FVec Ideal S2x8x64x64 .f32) : FVec Ideal S2x8x64x64x576 .f32 :=
  Host.exp (subf S (broadcastInDim S2x8x64x64x576 ![0, 1, 2, 3, 4] bcast_S2x8x64x64x1_S2x8x64x64x576_0_1_2_3_4 (broadcastInDim S2x8x64x64x1 ![0, 1, 2, 3] bcast_S2x8x64x64_S2x8x64x64x1_0_1_2_3 (maximumf (broadcastInDim S2x8x64x64 ![] bcast_S_S2x8x64x64 (constant S_ .f32 0xFF800000#32)) M))))

/-- … of the scores themselves. -/
def PE (S : FVec Ideal S2x8x64x64x576 .f32) : FVec Ideal S2x8x64x64x576 .f32 :=
  EX S (MX S)

/-- The exponentials over their total. -/
def NORM (P : FVec Ideal S2x8x64x64x576 .f32) : FVec Ideal S2x8x64x64x576 .f32 :=
  Host.divf P (broadcastInDim S2x8x64x64x576 ![0, 1, 2, 3, 4] bcast_S2x8x64x64x1_S2x8x64x64x576_0_1_2_3_4 (broadcastInDim S2x8x64x64x1 ![0, 1, 2, 3] bcast_S2x8x64x64_S2x8x64x64x1_0_1_2_3 (Host.reduceAdd P (constant S_ .f32 0x00000000#32) reducesTo_S2x8x64x64x576_S2x8x64x64_d4 h_S_)))

/-- The values weighted. -/
def OUT (V : FVec Ideal S2x64x576x8x128 .f32) (P : FVec Ideal S2x8x64x64x576 .f32) : FVec Ideal S8192x1024 .bf16 :=
  truncf .bf16 (shapeCast _ (shapeCast _ (transpose S2x64x64x8x128 [0, 1, 4, 2, 3] (Host.dotGeneral dot_S2x64x576x8x128_S2x8x64x64x576_S2x64x8x128x64_2_4_4_3_013_021 none V P) transposes_S2x64x8x128x64_S2x64x64x8x128_0_1_4_2_3) shapeCasts_S2x64x64x8x128_S2x4096x1024) shapeCasts_S2x4096x1024_S8192x1024) bitsLt_bf16_f32

/-- The reference: the attention of each chunk to its band. -/
abbrev REF (X : FVec Ideal S8192x3072 .bf16) (R : FVec Ideal S1x8x257 .f32) : FVec Ideal S8192x1024 .bf16 :=
  OUT (BANDS (PADV X) GIX) (NORM (PE (SC X R)))

/-- The run's term is this reference. -/
theorem res_eq (m : (ℓ : Loc nD τ sig) → Buf (Elt Ideal) ℓ) (c : Dev nD) :
    Cert.ReferenceATIdeal.Value.res_main_v84 m c = REF (m ((c.tc : Thread nD τ).loc main_arg0)) (m ((c.tc : Thread nD τ).loc main_arg1)) := rfl

/-- The word of −∞. -/
theorem ofBits_ninf : Ideal.ofBits .f32 0xFF800000#32 = ⊥ := by simp [Ideal.ofBits, Ideal.ieee]

/-- The word of 128. -/
theorem ofBits_128 : Ideal.ofBits .f32 0x43000000#32 = ((128 : ℝ) : EReal) := by
  simp [Ideal.ofBits, Ideal.ieee, -EReal.coe_mul]; norm_num

/-- The gather of the bands, element by element. -/
theorem BANDS_at (A : FVec Ideal S2x4608x8x128 .f32) (I : IVec S64x576x1 32) (b : Fin 2) (n : Fin 64) (k : Fin 576) (h : Fin 8) (e : Fin 128) :
    BANDS A I (ix5 b n k h e) = A (ix4 b ⟨min (I (ix3 n k 0)).toInt.toNat 4607, by omega⟩ h e) := by
  unfold BANDS Host.gather
  congr 1
  funext a
  refine Fin.ext ?_
  show gather_S2x4608x8x128_S64x576x1_S2x64x576x8x128_034_1_n_n_1_2_218128.start _ _ a
    + gather_S2x4608x8x128_S64x576x1_S2x64x576x8x128_034_1_n_n_1_2_218128.batchCoord _ a
    + gather_S2x4608x8x128_S64x576x1_S2x64x576x8x128_034_1_n_n_1_2_218128.offCoord _ a = _
  rw [GatherDims.batchCoord_eq_zero _ _ _ List.not_mem_nil]
  have h01 : a = 0 ∨ a = 1 ∨ a = 2 ∨ a = 3 := by
    match a with
    | ⟨0, _⟩ => exact Or.inl rfl
    | ⟨1, _⟩ => exact Or.inr (Or.inl rfl)
    | ⟨2, _⟩ => exact Or.inr (Or.inr (Or.inl rfl))
    | ⟨3, _⟩ => exact Or.inr (Or.inr (Or.inr rfl))
  rcases h01 with rfl | rfl | rfl | rfl
  · unfold GatherDims.start GatherDims.offCoord
    rw [dif_neg (by decide), dif_pos (by decide)]
    exact Nat.zero_add _
  · rw [GatherDims.offCoord_eq_zero _ _ _ (fun h => ((GatherDims.mem_sKept _ _).mp h).1 (List.mem_singleton.mpr rfl))]
    unfold GatherDims.start
    rw [dif_pos (by decide)]
    have hsi : gather_S2x4608x8x128_S64x576x1_S2x64x576x8x128_034_1_n_n_1_2_218128.siIdx (ix5 b n k h e)
        ⟨List.idxOf (1 : Fin 4) gather_S2x4608x8x128_S64x576x1_S2x64x576x8x128_034_1_n_n_1_2_218128.startIndexMap,
        List.idxOf_lt_length_iff.2 (by decide)⟩ = ix3 n k 0 := by
      funext b; refine Fin.ext ?_
      match b with
      | ⟨0, _⟩ => rfl
      | ⟨1, _⟩ => rfl
      | ⟨2, _⟩ => rfl
    rw [hsi]
    rfl
  · unfold GatherDims.start GatherDims.offCoord
    rw [dif_neg (by decide), dif_pos (by decide)]
    exact Nat.zero_add _
  · unfold GatherDims.start GatherDims.offCoord
    rw [dif_neg (by decide), dif_pos (by decide)]
    exact Nat.zero_add _

/-- The gather of the bias, element by element. -/
theorem BIAS_at (R : FVec Ideal S1x8x257 .f32) (I : IVec S64x576x1 32) (h : Fin 8) (q : Fin 64) (k : Fin 576) :
    BIAS R I (ix3 h q k) = R (ix3 0 h ⟨min (I (ix3 q k 0)).toInt.toNat 256, by omega⟩) := by
  have e : BIAS R I (ix3 h q k) = (shapeCast S8x257 R shapeCasts_S1x8x257_S8x257) (ix2 h ⟨min (I (ix3 q k 0)).toInt.toNat 256, by omega⟩) := by
    unfold BIAS Host.gather
    congr 1
    funext a
    refine Fin.ext ?_
    show gather_S8x257_S64x576x1_S8x64x576_0_1_n_n_1_2_81.start _ _ a
      + gather_S8x257_S64x576x1_S8x64x576_0_1_n_n_1_2_81.batchCoord _ a
      + gather_S8x257_S64x576x1_S8x64x576_0_1_n_n_1_2_81.offCoord _ a = _
    rw [GatherDims.batchCoord_eq_zero _ _ _ List.not_mem_nil]
    have h01 : a = 0 ∨ a = 1 := by
      match a with
      | ⟨0, _⟩ => exact Or.inl rfl
      | ⟨1, _⟩ => exact Or.inr rfl
    rcases h01 with rfl | rfl
    · unfold GatherDims.start GatherDims.offCoord
      rw [dif_neg (by decide), dif_pos (by decide)]
      exact Nat.zero_add _
    · rw [GatherDims.offCoord_eq_zero _ _ _ (fun h => ((GatherDims.mem_sKept _ _).mp h).1 (List.mem_singleton.mpr rfl))]
      unfold GatherDims.start
      rw [dif_pos (by decide)]
      have hsi : gather_S8x257_S64x576x1_S8x64x576_0_1_n_n_1_2_81.siIdx (ix3 h q k)
          ⟨List.idxOf (1 : Fin 2) gather_S8x257_S64x576x1_S8x64x576_0_1_n_n_1_2_81.startIndexMap,
          List.idxOf_lt_length_iff.2 (by decide)⟩ = ix3 q k 0 := by
        funext b; refine Fin.ext ?_
        match b with
        | ⟨0, _⟩ => rfl
        | ⟨1, _⟩ => rfl
        | ⟨2, _⟩ => rfl
      rw [hsi]
      rfl
  rw [e]
  pointwise

/-- A row of the padded keys, as a word. -/
theorem row_word (n k : ℕ) : IntOp.addi (IntOp.muli (64#32) (BitVec.ofNat 32 n)) (BitVec.ofNat 32 k) = BitVec.ofNat 32 (64 * n + k) := by
  show 64#32 * BitVec.ofNat 32 n + BitVec.ofNat 32 k = _
  rw [BitVec.ofNat_add, BitVec.ofNat_mul]

/-- A distance, as a word. -/
theorem dist_word (q k : ℕ) (h : k ≤ 640 + q) (hq : q < 64) : IntOp.subi (IntOp.addi (512#32) (BitVec.ofNat 32 q)) (BitVec.ofNat 32 k)
    = IntOp.subi (BitVec.ofNat 32 (640 + q - k)) (128#32) := by
  show 512#32 + BitVec.ofNat 32 q - BitVec.ofNat 32 k = BitVec.ofNat 32 (640 + q - k) - 128#32
  refine BitVec.eq_of_toNat_eq ?_
  simp only [BitVec.toNat_add, BitVec.toNat_sub, BitVec.toNat_ofNat]
  omega

/-- The row read from its word. -/
theorem row_of_word : ∀ N : Fin 4608, (Scalar.select (IntOp.cmpi .slt (IntOp.addi (IntOp.subi (BitVec.ofNat 32 N) 512#32) 512#32) 0#32)
    (IntOp.addi (IntOp.addi (IntOp.subi (BitVec.ofNat 32 N) 512#32) 512#32) 4608#32)
    (IntOp.addi (IntOp.subi (BitVec.ofNat 32 N) 512#32) 512#32)).toInt.toNat = N := by
  decide +kernel

/-- The word of being in the sequence. -/
theorem sign_of_word : ∀ N : Fin 4608, (IntOp.cmpi .sge (IntOp.subi (BitVec.ofNat 32 N) 512#32) 0#32) = if 512 ≤ (N : ℕ) then 1#1 else 0#1 := by
  decide +kernel

/-- The column read from its word. -/
theorem col_of_word : ∀ N : Fin 1024, 64 ≤ (N : ℕ) → (Scalar.select (IntOp.cmpi .slt (IntOp.addi (IntOp.minsi (128#32) (IntOp.maxsi (4294967168#32) (IntOp.subi (BitVec.ofNat 32 N) (128#32)))) 128#32) 0#32)
    (IntOp.addi (IntOp.addi (IntOp.minsi (128#32) (IntOp.maxsi (4294967168#32) (IntOp.subi (BitVec.ofNat 32 N) (128#32)))) 128#32) 257#32)
    (IntOp.addi (IntOp.minsi (128#32) (IntOp.maxsi (4294967168#32) (IntOp.subi (BitVec.ofNat 32 N) (128#32)))) 128#32)).toInt.toNat = min 256 (N : ℕ) := by
  decide +kernel

/-- The row a band slot is found at. -/
theorem GIX_at (n : Fin 64) (k : Fin 576) : (GIX (ix3 n k 0)).toInt.toNat = 64 * n + k := by
  pointwise [GIX, BAND]
  rw [row_word]
  exact row_of_word ⟨64 * n + k, by omega⟩

/-- The column of the bias table for a distance. -/
theorem BIX_at (q : Fin 64) (k : Fin 576) : (BIX (ix3 q k 0)).toInt.toNat = min 256 (640 + (q : ℕ) - (k : ℕ)) := by
  pointwise [BIX, CLIP]
  rw [dist_word _ _ (by omega) (by omega)]
  exact col_of_word ⟨640 + q - k, by omega⟩ (by dsimp only; omega)

/-- A padded key. -/
theorem PADK_at (X : FVec Ideal S8192x3072 .bf16) (b : Fin 2) (p : Fin 4608) (h : Fin 8) (e : Fin 128) (hp : 512 ≤ (p : ℕ)) :
    PADK X (ix4 b p h e) = X (ix2 ⟨b * 4096 + (p - 512), by omega⟩ ⟨1024 + (h * 128 + e), by omega⟩) := by
  pointwise [PADK]
  rw [dif_pos ⟨hp, by omega⟩]

/-- A padded value. -/
theorem PADV_at (X : FVec Ideal S8192x3072 .bf16) (b : Fin 2) (p : Fin 4608) (h : Fin 8) (e : Fin 128) (hp : 512 ≤ (p : ℕ)) :
    PADV X (ix4 b p h e) = X (ix2 ⟨b * 4096 + (p - 512), by omega⟩ ⟨2048 + (h * 128 + e), by omega⟩) := by
  pointwise [PADV]
  rw [dif_pos ⟨hp, by omega⟩]

/-- A key of a band. -/
theorem BANDK_at (X : FVec Ideal S8192x3072 .bf16) (I : IVec S64x576x1 32) (hI : ∀ (n : Fin 64) (k : Fin 576), (I (ix3 n k 0)).toInt.toNat = 64 * n + k)
    (b : Fin 2) (n : Fin 64) (k : Fin 576) (h : Fin 8) (e : Fin 128) (hp : 512 ≤ 64 * (n : ℕ) + k) :
    BANDS (PADK X) I (ix5 b n k h e) = X (ix2 ⟨b * 4096 + (64 * n + k - 512), by omega⟩ ⟨1024 + (h * 128 + e), by omega⟩) := by
  obtain ⟨i, hi⟩ : ∃ i, i = (I (ix3 n k 0)).toInt.toNat := ⟨_, rfl⟩
  have hn := hI n k
  have hb : min i 4607 < 4608 := by omega
  have e1 : BANDS (PADK X) I (ix5 b n k h e) = PADK X (ix4 b ⟨min i 4607, hb⟩ h e) := by subst hi; exact BANDS_at _ _ _ _ _ _ _
  rw [e1, PADK_at _ _ _ _ _ (by dsimp only; omega)]
  refine congrArg (fun p => X (ix2 p ⟨1024 + (h * 128 + e), by omega⟩)) (Fin.ext ?_)
  dsimp only
  omega

/-- A value of a band. -/
theorem BANDV_at (X : FVec Ideal S8192x3072 .bf16) (I : IVec S64x576x1 32) (hI : ∀ (n : Fin 64) (k : Fin 576), (I (ix3 n k 0)).toInt.toNat = 64 * n + k)
    (b : Fin 2) (n : Fin 64) (k : Fin 576) (h : Fin 8) (e : Fin 128) (hp : 512 ≤ 64 * (n : ℕ) + k) :
    BANDS (PADV X) I (ix5 b n k h e) = X (ix2 ⟨b * 4096 + (64 * n + k - 512), by omega⟩ ⟨2048 + (h * 128 + e), by omega⟩) := by
  obtain ⟨i, hi⟩ : ∃ i, i = (I (ix3 n k 0)).toInt.toNat := ⟨_, rfl⟩
  have hn := hI n k
  have hb : min i 4607 < 4608 := by omega
  have e1 : BANDS (PADV X) I (ix5 b n k h e) = PADV X (ix4 b ⟨min i 4607, hb⟩ h e) := by subst hi; exact BANDS_at _ _ _ _ _ _ _
  rw [e1, PADV_at _ _ _ _ _ (by dsimp only; omega)]
  refine congrArg (fun p => X (ix2 p ⟨2048 + (h * 128 + e), by omega⟩)) (Fin.ext ?_)
  dsimp only
  omega

/-- A bias. -/
theorem BIASR_at (R : FVec Ideal S1x8x257 .f32) (I : IVec S64x576x1 32) (hI : ∀ (q : Fin 64) (k : Fin 576), (I (ix3 q k 0)).toInt.toNat = min 256 (640 + (q : ℕ) - (k : ℕ)))
    (h : Fin 8) (q : Fin 64) (k : Fin 576) : BIAS R I (ix3 h q k) = R (ix3 0 h ⟨min 256 (640 + q - k), by omega⟩) := by
  rw [BIAS_at]
  refine congrArg (fun p => R (ix3 0 h p)) (Fin.ext ?_)
  dsimp only
  rw [hI]
  omega

/-- A query. -/
theorem QS_at (X : FVec Ideal S8192x3072 .bf16) (b : Fin 2) (n q : Fin 64) (h : Fin 8) (e : Fin 128) :
    QS X (ix5 b n q h e) = X (ix2 ⟨b * 4096 + (n * 64 + q), by omega⟩ ⟨h * 128 + e, by omega⟩) := by
  pointwise [QS]

/-- A product of queries and keys. -/
theorem DOT_at (A : FVec Ideal S2x64x64x8x128 .f32) (B : FVec Ideal S2x64x576x8x128 .f32) (b : Fin 2) (h : Fin 8) (n q : Fin 64) (k : Fin 576) :
    DOT A B (ix5 b h n q k) = ∑ e, A (ix5 b n q h e) * B (ix5 b n k h e) := by
  pointwise [DOT]

/-- A score. -/
theorem MASK_at (A : FVec Ideal S2x8x64x64x576 .f32) (B : FVec Ideal S8x64x576 .f32) (b : Fin 2) (h : Fin 8) (n q : Fin 64) (k : Fin 576) :
    MASK A B (ix5 b h n q k) = if 512 ≤ 64 * (n : ℕ) + k then A (ix5 b h n q k) * (((Real.sqrt 128)⁻¹ : ℝ) : EReal) + B (ix3 h q k) else ⊥ := by
  pointwise [MASK, BAND, ofBits_ninf, ofBits_128]
  rw [row_word, Softmax.div_root 128 (by norm_num)]
  have e := sign_of_word ⟨64 * n + k, by omega⟩
  dsimp only at e
  rw [e, show id (constant (F := Ideal) S_ .f32 0xFF800000#32) ix0 = (⊥ : EReal) from ofBits_ninf]
  split <;> rfl

/-- A row's greatest score. -/
theorem MX_at (S : FVec Ideal S2x8x64x64x576 .f32) (b : Fin 2) (h : Fin 8) (n q : Fin 64) :
    MX S (ix4 b h n q) = Finset.univ.fold max ⊥ fun k => S (ix5 b h n q k) := by
  pointwise [MX, ofBits_ninf]

/-- An exponential under a given maximum. -/
theorem EX_at (S : FVec Ideal S2x8x64x64x576 .f32) (M : FVec Ideal S2x8x64x64 .f32) (b : Fin 2) (h : Fin 8) (n q : Fin 64) (k : Fin 576) :
    EX S M (ix5 b h n q k) = Ideal.exp (S (ix5 b h n q k) - M (ix4 b h n q)) := by
  pointwise [EX, ofBits_ninf]
  rw [max_eq_right bot_le]

/-- An exponential. -/
theorem PE_at (S : FVec Ideal S2x8x64x64x576 .f32) (b : Fin 2) (h : Fin 8) (n q : Fin 64) (k : Fin 576) :
    PE S (ix5 b h n q k) = Ideal.exp (S (ix5 b h n q k) - Finset.univ.fold max ⊥ fun k => S (ix5 b h n q k)) := by
  unfold PE
  rw [EX_at, MX_at]

/-- A normalised exponential. -/
theorem NORM_at (P : FVec Ideal S2x8x64x64x576 .f32) (b : Fin 2) (h : Fin 8) (n q : Fin 64) (k : Fin 576) :
    NORM P (ix5 b h n q k) = Ideal.div (P (ix5 b h n q k)) (∑ k, P (ix5 b h n q k)) := by
  pointwise [NORM]

/-- A result from its weights. -/
theorem OUT_at (V : FVec Ideal S2x64x576x8x128 .f32) (P : FVec Ideal S2x8x64x64x576 .f32) (r : Fin 8192) (l : Fin 1024) :
    OUT V P (ix2 r l) = ∑ k, P (ix5 ⟨r / 4096, by omega⟩ ⟨l / 128, by omega⟩ ⟨r / 64 % 64, by omega⟩ ⟨r % 64, by omega⟩ k)
      * V (ix5 ⟨r / 4096, by omega⟩ ⟨r / 64 % 64, by omega⟩ k ⟨l / 128, by omega⟩ ⟨l % 128, by omega⟩) := by
  pointwise [OUT]
  exact Finset.sum_congr rfl fun j _ => mul_comm _ _

/-- A row of weights, normalised, times the values. -/
def cellR (s v : Fin 576 → EReal) : EReal :=
  ∑ k, Ideal.div (Ideal.exp (s k - Finset.univ.fold max ⊥ s)) (∑ k, Ideal.exp (s k - Finset.univ.fold max ⊥ s)) * v k

/-- The scores of a row over its band. -/
def scoreR (X : FVec Ideal S8192x3072 .bf16) (R : FVec Ideal S1x8x257 .f32) (r : Fin 8192) (h : Fin 8) (k : Fin 576) : EReal :=
  if 512 ≤ 64 * ((r : ℕ) / 64 % 64) + k then
    (∑ e : Fin 128, X (ix2 r ⟨h * 128 + e, by omega⟩) * X (ix2 ⟨r / 4096 * 4096 + (64 * (r / 64 % 64) + k - 512), by omega⟩ ⟨1024 + (h * 128 + e), by omega⟩))
      * (((Real.sqrt 128)⁻¹ : ℝ) : EReal) + R (ix3 0 h ⟨min 256 (640 + r % 64 - k), by omega⟩)
  else ⊥

/-- A score of the reference. -/
theorem SC_at (X : FVec Ideal S8192x3072 .bf16) (R : FVec Ideal S1x8x257 .f32) (r : Fin 8192) (h : Fin 8) (k : Fin 576) :
    SC X R (ix5 ⟨r / 4096, by omega⟩ h ⟨r / 64 % 64, by omega⟩ ⟨r % 64, by omega⟩ k) = scoreR X R r h k := by
  unfold SC scoreR
  rw [MASK_at]
  dsimp only
  split
  next hp =>
    have hr : (⟨r / 4096 * 4096 + (r / 64 % 64 * 64 + r % 64), by omega⟩ : Fin 8192) = r := Fin.ext (by dsimp only; omega)
    rw [DOT_at, BIASR_at _ _ BIX_at]
    refine congrArg (· * _ + _) (Finset.sum_congr rfl fun e _ => ?_)
    rw [QS_at, BANDK_at _ _ GIX_at _ _ _ _ _ hp, hr]
  next hp => rfl

/-- What the reference computes, element by element. -/
theorem REF_at (X : FVec Ideal S8192x3072 .bf16) (R : FVec Ideal S1x8x257 .f32) (r : Fin 8192) (l : Fin 1024) :
    ∃ v : Fin 576 → EReal, (∀ k : Fin 576, 512 ≤ 64 * ((r : ℕ) / 64 % 64) + k →
        v k = X (ix2 ⟨r / 4096 * 4096 + (64 * (r / 64 % 64) + k - 512), by omega⟩ ⟨2048 + l, by omega⟩))
      ∧ REF X R (ix2 r l) = cellR (scoreR X R r ⟨l / 128, by omega⟩) v := by
  refine ⟨fun k => BANDS (PADV X) GIX (ix5 ⟨r / 4096, by omega⟩ ⟨r / 64 % 64, by omega⟩ k ⟨l / 128, by omega⟩ ⟨l % 128, by omega⟩), fun k hk => ?_, ?_⟩
  · dsimp only
    rw [BANDV_at _ _ GIX_at _ _ _ _ _ hk]
    refine congrArg (fun p => X (ix2 _ p)) (Fin.ext ?_)
    dsimp only
    omega
  · unfold REF cellR
    rw [OUT_at]
    simp only [NORM_at, PE_at, SC_at]

/-- … at an index of the result. -/
theorem REF_at' (X : FVec Ideal S8192x3072 .bf16) (R : FVec Ideal S1x8x257 .f32) (j : S8192x1024.Idx) (r : Fin 8192) (l : Fin 1024)
    (hr : (j 0 : ℕ) = r) (hl : (j 1 : ℕ) = l) :
    ∃ v : Fin 576 → EReal, (∀ k : Fin 576, 512 ≤ 64 * ((r : ℕ) / 64 % 64) + k →
        v k = X (ix2 ⟨r / 4096 * 4096 + (64 * (r / 64 % 64) + k - 512), by omega⟩ ⟨2048 + l, by omega⟩))
      ∧ REF X R j = cellR (scoreR X R r ⟨l / 128, by omega⟩) v := by
  have : j = ix2 r l := by idx_ext <;> assumption
  obtain ⟨v, hv, e⟩ := REF_at X R r l
  exact ⟨v, hv, (congrArg (REF X R) this).trans e⟩

end Cert.ReferenceATIdeal.RefValue

end
-- ==== Proof.ATRows.lean ====
/- The banded attention's row: the kernel's over the columns a point sees, the reference's over the band alone. -/
module

public import proofs.«01_k».proof.Proof.ATRef
public import proofs.«01_k».proof.Proof.ATTile

@[expose] public section

set_option maxRecDepth 16384

noncomputable section

open Idealize.ShloMosaic Idealize.ShloMosaic.TcCoe Idealize.SL.Sem
open Idealize.ShloMosaic.Pipeline (Dat)

namespace Cert.KernelATIdeal.RefValue

open Cert.KernelATIdeal Cert.KernelATIdeal.Gen

/-- One row of a band, the reference's values free where the score is `⊥`. -/
theorem band_free {ι κ : Type} [Fintype ι] [Fintype κ] (e : ι → κ) (he : Function.Injective e) (s v : κ → EReal) (sR vR : ι → EReal)
    (ht : ∀ c, s c ≠ ⊤) (h0 : ∀ c, (∀ k, e k ≠ c) → s c = ⊥) (k0 : ι) (hb : s (e k0) ≠ ⊥)
    (hs : ∀ k, sR k = s (e k)) (hv : ∀ k, s (e k) ≠ ⊥ → vR k = v (e k)) :
    Ideal.div (∑ c, Ideal.exp (s c - Finset.univ.fold max ⊥ s) * v c)
        (∑ c, Ideal.exp (s c - Finset.univ.fold max ⊥ s))
      = ∑ k, Ideal.div (Ideal.exp (sR k - Finset.univ.fold max ⊥ sR)) (∑ k, Ideal.exp (sR k - Finset.univ.fold max ⊥ sR)) * vR k := by
  obtain rfl : sR = fun k => s (e k) := funext hs
  rw [← Softmax.row (fun k => s (e k)) vR (fun k => ht _) k0 hb, ← Softmax.max_image e s h0]
  obtain ⟨r, hr⟩ := Softmax.max_real s ht (e k0) hb
  rw [hr]
  have hz : ∀ c, s c = ⊥ → Ideal.exp (s c - (r : EReal)) = 0 := fun c hc => by
    rw [hc, EReal.bot_sub]; rfl
  rw [Softmax.sum_image e he (fun c => Ideal.exp (s c - (r : EReal))) fun c hc => hz c (h0 c hc),
    Softmax.sum_image e he (fun c => Ideal.exp (s c - (r : EReal)) * v c) fun c hc => by rw [hz c (h0 c hc), zero_mul]]
  refine congrArg (fun x => Ideal.div x _) (Finset.sum_congr rfl fun k _ => ?_)
  by_cases hk : s (e k) = ⊥
  · rw [hz _ hk, zero_mul, zero_mul]
  · rw [hv k hk]

/-- The row of an element. -/
theorem rows_eq (q : Fin 128 → EReal) (K : Fin 768 → Fin 128 → EReal) (b m v β : Fin 768 → EReal) (n : Fin 16) (r : Fin 256)
    (sR vR : Fin 576 → EReal)
    (hm : ∀ c : Fin 768, m c = if 512 ≤ 256 * (n : ℕ) + c then 0 else ⊥)
    (hb : ∀ c : Fin 768, b c = if 64 * ((r : ℕ) / 64) ≤ c ∧ (c : ℕ) < 64 * ((r : ℕ) / 64) + 576 then β c else ⊥)
    (hβ : ∀ c, β c ≠ ⊤ ∧ β c ≠ ⊥) (hq : ∀ e, q e ≠ ⊤ ∧ q e ≠ ⊥)
    (hK : ∀ c : Fin 768, 512 ≤ 256 * (n : ℕ) + c → ∀ e, K c e ≠ ⊤ ∧ K c e ≠ ⊥)
    (hs : ∀ (k : Fin 576) (c : Fin 768), (c : ℕ) = 64 * ((r : ℕ) / 64) + k → 512 ≤ 256 * (n : ℕ) + c →
      sR k = (∑ e, q e * K c e) * (((Real.sqrt 128)⁻¹ : ℝ) : EReal) + β c)
    (hs0 : ∀ (k : Fin 576) (c : Fin 768), (c : ℕ) = 64 * ((r : ℕ) / 64) + k → ¬ 512 ≤ 256 * (n : ℕ) + c → sR k = ⊥)
    (hv : ∀ (k : Fin 576) (c : Fin 768), (c : ℕ) = 64 * ((r : ℕ) / 64) + k → 512 ≤ 256 * (n : ℕ) + c → vR k = v c) :
    cellK q K b m v = Cert.ReferenceATIdeal.RefValue.cellR sR vR := by
  have hr : (r : ℕ) / 64 ≤ 3 := by omega
  have hfin : ∀ c : Fin 768, 512 ≤ 256 * (n : ℕ) + c →
      (∑ e, q e * K c e) * (((Real.sqrt 128)⁻¹ : ℝ) : EReal) + β c ≠ ⊤ ∧ (∑ e, q e * K c e) * (((Real.sqrt 128)⁻¹ : ℝ) : EReal) + β c ≠ ⊥ :=
    fun c hc => Softmax.add_real (Softmax.mul_real (Softmax.sum_real _ fun e => Softmax.mul_real (hq e) (hK c hc e))
      ⟨EReal.coe_ne_top _, EReal.coe_ne_bot _⟩) (hβ c)
  have hin : ∀ c : Fin 768, 512 ≤ 256 * (n : ℕ) + c → 64 * ((r : ℕ) / 64) ≤ c ∧ (c : ℕ) < 64 * ((r : ℕ) / 64) + 576 →
      (∑ e, q e * K c e) * (((Real.sqrt 128)⁻¹ : ℝ) : EReal) + b c + m c = (∑ e, q e * K c e) * (((Real.sqrt 128)⁻¹ : ℝ) : EReal) + β c :=
    fun c hc hi => by rw [hm, hb, if_pos hc, if_pos hi, add_zero]
  have hout : ∀ c : Fin 768, ¬ (512 ≤ 256 * (n : ℕ) + c ∧ 64 * ((r : ℕ) / 64) ≤ c ∧ (c : ℕ) < 64 * ((r : ℕ) / 64) + 576) →
      (∑ e, q e * K c e) * (((Real.sqrt 128)⁻¹ : ℝ) : EReal) + b c + m c = ⊥ := fun c hc => by
    by_cases h1 : 512 ≤ 256 * (n : ℕ) + c
    · have h2 : ¬ (64 * ((r : ℕ) / 64) ≤ c ∧ (c : ℕ) < 64 * ((r : ℕ) / 64) + 576) := fun h => hc ⟨h1, h⟩
      rw [hb, if_neg h2, EReal.add_bot, EReal.bot_add]
    · rw [hm, if_neg h1, EReal.add_bot]
  refine band_free (fun k : Fin 576 => (⟨64 * ((r : ℕ) / 64) + k, by omega⟩ : Fin 768)) (fun a b h => Fin.ext (by have := congrArg Fin.val h; dsimp only at this; omega))
    (fun c => (∑ e, q e * K c e) * (((Real.sqrt 128)⁻¹ : ℝ) : EReal) + b c + m c) v sR vR (fun c => ?_) (fun c hc => hout c fun h => ?_) ⟨512, by omega⟩ ?_ (fun k => ?_) (fun k hk => ?_)
  · by_cases h : 512 ≤ 256 * (n : ℕ) + c ∧ 64 * ((r : ℕ) / 64) ≤ c ∧ (c : ℕ) < 64 * ((r : ℕ) / 64) + 576
    · rw [hin c h.1 h.2]; exact (hfin c h.1).1
    · rw [hout c h]; exact bot_ne_top
  · exact hc ⟨c - 64 * ((r : ℕ) / 64), by omega⟩ (Fin.ext (by dsimp only; omega))
  · rw [hin _ (by dsimp only; omega) ⟨by dsimp only; omega, by dsimp only; omega⟩]
    exact (hfin _ (by dsimp only; omega)).2
  · by_cases h : 512 ≤ 256 * (n : ℕ) + (64 * ((r : ℕ) / 64) + k)
    · rw [hin _ h ⟨by dsimp only; omega, by dsimp only; omega⟩]
      exact hs k _ rfl h
    · rw [hout _ fun h' => h h'.1]
      exact hs0 k ⟨64 * ((r : ℕ) / 64) + k, by omega⟩ rfl h
  · refine hv k _ rfl (by_contra fun h => hk (hout _ fun h' => h h'.1))

end Cert.KernelATIdeal.RefValue

end
-- ==== Proof.ATTable.lean ====
/- The banded attention's table of position biases, as the host prepares it. -/
module

public import proofs.«01_k».proof.Proof.Gen.KernelATIdeal.Frame
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelATIdeal.RefValue

open Cert.KernelATIdeal Cert.KernelATIdeal.Gen

variable (m : (ℓ : Loc nD τ sig) → Buf (Elt Ideal) ℓ)

/-- The clipped distances the table's columns stand for, as words. -/
def DIST : IVec S1024 32 :=
  minsi (broadcastInDim S1024 ![] bcast_S_S1024 (constantI S_ 32 128#32))
    (maxsi (broadcastInDim S1024 ![] bcast_S_S1024 (constantI S_ 32 4294967168#32))
      (subi (broadcastInDim S1024 ![] bcast_S_S1024 (constantI S_ 32 767#32)) (iotaInDim S1024 32 0)))

/-- The columns of the biases they read, as words. -/
def COL : IVec S1024x1 32 :=
  broadcastInDim S1024x1 ![0] bcast_S1024_S1024x1_0
    (select (cmpi .slt (addi DIST (broadcastInDim S1024 ![] bcast_S_S1024 (constantI S_ 32 128#32))) (broadcastInDim S1024 ![] bcast_S_S1024 (constantI S_ 32 0#32)))
      (addi (addi DIST (broadcastInDim S1024 ![] bcast_S_S1024 (constantI S_ 32 128#32))) (broadcastInDim S1024 ![] bcast_S_S1024 (constantI S_ 32 257#32)))
      (addi DIST (broadcastInDim S1024 ![] bcast_S_S1024 (constantI S_ 32 128#32))))

/-- The table read from the biases. -/
def TAB (R : FVec Ideal S1x8x257 .f32) (I : IVec S1024x1 32) : FVec Ideal S8x1024 .f32 :=
  Host.gather gather_S8x257_S1024x1_S8x1024_0_1_n_n_1_1_81 (shapeCast _ R shapeCasts_S1x8x257_S8x257) I

/-- The gather of the table, element by element. -/
theorem TAB_at (R : FVec Ideal S1x8x257 .f32) (I : IVec S1024x1 32) (h : Fin 8) (p : Fin 1024) :
    TAB R I (ix2 h p) = R (ix3 0 h ⟨min (I (ix2 p 0)).toInt.toNat 256, by omega⟩) := by
  have e : TAB R I (ix2 h p) = (shapeCast S8x257 R shapeCasts_S1x8x257_S8x257) (ix2 h ⟨min (I (ix2 p 0)).toInt.toNat 256, by omega⟩) := by
    unfold TAB Host.gather
    congr 1
    funext a
    refine Fin.ext ?_
    show gather_S8x257_S1024x1_S8x1024_0_1_n_n_1_1_81.start _ _ a + gather_S8x257_S1024x1_S8x1024_0_1_n_n_1_1_81.batchCoord _ a + gather_S8x257_S1024x1_S8x1024_0_1_n_n_1_1_81.offCoord _ a = _
    rw [GatherDims.batchCoord_eq_zero _ _ _ List.not_mem_nil]
    have h01 : a = 0 ∨ a = 1 := by
      match a with
      | ⟨0, _⟩ => exact Or.inl rfl
      | ⟨1, _⟩ => exact Or.inr rfl
    rcases h01 with rfl | rfl
    · unfold GatherDims.start GatherDims.offCoord
      rw [dif_neg (by decide), dif_pos (by decide)]
      exact Nat.zero_add _
    · rw [GatherDims.offCoord_eq_zero _ _ _ (fun h => ((GatherDims.mem_sKept _ _).mp h).1 (List.mem_singleton.mpr rfl))]
      unfold GatherDims.start
      rw [dif_pos (by decide)]
      have hsi : gather_S8x257_S1024x1_S8x1024_0_1_n_n_1_1_81.siIdx (ix2 h p)
          ⟨List.idxOf (1 : Fin 2) gather_S8x257_S1024x1_S8x1024_0_1_n_n_1_1_81.startIndexMap,
          List.idxOf_lt_length_iff.2 (by decide)⟩ = ix2 p 0 := by
        funext b; refine Fin.ext ?_
        match b with
        | ⟨0, _⟩ => rfl
        | ⟨1, _⟩ => rfl
      rw [hsi]
      rfl
  rw [e]
  pointwise

/-- A column of the biases read from its word. -/
theorem col_word : ∀ p : Fin 1024, (Scalar.select (IntOp.cmpi .slt (IntOp.addi (IntOp.minsi (128#32) (IntOp.maxsi (4294967168#32) (IntOp.subi (767#32) (BitVec.ofNat 32 p)))) 128#32) 0#32)
    (IntOp.addi (IntOp.addi (IntOp.minsi (128#32) (IntOp.maxsi (4294967168#32) (IntOp.subi (767#32) (BitVec.ofNat 32 p)))) 128#32) 257#32)
    (IntOp.addi (IntOp.minsi (128#32) (IntOp.maxsi (4294967168#32) (IntOp.subi (767#32) (BitVec.ofNat 32 p)))) 128#32)).toInt.toNat = min 256 (895 - (p : ℕ)) := by
  decide +kernel

/-- The column a column of the table reads. -/
theorem COL_at (p : Fin 1024) : (COL (ix2 p 0)).toInt.toNat = min 256 (895 - (p : ℕ)) := by
  pointwise [COL, DIST]
  exact col_word p

/-- The table, element by element. -/
theorem TABLE_at (R : FVec Ideal S1x8x257 .f32) (h : Fin 8) (p : Fin 1024) :
    TAB R COL (ix2 h p) = R (ix3 0 h ⟨min 256 (895 - (p : ℕ)), by omega⟩) := by
  rw [TAB_at]
  exact congrArg (fun q => R (ix3 0 h q)) (Fin.ext (by dsimp only; rw [COL_at]; omega))

section segments
variable (X : Valuation τ sig (Elt Ideal))

/-- The operations of two lines run one after the other. -/
theorem after_two (l₁ l₂ : List (HloOp τ sig (Elt Ideal))) :
    StableHlo.after (l₁ ++ l₂) X = StableHlo.after l₂ (StableHlo.after l₁ X) := by
  induction l₁ generalizing X with
  | nil => rfl
  | cons op l ih => exact ih _

theorem seg0_v0 : StableHlo.after (hostOps0 (F := Ideal)) X main_v0 = shapeCast S8x257 (X main_arg1) shapeCasts_S1x8x257_S8x257 := by
  rw [hostOps0]; after_results; rfl
theorem seg0_v3 : StableHlo.after (hostOps0 (F := Ideal)) X main_v3
    = subi (broadcastInDim S1024 ![] bcast_S_S1024 (constantI S_ 32 767#32)) (iotaInDim S1024 32 0) := by
  rw [hostOps0]; after_results
theorem seg0_c0 : StableHlo.after (hostOps0 (F := Ideal)) X main_c_0 = constantI S_ 32 4294967168#32 := by
  rw [hostOps0]; after_results
theorem seg0_c1 : StableHlo.after (hostOps0 (F := Ideal)) X main_c_1 = constantI S_ 32 128#32 := by
  rw [hostOps0]; after_results
theorem seg1_v0 : StableHlo.after (hostOps0_1 (F := Ideal)) X main_v0 = X main_v0 := by
  rw [hostOps0_1]; after_results
theorem seg1_v4 : StableHlo.after (hostOps0_1 (F := Ideal)) X main_v4
    = minsi (broadcastInDim S1024 ![] bcast_S_S1024 (X main_c_1)) (maxsi (broadcastInDim S1024 ![] bcast_S_S1024 (X main_c_0)) (X main_v3)) := by
  rw [hostOps0_1]; after_results; rfl
theorem seg2_v6 : StableHlo.after (hostOps0_2 (F := Ideal)) X main_v13
    = Host.gather gather_S8x257_S1024x1_S8x1024_0_1_n_n_1_1_81 (X main_v0) (broadcastInDim S1024x1 ![0] bcast_S1024_S1024x1_0
    (select (cmpi .slt (addi (X main_v4) (broadcastInDim S1024 ![] bcast_S_S1024 (constantI S_ 32 128#32))) (broadcastInDim S1024 ![] bcast_S_S1024 (constantI S_ 32 0#32)))
      (addi (addi (X main_v4) (broadcastInDim S1024 ![] bcast_S_S1024 (constantI S_ 32 128#32))) (broadcastInDim S1024 ![] bcast_S_S1024 (constantI S_ 32 257#32)))
      (addi (X main_v4) (broadcastInDim S1024 ![] bcast_S_S1024 (constantI S_ 32 128#32))))) := by
  rw [hostOps0_2]; after_results

end segments

/-- The contents the windows read, by the three lines of operations. -/
theorem V_eq (c : Dev nD) (b : Ref sig .tc) :
    V m c b = StableHlo.after hostOps0_2 (StableHlo.after hostOps0_1 (StableHlo.after hostOps0 (fun b => m (c, b)))) b := by
  have h : List.flatten [hostOps0 (F := Ideal), hostOps0_1, hostOps0_2] = hostOps0 ++ (hostOps0_1 ++ hostOps0_2) := by
    rw [List.flatten_cons, List.flatten_cons, List.flatten_cons, List.flatten_nil, List.append_nil]
  unfold V
  rw [h, after_two, after_two]

/-- The table the windows read. -/
theorem table (c : Dev nD) : V m c main_v13 = TAB (m ((c : Thread nD τ).loc main_arg1)) COL := by
  rw [V_eq, seg2_v6, seg1_v0, seg1_v4, seg0_v0, seg0_v3, seg0_c0, seg0_c1]
  rfl

end Cert.KernelATIdeal.RefValue

end
-- ==== Proof.ATValue.lean ====
/- The banded attention: what the result arrays hold after the run, as the reference's terms of the arguments. -/
module

public import proofs.«01_k».proof.Proof.ATHeld
public import proofs.«01_k».proof.Proof.ATRows
public import proofs.«01_k».proof.Proof.ATTable
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelATIdeal.RefValue

open Cert.KernelATIdeal Cert.KernelATIdeal.Gen

variable (m : (ℓ : Loc nD τ sig) → Buf (Elt Ideal) ℓ)

/-- The windows' block indices at a point: the queries, keys and values of the three blocks of rows the point sees, the table, the result. -/
theorem idx : ∀ t : Fin cfg0.N, win0_0.index t = ![t.val, 0]
    ∧ win0_1.index t = ![t.val / 16 * 16 + (t.val % 16 - 2), 1] ∧ win0_2.index t = ![t.val / 16 * 16 + (t.val % 16 - 1), 1] ∧ win0_3.index t = ![t.val, 1]
    ∧ win0_4.index t = ![t.val / 16 * 16 + (t.val % 16 - 2), 2] ∧ win0_5.index t = ![t.val / 16 * 16 + (t.val % 16 - 1), 2] ∧ win0_6.index t = ![t.val, 2]
    ∧ win0_7.index t = ![0, 0] ∧ win0_14.index t = ![t.val, 0] :=
  (by decide +kernel : ∀ t : Fin grid0.N, _)

/-- The windows of the weights: the point's rows. -/
theorem idxw : ∀ t : Fin cfg0.N, win0_8.index t = ![t.val, 0] ∧ win0_9.index t = ![t.val, 0] ∧ win0_10.index t = ![t.val, 0]
    ∧ win0_11.index t = ![t.val, 0] ∧ win0_12.index t = ![t.val, 0] ∧ win0_13.index t = ![t.val, 0]
    ∧ win0_15.index t = ![t.val, 0] ∧ win0_16.index t = ![t.val, 0] ∧ win0_17.index t = ![t.val, 0]
    ∧ win0_18.index t = ![t.val, 0] ∧ win0_19.index t = ![t.val, 0] ∧ win0_20.index t = ![t.val, 0] :=
  (by decide +kernel : ∀ t : Fin grid0.N, _)

/-- The point's second coordinate. -/
theorem coord : ∀ t : Fin cfg0.N, (grid0.coords t 1 : ℕ) = t.val % 16 :=
  (by decide +kernel : ∀ t : Fin grid0.N, _)

/-- The rows of queries a point sees. -/
theorem qrow (c : Dev nD) (t : Fin cfg0.N) (ht : t.val < 32) (r : Fin 256) (e : Fin 1024) :
    iblk m c 0 t (ix2 r e) = m ((c : Thread nD τ).loc main_arg0) (ix2 ⟨t.val * 256 + r, by omega⟩ ⟨e, by omega⟩) := by
  rw [← V_main_arg0 m c]
  blk_point [iblk, idx t]

/-- The rows of keys a point sees. -/
theorem krow (c : Dev nD) (t : Fin cfg0.N) (ht : t.val < 32) (j : Fin 768) (hj : 512 ≤ 256 * (t.val % 16) + j) (e : Fin 1024) :
    rows (n := 1024) (iblk m c 1 t) (iblk m c 2 t) (iblk m c 3 t) j e
    = m ((c : Thread nD τ).loc main_arg0) (ix2 ⟨t.val / 16 * 4096 + (256 * (t.val % 16) + j - 512), by omega⟩ ⟨1024 + e, by omega⟩) := by
  rw [← V_main_arg0 m c]
  unfold rows
  split
  · blk_point [iblk, idx t]
  · split
    · blk_point [iblk, idx t]
    · blk_point [iblk, idx t]

/-- The rows of values a point sees. -/
theorem vrow (c : Dev nD) (t : Fin cfg0.N) (ht : t.val < 32) (j : Fin 768) (hj : 512 ≤ 256 * (t.val % 16) + j) (e : Fin 1024) :
    rows (n := 1024) (iblk m c 4 t) (iblk m c 5 t) (iblk m c 6 t) j e
    = m ((c : Thread nD τ).loc main_arg0) (ix2 ⟨t.val / 16 * 4096 + (256 * (t.val % 16) + j - 512), by omega⟩ ⟨2048 + e, by omega⟩) := by
  rw [← V_main_arg0 m c]
  unfold rows
  split
  · blk_point [iblk, idx t]
  · split
    · blk_point [iblk, idx t]
    · blk_point [iblk, idx t]

/-- The table a point sees. -/
theorem tabrow (c : Dev nD) (t : Fin cfg0.N) (h : Fin 8) (p : Fin 1024) :
    iblk m c 7 t (ix2 h p) = m ((c : Thread nD τ).loc main_arg1) (ix3 0 h ⟨min 256 (895 - (p : ℕ)), by omega⟩) := by
  refine Eq.trans ?_ (TABLE_at (m ((c : Thread nD τ).loc main_arg1)) h p)
  rw [← table m c]
  blk_point [iblk, idx t]

/-- What a point stores is the reference's at its rows. -/
theorem point14 (c : Dev nD)
    (hx : ∀ (i : Fin 8192) (l : Fin 3072), (l : ℕ) < 2048 → m ((c : Thread nD τ).loc main_arg0) (ix2 i l) ≠ (⊤ : EReal)
      ∧ m ((c : Thread nD τ).loc main_arg0) (ix2 i l) ≠ (⊥ : EReal))
    (hr : ∀ i, m ((c : Thread nD τ).loc main_arg1) i ≠ (⊤ : EReal) ∧ m ((c : Thread nD τ).loc main_arg1) i ≠ (⊥ : EReal))
    (s t : Fin cfg0.N) (y) :
    OUT14 (iblk m c 0 t) (iblk m c 1 t) (iblk m c 2 t) (iblk m c 3 t) (iblk m c 4 t) (iblk m c 5 t) (iblk m c 6 t)
        (BM (iblk m c 7 s)) (BitVec.ofNat 32 ↑(grid0.coords t 1)) y
    = Cert.ReferenceATIdeal.RefValue.REF (m ((c : Thread nD τ).loc main_arg0)) (m ((c : Thread nD τ).loc main_arg1)) (((cfg0.win 14).blk t).view.emb y) := by
  idx_vars y
  have ht : t.val < 32 := lt_of_lt_of_eq t.isLt (by decide)
  obtain ⟨v, hv, e⟩ := Cert.ReferenceATIdeal.RefValue.REF_at' (m ((c : Thread nD τ).loc main_arg0)) (m ((c : Thread nD τ).loc main_arg1))
    (((cfg0.win 14).blk t).view.emb (ix2 y0 y1)) ⟨t.val * 256 + y0, by omega⟩ y1 (by blk_simp [idx t] <;> try omega) (by blk_simp [idx t] <;> try omega)
  refine (block _ _ _ _ _ _ _ _ _ _ _).trans (Eq.trans ?_ e.symm)
  have hrow : ∀ k : Fin 576, 64 * ((t.val * 256 + (y0 : ℕ)) / 64 % 64) + (k : ℕ) = 256 * (t.val % 16) + (64 * ((y0 : ℕ) / 64) + k) := fun k => by omega
  have hX : ∀ (p p' : Fin 8192) (q q' : Fin 3072), (p : ℕ) = p' → (q : ℕ) = q' →
      m ((c : Thread nD τ).loc main_arg0) (ix2 p q) = m ((c : Thread nD τ).loc main_arg0) (ix2 p' q') := fun p p' q q' h h' => by
    rw [Fin.ext h, Fin.ext h']
  have hbat : (t.val * 256 + (y0 : ℕ)) / 4096 = t.val / 16 := by omega
  refine rows_eq _ _ _ _ _
    (fun j => m ((c : Thread nD τ).loc main_arg1) (ix3 0 ⟨(y1 : ℕ) / 128, by omega⟩ ⟨min 256 (895 - ((j : ℕ) + 255 - y0)), by omega⟩))
    ⟨t.val % 16, by omega⟩ y0 _ _ (fun j => ?_) (fun j => ?_) (fun j => hr _) (fun e => ?_) (fun j hj e => ?_) (fun k j hj hp => ?_)
    (fun k j hj hp => ?_) (fun k j hj hp => ?_)
  · exact EDGE_at _ ⟨t.val % 16, by omega⟩ (by rw [coord t]) j
  · rw [BM_head]
    exact if_congr Iff.rfl (tabrow m c s _ _) rfl
  · rw [qrow m c t ht]
    exact hx _ _ (by dsimp only; omega)
  · rw [krow m c t ht j hj]
    exact hx _ _ (by dsimp only; omega)
  · dsimp only at hp
    unfold Cert.ReferenceATIdeal.RefValue.scoreR
    rw [if_pos (by rw [hrow k, ← hj]; exact hp)]
    refine congrArg₂ (fun a b : EReal => a * (((Real.sqrt 128)⁻¹ : ℝ) : EReal) + b) (Finset.sum_congr rfl fun e _ => ?_) ?_
    · rw [qrow m c t ht, krow m c t ht j hp]
      exact congrArg₂ (fun a b : EReal => a * b) rfl (hX _ _ _ _ (by dsimp only; rw [hbat, hrow k, ← hj]) rfl)
    · exact congrArg (fun p => m ((c : Thread nD τ).loc main_arg1) (ix3 0 _ p)) (Fin.ext (by dsimp only; omega))
  · unfold Cert.ReferenceATIdeal.RefValue.scoreR
    rw [if_neg (by rw [hrow k, ← hj]; exact hp)]
  · rw [hv k (by rw [hrow k, ← hj]; exact hp), vrow m c t ht j hp]
    exact hX _ _ _ _ (by dsimp only; rw [hbat, hrow k, ← hj]) rfl

/-- The array of the attention's results after the run is the reference's. -/
theorem final14 (c : Dev nD)
    (hx : ∀ (i : Fin 8192) (l : Fin 3072), (l : ℕ) < 2048 → m ((c : Thread nD τ).loc main_arg0) (ix2 i l) ≠ (⊤ : EReal)
      ∧ m ((c : Thread nD τ).loc main_arg0) (ix2 i l) ≠ (⊥ : EReal))
    (hr : ∀ i, m ((c : Thread nD τ).loc main_arg1) i ≠ (⊤ : EReal) ∧ m ((c : Thread nD τ).loc main_arg1) i ≠ (⊥ : EReal)) :
    (dats m 0 c).arrAt 14 (cfgs 0).N
    = Cert.ReferenceATIdeal.RefValue.REF (m ((c : Thread nD τ).loc main_arg0)) (m ((c : Thread nD τ).loc main_arg1)) := by
  refine (dats m 0 c).arrAt_eq_of_covers 14 _ (by decide +kernel) fun t _ y => ?_
  blk_simp
  rw [after0_14, stored14]
  exact point14 m c hx hr _ t y

/-- The weights a window reads. -/
theorem weights14 (c : Dev nD) : V m c main_v14 = shapeCast S1024x2048 (m ((c : Thread nD τ).loc main_arg2)) shapeCasts_S1x1024x2048_S1024x2048 := by
  rw [V_eq]
  have h : ∀ X : Valuation τ sig (Elt Ideal), StableHlo.after (hostOps0_2 (F := Ideal)) X main_v14 = shapeCast S1024x2048 (X main_arg2) shapeCasts_S1x1024x2048_S1024x2048 := fun X => by
    rw [hostOps0_2]; after_results; rfl
  have h1 : ∀ X : Valuation τ sig (Elt Ideal), StableHlo.after (hostOps0_1 (F := Ideal)) X main_arg2 = X main_arg2 := fun X => by
    rw [hostOps0_1]; after_results
  have h0 : ∀ X : Valuation τ sig (Elt Ideal), StableHlo.after (hostOps0 (F := Ideal)) X main_arg2 = X main_arg2 := fun X => by
    rw [hostOps0]; after_results
  rw [h, h1, h0]

/-- The array of a cast of weights after the run is the reference's. -/
theorem final15 (c : Dev nD) : (dats m 0 c).arrAt 15 (cfgs 0).N
    = (truncf .bf16 (shapeCast S1024x2048 (m ((c : Thread nD τ).loc main_arg2) : FVec Ideal S1x1024x2048 .f32) shapeCasts_S1x1024x2048_S1024x2048) bitsLt_bf16_f32 : FVec Ideal S1024x2048 .bf16) := by
  refine (dats m 0 c).arrAt_eq_of_covers 15 _ (by decide +kernel) fun t _ y => ?_
  blk_simp
  rw [after0_15, stored15, ← weights14 m c]
  idx_vars y
  pointwise [k0_pay11]
  blk_point [iblk, idxw t]

/-- The weights a window reads. -/
theorem weights15 (c : Dev nD) : V m c main_v15 = shapeCast S1024x2048 (m ((c : Thread nD τ).loc main_arg3)) shapeCasts_S1x1024x2048_S1024x2048 := by
  rw [V_eq]
  have h : ∀ X : Valuation τ sig (Elt Ideal), StableHlo.after (hostOps0_2 (F := Ideal)) X main_v15 = shapeCast S1024x2048 (X main_arg3) shapeCasts_S1x1024x2048_S1024x2048 := fun X => by
    rw [hostOps0_2]; after_results; rfl
  have h1 : ∀ X : Valuation τ sig (Elt Ideal), StableHlo.after (hostOps0_1 (F := Ideal)) X main_arg3 = X main_arg3 := fun X => by
    rw [hostOps0_1]; after_results
  have h0 : ∀ X : Valuation τ sig (Elt Ideal), StableHlo.after (hostOps0 (F := Ideal)) X main_arg3 = X main_arg3 := fun X => by
    rw [hostOps0]; after_results
  rw [h, h1, h0]

/-- The array of a cast of weights after the run is the reference's. -/
theorem final16 (c : Dev nD) : (dats m 0 c).arrAt 16 (cfgs 0).N
    = (truncf .bf16 (shapeCast S1024x2048 (m ((c : Thread nD τ).loc main_arg3) : FVec Ideal S1x1024x2048 .f32) shapeCasts_S1x1024x2048_S1024x2048) bitsLt_bf16_f32 : FVec Ideal S1024x2048 .bf16) := by
  refine (dats m 0 c).arrAt_eq_of_covers 16 _ (by decide +kernel) fun t _ y => ?_
  blk_simp
  rw [after0_16, stored16, ← weights15 m c]
  idx_vars y
  pointwise [k0_pay12]
  blk_point [iblk, idxw t]

/-- The weights a window reads. -/
theorem weights16 (c : Dev nD) : V m c main_v16 = shapeCast S2048x2048 (m ((c : Thread nD τ).loc main_arg4)) shapeCasts_S1x2048x2048_S2048x2048 := by
  rw [V_eq]
  have h : ∀ X : Valuation τ sig (Elt Ideal), StableHlo.after (hostOps0_2 (F := Ideal)) X main_v16 = shapeCast S2048x2048 (X main_arg4) shapeCasts_S1x2048x2048_S2048x2048 := fun X => by
    rw [hostOps0_2]; after_results; rfl
  have h1 : ∀ X : Valuation τ sig (Elt Ideal), StableHlo.after (hostOps0_1 (F := Ideal)) X main_arg4 = X main_arg4 := fun X => by
    rw [hostOps0_1]; after_results
  have h0 : ∀ X : Valuation τ sig (Elt Ideal), StableHlo.after (hostOps0 (F := Ideal)) X main_arg4 = X main_arg4 := fun X => by
    rw [hostOps0]; after_results
  rw [h, h1, h0]

/-- The array of a cast of weights after the run is the reference's. -/
theorem final17 (c : Dev nD) : (dats m 0 c).arrAt 17 (cfgs 0).N
    = (truncf .bf16 (shapeCast S2048x2048 (m ((c : Thread nD τ).loc main_arg4) : FVec Ideal S1x2048x2048 .f32) shapeCasts_S1x2048x2048_S2048x2048) bitsLt_bf16_f32 : FVec Ideal S2048x2048 .bf16) := by
  refine (dats m 0 c).arrAt_eq_of_covers 17 _ (by decide +kernel) fun t _ y => ?_
  blk_simp
  rw [after0_17, stored17, ← weights16 m c]
  idx_vars y
  pointwise [k0_pay13]
  blk_point [iblk, idxw t]

/-- The weights a window reads. -/
theorem weights17 (c : Dev nD) : V m c main_v17 = shapeCast S2048x2048 (m ((c : Thread nD τ).loc main_arg5)) shapeCasts_S1x2048x2048_S2048x2048 := by
  rw [V_eq]
  have h : ∀ X : Valuation τ sig (Elt Ideal), StableHlo.after (hostOps0_2 (F := Ideal)) X main_v17 = shapeCast S2048x2048 (X main_arg5) shapeCasts_S1x2048x2048_S2048x2048 := fun X => by
    rw [hostOps0_2]; after_results; rfl
  have h1 : ∀ X : Valuation τ sig (Elt Ideal), StableHlo.after (hostOps0_1 (F := Ideal)) X main_arg5 = X main_arg5 := fun X => by
    rw [hostOps0_1]; after_results
  have h0 : ∀ X : Valuation τ sig (Elt Ideal), StableHlo.after (hostOps0 (F := Ideal)) X main_arg5 = X main_arg5 := fun X => by
    rw [hostOps0]; after_results
  rw [h, h1, h0]

/-- The array of a cast of weights after the run is the reference's. -/
theorem final18 (c : Dev nD) : (dats m 0 c).arrAt 18 (cfgs 0).N
    = (truncf .bf16 (shapeCast S2048x2048 (m ((c : Thread nD τ).loc main_arg5) : FVec Ideal S1x2048x2048 .f32) shapeCasts_S1x2048x2048_S2048x2048) bitsLt_bf16_f32 : FVec Ideal S2048x2048 .bf16) := by
  refine (dats m 0 c).arrAt_eq_of_covers 18 _ (by decide +kernel) fun t _ y => ?_
  blk_simp
  rw [after0_18, stored18, ← weights17 m c]
  idx_vars y
  pointwise [k0_pay14]
  blk_point [iblk, idxw t]

/-- The weights a window reads. -/
theorem weights18 (c : Dev nD) : V m c main_v18 = shapeCast S2048x2048 (m ((c : Thread nD τ).loc main_arg6)) shapeCasts_S1x2048x2048_S2048x2048 := by
  rw [V_eq]
  have h : ∀ X : Valuation τ sig (Elt Ideal), StableHlo.after (hostOps0_2 (F := Ideal)) X main_v18 = shapeCast S2048x2048 (X main_arg6) shapeCasts_S1x2048x2048_S2048x2048 := fun X => by
    rw [hostOps0_2]; after_results; rfl
  have h1 : ∀ X : Valuation τ sig (Elt Ideal), StableHlo.after (hostOps0_1 (F := Ideal)) X main_arg6 = X main_arg6 := fun X => by
    rw [hostOps0_1]; after_results
  have h0 : ∀ X : Valuation τ sig (Elt Ideal), StableHlo.after (hostOps0 (F := Ideal)) X main_arg6 = X main_arg6 := fun X => by
    rw [hostOps0]; after_results
  rw [h, h1, h0]

/-- The array of a cast of weights after the run is the reference's. -/
theorem final19 (c : Dev nD) : (dats m 0 c).arrAt 19 (cfgs 0).N
    = (truncf .bf16 (shapeCast S2048x2048 (m ((c : Thread nD τ).loc main_arg6) : FVec Ideal S1x2048x2048 .f32) shapeCasts_S1x2048x2048_S2048x2048) bitsLt_bf16_f32 : FVec Ideal S2048x2048 .bf16) := by
  refine (dats m 0 c).arrAt_eq_of_covers 19 _ (by decide +kernel) fun t _ y => ?_
  blk_simp
  rw [after0_19, stored19, ← weights18 m c]
  idx_vars y
  pointwise [k0_pay15]
  blk_point [iblk, idxw t]

/-- The weights a window reads. -/
theorem weights19 (c : Dev nD) : V m c main_v19 = shapeCast S2048x2048 (m ((c : Thread nD τ).loc main_arg7)) shapeCasts_S1x2048x2048_S2048x2048 := by
  rw [V_eq]
  have h : ∀ X : Valuation τ sig (Elt Ideal), StableHlo.after (hostOps0_2 (F := Ideal)) X main_v19 = shapeCast S2048x2048 (X main_arg7) shapeCasts_S1x2048x2048_S2048x2048 := fun X => by
    rw [hostOps0_2]; after_results; rfl
  have h1 : ∀ X : Valuation τ sig (Elt Ideal), StableHlo.after (hostOps0_1 (F := Ideal)) X main_arg7 = X main_arg7 := fun X => by
    rw [hostOps0_1]; after_results
  have h0 : ∀ X : Valuation τ sig (Elt Ideal), StableHlo.after (hostOps0 (F := Ideal)) X main_arg7 = X main_arg7 := fun X => by
    rw [hostOps0]; after_results
  rw [h, h1, h0]

/-- The array of a cast of weights after the run is the reference's. -/
theorem final20 (c : Dev nD) : (dats m 0 c).arrAt 20 (cfgs 0).N
    = (truncf .bf16 (shapeCast S2048x2048 (m ((c : Thread nD τ).loc main_arg7) : FVec Ideal S1x2048x2048 .f32) shapeCasts_S1x2048x2048_S2048x2048) bitsLt_bf16_f32 : FVec Ideal S2048x2048 .bf16) := by
  refine (dats m 0 c).arrAt_eq_of_covers 20 _ (by decide +kernel) fun t _ y => ?_
  blk_simp
  rw [after0_20, stored20, ← weights19 m c]
  idx_vars y
  pointwise [k0_pay16]
  blk_point [iblk, idxw t]

end Cert.KernelATIdeal.RefValue

end
-- ==== Proof.ATClaims.lean ====
/- The band attention: the claims of its programs. -/
module

public import proofs.«01_k».proof.Defs
public import proofs.«01_k».proof.Proof.Gen.KernelAT.Frame
public import proofs.«01_k».proof.Proof.Gen.ReferenceATIdeal.Run
public import proofs.«01_k».proof.Proof.Finite
public import proofs.«01_k».proof.Proof.Gen.Pre_finite_scores
public import proofs.«01_k».proof.Proof.ATValue
public import Idealize.ShloMosaic.Lib.Claim

@[expose] public section

set_option maxRecDepth 16384

noncomputable section

namespace Cert.Proof

open Idealize.ShloMosaic Idealize.ShloMosaic.TcCoe Idealize.SL.Sem

theorem frame_KernelAT : Cert.quiescent_KernelAT := fun m ρ _ => Cert.KernelAT.Gen.frame m ρ

theorem frame_KernelATIdeal : Cert.quiescent_KernelATIdeal := fun m ρ _ => Cert.KernelATIdeal.Gen.frame m ρ

theorem frame_ReferenceATIdeal : Cert.quiescent_ReferenceATIdeal := fun m ρ _ =>
  (θ_run Cert.ReferenceATIdeal.defs _ _).mono
    (fun r h => ⟨fun c => (h c).2.2.2.2.2.2.2, Idealize.ShloMosaic.sem_eq_zero_of_no_sems (by decide) r.2⟩)
    (Cert.ReferenceATIdeal.Value.run m ρ)

theorem frame_KernelATIdeal_pre : Cert.quiescent_KernelATIdeal_pre_finite_scores := fun m ρ _ => frame_KernelATIdeal m ρ trivial

theorem frame_ReferenceATIdeal_pre : Cert.quiescent_ReferenceATIdeal_pre_finite_scores := fun m ρ _ => frame_ReferenceATIdeal m ρ trivial

theorem preserves_AT : Cert.preserves_KernelAT_KernelATIdeal :=
  ⟨IdealRules.named_const.statement Cert.KernelATIdeal.κ "mask" .f32 0xF149F2CA#32 _ rfl,
    IdealRules.named_const.statement Cert.KernelATIdeal.κ "scale" .f32 0x3DB504F3#32 _ rfl⟩

/-- Queries and keys are finite. -/
theorem finite_qk (m : (ℓ : Loc Cert.KernelATIdeal.nD Cert.KernelATIdeal.τ Cert.KernelATIdeal.sig) → Buf (Elt Ideal) ℓ)
    (hpre : Cert.Pre_KernelATIdeal_finite_scores m) (c : Dev Cert.KernelATIdeal.nD) (i : Fin 8192) (l : Fin 3072) (hl : (l : ℕ) < 2048) :
    m ((c.tc : Thread Cert.KernelATIdeal.nD Cert.KernelATIdeal.τ).loc Cert.KernelATIdeal.main_arg0) (ix2 i l) ≠ (⊤ : EReal)
      ∧ m ((c.tc : Thread Cert.KernelATIdeal.nD Cert.KernelATIdeal.τ).loc Cert.KernelATIdeal.main_arg0) (ix2 i l) ≠ (⊥ : EReal) := by
  have h := congrFun (hpre c).1 (ix2 i ⟨l, hl⟩)
  pointwise [Cert.Pre_finite_scores.fn] at h
  exact Cert.Finite.of_lt _ h

/-- The biases are finite. -/
theorem finite_bias (m : (ℓ : Loc Cert.KernelATIdeal.nD Cert.KernelATIdeal.τ Cert.KernelATIdeal.sig) → Buf (Elt Ideal) ℓ)
    (hpre : Cert.Pre_KernelATIdeal_finite_scores m) (c : Dev Cert.KernelATIdeal.nD) (i) :
    m ((c.tc : Thread Cert.KernelATIdeal.nD Cert.KernelATIdeal.τ).loc Cert.KernelATIdeal.main_arg1) i ≠ (⊤ : EReal)
      ∧ m ((c.tc : Thread Cert.KernelATIdeal.nD Cert.KernelATIdeal.τ).loc Cert.KernelATIdeal.main_arg1) i ≠ (⊥ : EReal) := by
  have h := congrFun (hpre c).2 i
  pointwise [Cert.Pre_finite_scores.fn] at h
  exact Cert.Finite.of_lt _ h

/-- A stacked matrix of weights, unstacked and cast. -/
def cast1024 (A : FVec Ideal Cert.KernelATIdeal.S1x1024x2048 .f32) : FVec Ideal Cert.KernelATIdeal.S1024x2048 .bf16 :=
  truncf .bf16 (shapeCast Cert.KernelATIdeal.S1024x2048 A Cert.KernelATIdeal.Gen.shapeCasts_S1x1024x2048_S1024x2048) Cert.KernelATIdeal.Gen.bitsLt_bf16_f32

/-- A stacked matrix of weights, unstacked and cast. -/
def cast2048 (A : FVec Ideal Cert.KernelATIdeal.S1x2048x2048 .f32) : FVec Ideal Cert.KernelATIdeal.S2048x2048 .bf16 :=
  truncf .bf16 (shapeCast Cert.KernelATIdeal.S2048x2048 A Cert.KernelATIdeal.Gen.shapeCasts_S1x2048x2048_S2048x2048) Cert.KernelATIdeal.Gen.bitsLt_bf16_f32

theorem algebraic_AT : Cert.algebraic_KernelATIdeal_ReferenceATIdeal_pre_finite_scores := by
  intro m g m' g' hpre hagree
  refine ⟨fun c => Cert.ReferenceATIdeal.RefValue.REF (m ((c.tc : Thread _ _).loc Cert.KernelATIdeal.main_arg0)) (m ((c.tc : Thread _ _).loc Cert.KernelATIdeal.main_arg1)),
    fun c => cast1024 (m ((c.tc : Thread _ _).loc Cert.KernelATIdeal.main_arg2)), fun c => cast1024 (m ((c.tc : Thread _ _).loc Cert.KernelATIdeal.main_arg3)),
    fun c => cast2048 (m ((c.tc : Thread _ _).loc Cert.KernelATIdeal.main_arg4)), fun c => cast2048 (m ((c.tc : Thread _ _).loc Cert.KernelATIdeal.main_arg5)),
    fun c => cast2048 (m ((c.tc : Thread _ _).loc Cert.KernelATIdeal.main_arg6)), fun c => cast2048 (m ((c.tc : Thread _ _).loc Cert.KernelATIdeal.main_arg7)), ?_, ?_⟩
  · refine θ_run_mono (θ_run_and (Cert.KernelATIdeal.Gen.run_main m g) (Cert.KernelATIdeal.Gen.unchanged m g)) fun r h c => ?_
    have hw := (h.1 c).1
    exact ⟨(hw 14).trans (Cert.KernelATIdeal.RefValue.final14 m c (finite_qk m hpre c) (finite_bias m hpre c)),
      (hw 15).trans (Cert.KernelATIdeal.RefValue.final15 m c), (hw 16).trans (Cert.KernelATIdeal.RefValue.final16 m c),
      (hw 17).trans (Cert.KernelATIdeal.RefValue.final17 m c), (hw 18).trans (Cert.KernelATIdeal.RefValue.final18 m c),
      (hw 19).trans (Cert.KernelATIdeal.RefValue.final19 m c), (hw 20).trans (Cert.KernelATIdeal.RefValue.final20 m c), h.2 c⟩
  · refine θ_run_mono (Cert.ReferenceATIdeal.Value.run m' g') fun r h c => ?_
    obtain ⟨a0, a1, a2, a3, a4, a5, a6, a7⟩ := hagree c
    obtain ⟨h0, h1, h2, h3, h4, h5, h6, hargs⟩ := h c
    exact ⟨h0.trans ((Cert.ReferenceATIdeal.RefValue.res_eq m' c).trans (congrArg₂ Cert.ReferenceATIdeal.RefValue.REF a0 a1)),
      h1.trans (congrArg cast1024 a2), h2.trans (congrArg cast1024 a3), h3.trans (congrArg cast2048 a4),
      h4.trans (congrArg cast2048 a5), h5.trans (congrArg cast2048 a6), h6.trans (congrArg cast2048 a7), hargs⟩

end Cert.Proof

end
-- ==== Proof.lean ====
/- The certificate: the claims of each program, put together. -/
module

public import proofs.«01_k».proof.Defs
public import proofs.«01_k».proof.Proof.RPClaims
public import proofs.«01_k».proof.Proof.IPClaims
public import proofs.«01_k».proof.Proof.SGClaims
public import proofs.«01_k».proof.Proof.CAClaims
public import proofs.«01_k».proof.Proof.RMClaims
public import proofs.«01_k».proof.Proof.ATClaims

@[expose] public section

noncomputable section

namespace Cert.Proof

theorem claim : Cert.Claim :=
  ⟨Cert.KernelRP.Gen.facts,
    Cert.KernelRPIdeal.Gen.facts,
    Cert.ReferenceRPIdeal.Gen.facts,
    Cert.KernelIP.Gen.facts,
    Cert.KernelIPIdeal.Gen.facts,
    Cert.ReferenceIPIdeal.Gen.facts,
    Cert.KernelSG.Gen.facts,
    Cert.KernelSGIdeal.Gen.facts,
    Cert.ReferenceSGIdeal.Gen.facts,
    Cert.KernelCA.Gen.facts,
    Cert.KernelCAIdeal.Gen.facts,
    Cert.ReferenceCAIdeal.Gen.facts,
    Cert.KernelRM.Gen.facts,
    Cert.KernelRMIdeal.Gen.facts,
    Cert.ReferenceRMIdeal.Gen.facts,
    Cert.KernelAT.Gen.facts,
    Cert.KernelATIdeal.Gen.facts,
    Cert.ReferenceATIdeal.Gen.facts,
    Cert.Pre_finite_memory.Gen.facts,
    Cert.Pre_finite_scores.Gen.facts,
    frame_KernelRP,
    frame_KernelRPIdeal,
    frame_ReferenceRPIdeal,
    frame_KernelIP,
    frame_KernelIPIdeal,
    frame_ReferenceIPIdeal,
    frame_KernelSG,
    frame_KernelSGIdeal,
    frame_ReferenceSGIdeal,
    frame_KernelCA,
    frame_KernelCAIdeal,
    frame_KernelCAIdeal_pre,
    frame_ReferenceCAIdeal,
    frame_ReferenceCAIdeal_pre,
    frame_KernelRM,
    frame_KernelRMIdeal,
    frame_ReferenceRMIdeal,
    frame_KernelAT,
    frame_KernelATIdeal,
    frame_KernelATIdeal_pre,
    frame_ReferenceATIdeal,
    frame_ReferenceATIdeal_pre,
    preserves_RP,
    algebraic_RP,
    preserves_IP,
    algebraic_IP,
    preserves_SG,
    algebraic_SG,
    preserves_CA,
    algebraic_CA,
    preserves_RM,
    algebraic_RM,
    preserves_AT,
    algebraic_AT⟩

end Cert.Proof

end
